-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attention_inputs [hPre_attention_inputs : Cert.Pre_attention_inputs.Facts] (m : (ℓ : Loc Cert.AttnIdeal.nD Cert.AttnIdeal.τ Cert.AttnIdeal.sig) → Buf (Elt Ideal) ℓ) : Prop :=
  ∀ c : Dev Cert.AttnIdeal.nD,
    (Cert.Pre_attention_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_attention_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_attention_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_attention_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.1 = (fun _ => 1#1)
    ∧ (Cert.Pre_attention_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.1 = (fun _ => 1#1)
    ∧ (Cert.Pre_attention_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.2.1 = (fun _ => 1#1)
    ∧ (Cert.Pre_attention_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attention_inputs [hPre_attention_inputs : Cert.Pre_attention_inputs.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attention_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_attention_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_attention_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_attention_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.1 = (fun _ => 1#1)
    ∧ (Cert.Pre_attention_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.1 = (fun _ => 1#1)
    ∧ (Cert.Pre_attention_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.2.1 = (fun _ => 1#1)
    ∧ (Cert.Pre_attention_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_attention_inputs [hAttnIdeal : Cert.AttnIdeal.Facts] [hPre_attention_inputs : Cert.Pre_attention_inputs.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attention_inputs m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_attention_inputs [hAttnRefIdeal : Cert.AttnRefIdeal.Facts] [hPre_attention_inputs : Cert.Pre_attention_inputs.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attention_inputs m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_attention_inputs [hAttnIdeal : Cert.AttnIdeal.Facts] [hAttnRefIdeal : Cert.AttnRefIdeal.Facts] [hPre_attention_inputs : Cert.Pre_attention_inputs.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attention_inputs m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v1) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v109) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v24) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v29) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v8) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v14) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v5) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v18_0)) (v1 : (c : Dev Cert.RopeIdeal.nD) → Buf (Elt Ideal) ((c.tc : Thread Cert.RopeIdeal.nD Cert.RopeIdeal.τ).loc Cert.RopeIdeal.main_v18_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v18_0) = v0 c
          ∧ r.2.mem ((c.tc : Thread Cert.RopeIdeal.nD Cert.RopeIdeal.τ).loc Cert.RopeIdeal.main_v18_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v20) = v0 c
          ∧ r.2.mem ((c.tc : Thread Cert.RopeRefIdeal.nD Cert.RopeRefIdeal.τ).loc Cert.RopeRefIdeal.main_v23) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)) →
    ∃ (v0 : (c : Dev Cert.ConvIdeal.nD) → Buf (Elt Ideal) ((c.tc : Thread Cert.ConvIdeal.nD Cert.ConvIdeal.τ).loc Cert.ConvIdeal.main_v3)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v3) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v258) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hFinalNorm : Cert.FinalNorm.Facts) (hFinalNormIdeal : Cert.FinalNormIdeal.Facts) (hFinalNormRefIdeal : Cert.FinalNormRefIdeal.Facts) (hAda : Cert.Ada.Facts) (hAdaIdeal : Cert.AdaIdeal.Facts) (hAdaRefIdeal : Cert.AdaRefIdeal.Facts) (hRope : Cert.Rope.Facts) (hRopeIdeal : Cert.RopeIdeal.Facts) (hRopeRefIdeal : Cert.RopeRefIdeal.Facts) (hConv : Cert.Conv.Facts) (hConvIdeal : Cert.ConvIdeal.Facts) (hConvRefIdeal : Cert.ConvRefIdeal.Facts) (hPre_attention_inputs : Cert.Pre_attention_inputs.Facts),
    quiescent_Attn (hAttn := hAttn)
    ∧ quiescent_AttnIdeal (hAttnIdeal := hAttnIdeal)
    ∧ quiescent_AttnIdeal_pre_attention_inputs (hAttnIdeal := hAttnIdeal) (hPre_attention_inputs := hPre_attention_inputs)
    ∧ quiescent_AttnRefIdeal (hAttnRefIdeal := hAttnRefIdeal)
    ∧ quiescent_AttnRefIdeal_pre_attention_inputs (hAttnRefIdeal := hAttnRefIdeal) (hPre_attention_inputs := hPre_attention_inputs)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_Ada (hAda := hAda)
    ∧ quiescent_AdaIdeal (hAdaIdeal := hAdaIdeal)
    ∧ quiescent_AdaRefIdeal (hAdaRefIdeal := hAdaRefIdeal)
    ∧ quiescent_Rope (hRope := hRope)
    ∧ quiescent_RopeIdeal (hRopeIdeal := hRopeIdeal)
    ∧ quiescent_RopeRefIdeal (hRopeRefIdeal := hRopeRefIdeal)
    ∧ quiescent_Conv (hConv := hConv)
    ∧ quiescent_ConvIdeal (hConvIdeal := hConvIdeal)
    ∧ quiescent_ConvRefIdeal (hConvRefIdeal := hConvRefIdeal)
    ∧ preserves_Attn_AttnIdeal
    ∧ algebraic_AttnIdeal_AttnRefIdeal_pre_attention_inputs (hAttnIdeal := hAttnIdeal) (hAttnRefIdeal := hAttnRefIdeal) (hPre_attention_inputs := hPre_attention_inputs)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_Ada_AdaIdeal
    ∧ algebraic_AdaIdeal_AdaRefIdeal (hAdaIdeal := hAdaIdeal) (hAdaRefIdeal := hAdaRefIdeal)
    ∧ preserves_Rope_RopeIdeal
    ∧ algebraic_RopeIdeal_RopeRefIdeal (hRopeIdeal := hRopeIdeal) (hRopeRefIdeal := hRopeRefIdeal)
    ∧ preserves_Conv_ConvIdeal
    ∧ algebraic_ConvIdeal_ConvRefIdeal (hConvIdeal := hConvIdeal) (hConvRefIdeal := hConvRefIdeal)
-- ==== Pre_attention_inputs.lean ====
abbrev S32768x15360 : Shape := ⟨2, ![32768, 15360]⟩
abbrev S8x4096x128 : Shape := ⟨3, ![8, 4096, 128]⟩
abbrev S4x64 : Shape := ⟨2, ![4, 64]⟩
abbrev S128 : Shape := ⟨1, ![128]⟩
abbrev S1 : Shape := ⟨1, ![1]⟩
abbrev S8x4096x8 : Shape := ⟨3, ![8, 4096, 8]⟩
abbrev S_ : Shape := ⟨0, ![]⟩
abbrev S8x4096x48 : Shape := ⟨3, ![8, 4096, 48]⟩
abbrev S32768x3072 : Shape := ⟨2, ![32768, 3072]⟩

class Facts : Prop where
  slices_S8x4096x128_S8x4096x8_0_0_0 : S8x4096x128.Slices ![0, 0, 0] S8x4096x8
  slices_S8x4096x128_S8x4096x8_0_0_8 : S8x4096x128.Slices ![0, 0, 8] S8x4096x8
  bcast_S_S8x4096x48 : S_.BroadcastsInDim S8x4096x48 (![] : Fin 0 → Fin S8x4096x48.rank)
  slices_S32768x15360_S32768x3072_0_2048 : S32768x15360.Slices ![0, 2048] S32768x3072
  bitsLt_bf16_f32 : FTy.bits .bf16 < FTy.bits .f32
  bcast_S_S32768x3072 : S_.BroadcastsInDim S32768x3072 (![] : Fin 0 → Fin S32768x3072.rank)
  bcast_S_S8x4096x128 : S_.BroadcastsInDim S8x4096x128 (![] : Fin 0 → Fin S8x4096x128.rank)
  bcast_S_S4x64 : S_.BroadcastsInDim S4x64 (![] : Fin 0 → Fin S4x64.rank)
  bcast_S_S1 : S_.BroadcastsInDim S1 (![] : Fin 0 → Fin S1.rank)
  concatenates_S8x4096x8_S8x4096x8_S8x4096x48_S8x4096x8_S8x4096x8_S8x4096x48_S8x4096x128_d2 : Shape.Concatenates [S8x4096x8, S8x4096x8, S8x4096x48, S8x4096x8, S8x4096x8, S8x4096x48] S8x4096x128 2

variable [Facts]

def fn_part1 {F : FTy → Type} [FloatOps F] (main_arg1 : FVec F S8x4096x128 .f32) (main_arg2 : FVec F S8x4096x128 .f32) (main_arg5 : FVec F S1 .f32) (main_v0 : FVec F S8x4096x8 .f32) (main_v1 : FVec F S8x4096x8 .f32) (main_v2 : FVec F S8x4096x48 .f32) (main_v3 : FVec F S8x4096x48 .f32) (main_v8 : IVec S32768x3072 1) (main_v11 : IVec S8x4096x128 1) (main_v14 : IVec S8x4096x128 1) (main_v17 : IVec S4x64 1) : IVec S32768x3072 1 × IVec S8x4096x128 1 × IVec S8x4096x128 1 × IVec S4x64 1 × IVec S1 1 × IVec S8x4096x128 1 × IVec S8x4096x128 1 :=
  let main_v18 : FVec F S1 .f32 := Host.absf main_arg5
  let main_cst_5 : FVec F S_ .f32 := constant S_ .f32 0x7F800000#32
  let main_v19 : FVec F S1 .f32 := broadcastInDim S1 ![] bcast_S_S1 main_cst_5
  let main_v20 : IVec S1 1 := cmpf .olt main_v18 main_v19
  let main_v21 : FVec F S8x4096x128 .f32 := concatenate S8x4096x128 2 [⟨S8x4096x8, main_v0⟩, ⟨S8x4096x8, main_v0⟩, ⟨S8x4096x48, main_v2⟩, ⟨S8x4096x8, main_v0⟩, ⟨S8x4096x8, main_v0⟩, ⟨S8x4096x48, main_v2⟩] concatenates_S8x4096x8_S8x4096x8_S8x4096x48_S8x4096x8_S8x4096x8_S8x4096x48_S8x4096x128_d2
  let main_v22 : IVec S8x4096x128 1 := cmpf .oeq main_arg1 main_v21
  let main_v23 : FVec F S8x4096x8 .f32 := Host.negf main_v1
  let main_v24 : FVec F S8x4096x8 .f32 := Host.negf main_v1
  let main_v25 : FVec F S8x4096x128 .f32 := concatenate S8x4096x128 2 [⟨S8x4096x8, main_v23⟩, ⟨S8x4096x8, main_v1⟩, ⟨S8x4096x48, main_v3⟩, ⟨S8x4096x8, main_v24⟩, ⟨S8x4096x8, main_v1⟩, ⟨S8x4096x48, main_v3⟩] concatenates_S8x4096x8_S8x4096x8_S8x4096x48_S8x4096x8_S8x4096x8_S8x4096x48_S8x4096x128_d2
  let main_v26 : IVec S8x4096x128 1 := cmpf .oeq main_arg2 main_v25
  (main_v8, main_v11, main_v14, main_v17, main_v20, main_v22, main_v26)

def fn {F : FTy → Type} [FloatOps F] (main_arg0 : FVec F S32768x15360 .bf16) (main_arg1 : FVec F S8x4096x128 .f32) (main_arg2 : FVec F S8x4096x128 .f32) (main_arg3 : FVec F S4x64 .f32) (main_arg4 : FVec F S128 .f32) (main_arg5 : FVec F S1 .f32) : IVec S32768x3072 1 × IVec S8x4096x128 1 × IVec S8x4096x128 1 × IVec S4x64 1 × IVec S1 1 × IVec S8x4096x128 1 × IVec S8x4096x128 1 :=
  let main_v0 : FVec F S8x4096x8 .f32 := (extractStridedSlice S8x4096x8 ![0, 0, 0] · slices_S8x4096x128_S8x4096x8_0_0_0) main_arg1
  let main_v1 : FVec F S8x4096x8 .f32 := (extractStridedSlice S8x4096x8 ![0, 0, 8] · slices_S8x4096x128_S8x4096x8_0_0_8) main_arg2
  let main_cst : FVec F S_ .f32 := constant S_ .f32 0x3F800000#32
  let main_v2 : FVec F S8x4096x48 .f32 := broadcastInDim S8x4096x48 ![] bcast_S_S8x4096x48 main_cst
  let main_cst_0 : FVec F S_ .f32 := constant S_ .f32 0x00000000#32
  let main_v3 : FVec F S8x4096x48 .f32 := broadcastInDim S8x4096x48 ![] bcast_S_S8x4096x48 main_cst_0
  let main_v4 : FVec F S32768x3072 .bf16 := (extractStridedSlice S32768x3072 ![0, 2048] · slices_S32768x15360_S32768x3072_0_2048) main_arg0
  let main_v5 : FVec F S32768x3072 .f32 := (extf .f32 · bitsLt_bf16_f32) main_v4
  let main_v6 : FVec F S32768x3072 .f32 := Host.absf main_v5
  let main_cst_1 : FVec F S_ .f32 := constant S_ .f32 0x7F800000#32
  let main_v7 : FVec F S32768x3072 .f32 := broadcastInDim S32768x3072 ![] bcast_S_S32768x3072 main_cst_1
  let main_v8 : IVec S32768x3072 1 := cmpf .olt main_v6 main_v7
  let main_v9 : FVec F S8x4096x128 .f32 := Host.absf main_arg1
  let main_cst_2 : FVec F S_ .f32 := constant S_ .f32 0x7F800000#32
  let main_v10 : FVec F S8x4096x128 .f32 := broadcastInDim S8x4096x128 ![] bcast_S_S8x4096x128 main_cst_2
  let main_v11 : IVec S8x4096x128 1 := cmpf .olt main_v9 main_v10
  let main_v12 : FVec F S8x4096x128 .f32 := Host.absf main_arg2
  let main_cst_3 : FVec F S_ .f32 := constant S_ .f32 0x7F800000#32
  let main_v13 : FVec F S8x4096x128 .f32 := broadcastInDim S8x4096x128 ![] bcast_S_S8x4096x128 main_cst_3
  let main_v14 : IVec S8x4096x128 1 := cmpf .olt main_v12 main_v13
  let main_v15 : FVec F S4x64 .f32 := Host.absf main_arg3
  let main_cst_4 : FVec F S_ .f32 := constant S_ .f32 0x7F800000#32
  let main_v16 : FVec F S4x64 .f32 := broadcastInDim S4x64 ![] bcast_S_S4x64 main_cst_4
  let main_v17 : IVec S4x64 1 := cmpf .olt main_v15 main_v16
  fn_part1 (F := F) main_arg1 main_arg2 main_arg5 main_v0 main_v1 main_v2 main_v3 main_v8 main_v11 main_v14 main_v17
-- ==== Attn.lean ====
abbrev S32768x15360 : Shape := ⟨2, ![32768, 15360]⟩
abbrev S8x4096x128 : Shape := ⟨3, ![8, 4096, 128]⟩
abbrev S4x64 : Shape := ⟨2, ![4, 64]⟩
abbrev S128 : Shape := ⟨1, ![128]⟩
abbrev S1 : Shape := ⟨1, ![1]⟩
abbrev S1x128 : Shape := ⟨2, ![1, 128]⟩
abbrev S32768x1024 : Shape := ⟨2, ![32768, 1024]⟩
abbrev S512x128 : Shape := ⟨2, ![512, 128]⟩
abbrev S4096x128 : Shape := ⟨2, ![4096, 128]⟩
abbrev S1x512x128 : Shape := ⟨3, ![1, 512, 128]⟩
abbrev S1x4096x128 : Shape := ⟨3, ![1, 4096, 128]⟩
abbrev S4096x256 : Shape := ⟨2, ![4096, 256]⟩
abbrev S2x512x256 : Shape := ⟨3, ![2, 512, 256]⟩
abbrev S2x512x1 : Shape := ⟨3, ![2, 512, 1]⟩
abbrev S512x256 : Shape := ⟨2, ![512, 256]⟩
abbrev S512x512 : Shape := ⟨2, ![512, 512]⟩
abbrev S1x512x1 : Shape := ⟨3, ![1, 512, 1]⟩
abbrev S512x1 : Shape := ⟨2, ![512, 1]⟩
abbrev S512 : Shape := ⟨1, ![512]⟩
abbrev S1x512x256 : Shape := ⟨3, ![1, 512, 256]⟩
abbrev S1x64 : Shape := ⟨2, ![1, 64]⟩
abbrev S1x1 : Shape := ⟨2, ![1, 1]⟩

abbrev nBuf : Space → Nat
  | .hbm => 8
  | .vmem => 22
  | .smem => 1
  | _ => 0

abbrev bufTy : (tb : Table) → Fin (tcTables nBuf tb) → BufTy
  | .hbm, ⟨0, _⟩ => ⟨S32768x15360, .bf16⟩
  | .hbm, ⟨1, _⟩ => ⟨S8x4096x128, .f32⟩
  | .hbm, ⟨2, _⟩ => ⟨S8x4096x128, .f32⟩
  | .hbm, ⟨3, _⟩ => ⟨S4x64, .f32⟩
  | .hbm, ⟨4, _⟩ => ⟨S128, .f32⟩
  | .hbm, ⟨5, _⟩ => ⟨S1, .f32⟩
  | .hbm, ⟨6, _⟩ => ⟨S1x128, .f32⟩
  | .hbm, ⟨7, _⟩ => ⟨S32768x1024, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x4096x128, .f32⟩
  | .local _ .vmem, ⟨11, _⟩ => ⟨S1x4096x128, .f32⟩
  | .local _ .vmem, ⟨12, _⟩ => ⟨S1x4096x128, .f32⟩
  | .local _ .vmem, ⟨13, _⟩ => ⟨S1x4096x128, .f32⟩
  | .local _ .vmem, ⟨14, _⟩ => ⟨S4x64, .f32⟩
  | .local _ .vmem, ⟨15, _⟩ => ⟨S1x128, .f32⟩
  | .local _ .vmem, ⟨16, _⟩ => ⟨S512x128, .bf16⟩
  | .local _ .vmem, ⟨17, _⟩ => ⟨S512x128, .bf16⟩
  | .local _ .vmem, ⟨18, _⟩ => ⟨S4096x128, .bf16⟩
  | .local _ .vmem, ⟨19, _⟩ => ⟨S4096x256, .bf16⟩
  | .local _ .vmem, ⟨20, _⟩ => ⟨S2x512x256, .f32⟩
  | .local _ .vmem, ⟨21, _⟩ => ⟨S2x512x1, .f32⟩
  | .local _ .smem, ⟨0, _⟩ => ⟨S1, .f32⟩
  | _, _ => ⟨S32768x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨3, ![8, 8, 8], ![false, false, false]⟩

@[reducible] def k0_t1_loop (i : grid0.Coords) : Scf.Loop 32 :=
  let c0_i32_33 : BitVec 32 := 0#32
  let arg2 : BitVec 32 := BitVec.ofNat 32 (i 2).val
  let c512_i32 : BitVec 32 := 512#32
  let v55 : BitVec 32 := Scalar.muli arg2 c512_i32
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c512_i32_25 : BitVec 32 := 512#32
  let c0_i32_28 : BitVec 32 := 0#32
  let v62 : BitVec 1 := Scalar.cmpi .sgt c512_i32_25 c0_i32_28
  let v63 : BitVec 32 := Scalar.extui v62
  let c0_i32_29 : BitVec 32 := 0#32
  let v64 : BitVec 1 := Scalar.cmpi .slt c512_i32_25 c0_i32_29
  let v65 : BitVec 32 := Scalar.extui v64
  let v66 : BitVec 32 := Scalar.subi v63 v65
  let v67 : BitVec 1 := Scalar.cmpi .ne v61 v66
  let v68 : BitVec 32 := Scalar.remsi v55 c512_i32_25
  let c0_i32_30 : BitVec 32 := 0#32
  let v69 : BitVec 1 := Scalar.cmpi .ne v68 c0_i32_30
  let v70 : BitVec 1 := Scalar.andi v67 v69
  let v56 : BitVec 32 := Scalar.divsi v55 c512_i32_25
  let c1_i32_31 : BitVec 32 := 1#32
  let v71 : BitVec 32 := Scalar.subi v56 c1_i32_31
  let v72 : BitVec 32 := Scalar.select v70 v71 v56
  let v73 : BitVec 32 := Scalar.subi v72 c0_i32_33
  let c1_i32_34 : BitVec 32 := 1#32
  let v75 : BitVec 32 := Scalar.divsi v73 c1_i32_34
  let v76 : BitVec 32 := Scalar.muli v75 c1_i32_34
  let v77 : BitVec 32 := Scalar.addi c0_i32_33 v76
  let c1_i32_35 : BitVec 32 := 1#32
  ⟨c0_i32_33, v77, c1_i32_35⟩
def k0_mult1 (i : grid0.Coords) (k0_t1 : Fin (k0_t1_loop i).trips) : BitVec 32 :=
  let c0_i32_33 : BitVec 32 := 0#32
  let c1_i32_35 : BitVec 32 := 1#32
  let arg18 : BitVec 32 := Scf.iv c0_i32_33 c1_i32_35 k0_t1
  let c512_i32_105 : BitVec 32 := 512#32
  let v243 : BitVec 32 := Scalar.muli arg18 c512_i32_105
  v243
def k0_off1 (i : grid0.Coords) (k0_t1 : Fin (k0_t1_loop i).trips) : Fin 2 → Nat :=
  let c0_i32_33 : BitVec 32 := 0#32
  let c1_i32_35 : BitVec 32 := 1#32
  let arg18 : BitVec 32 := Scf.iv c0_i32_33 c1_i32_35 k0_t1
  let c512_i32_105 : BitVec 32 := 512#32
  let v243 : BitVec 32 := Scalar.muli arg18 c512_i32_105
  let v244 : BitVec 32 := v243
  let v245 : Index := Scalar.indexCast v244
  let c0_106 : Index := 0#32
  ![v245.toNat, 0]
def k0_off2 (i : grid0.Coords) (k0_t1 : Fin (k0_t1_loop i).trips) : Fin 2 → Nat :=
  let c0_i32_33 : BitVec 32 := 0#32
  let c1_i32_35 : BitVec 32 := 1#32
  let arg18 : BitVec 32 := Scf.iv c0_i32_33 c1_i32_35 k0_t1
  let c512_i32_105 : BitVec 32 := 512#32
  let v243 : BitVec 32 := Scalar.muli arg18 c512_i32_105
  let v244 : BitVec 32 := v243
  let v247 : Index := Scalar.indexCast v244
  let c0_107 : Index := 0#32
  ![v247.toNat, 0]
@[reducible] def k0_t2_loop (i : grid0.Coords) : Scf.Loop 32 :=
  let c0_i32_33 : BitVec 32 := 0#32
  let arg2 : BitVec 32 := BitVec.ofNat 32 (i 2).val
  let c512_i32 : BitVec 32 := 512#32
  let v55 : BitVec 32 := Scalar.muli arg2 c512_i32
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c512_i32_25 : BitVec 32 := 512#32
  let c0_i32_28 : BitVec 32 := 0#32
  let v62 : BitVec 1 := Scalar.cmpi .sgt c512_i32_25 c0_i32_28
  let v63 : BitVec 32 := Scalar.extui v62
  let c0_i32_29 : BitVec 32 := 0#32
  let v64 : BitVec 1 := Scalar.cmpi .slt c512_i32_25 c0_i32_29
  let v65 : BitVec 32 := Scalar.extui v64
  let v66 : BitVec 32 := Scalar.subi v63 v65
  let v67 : BitVec 1 := Scalar.cmpi .ne v61 v66
  let v68 : BitVec 32 := Scalar.remsi v55 c512_i32_25
  let c0_i32_30 : BitVec 32 := 0#32
  let v69 : BitVec 1 := Scalar.cmpi .ne v68 c0_i32_30
  let v70 : BitVec 1 := Scalar.andi v67 v69
  let v56 : BitVec 32 := Scalar.divsi v55 c512_i32_25
  let c1_i32_31 : BitVec 32 := 1#32
  let v71 : BitVec 32 := Scalar.subi v56 c1_i32_31
  let v72 : BitVec 32 := Scalar.select v70 v71 v56
  let v73 : BitVec 32 := Scalar.subi v72 c0_i32_33
  let c1_i32_34 : BitVec 32 := 1#32
  let v75 : BitVec 32 := Scalar.divsi v73 c1_i32_34
  let v76 : BitVec 32 := Scalar.muli v75 c1_i32_34
  let v77 : BitVec 32 := Scalar.addi c0_i32_33 v76
  let v74 : BitVec 32 := Scalar.addi c0_i32_33 v73
  let c1_i32_36 : BitVec 32 := 1#32
  ⟨v77, v74, c1_i32_36⟩
def k0_mult2 (i : grid0.Coords) (k0_t2 : Fin (k0_t2_loop i).trips) : BitVec 32 :=
  let c0_i32_33 : BitVec 32 := 0#32
  let arg2 : BitVec 32 := BitVec.ofNat 32 (i 2).val
  let c512_i32 : BitVec 32 := 512#32
  let v55 : BitVec 32 := Scalar.muli arg2 c512_i32
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c512_i32_25 : BitVec 32 := 512#32
  let c0_i32_28 : BitVec 32 := 0#32
  let v62 : BitVec 1 := Scalar.cmpi .sgt c512_i32_25 c0_i32_28
  let v63 : BitVec 32 := Scalar.extui v62
  let c0_i32_29 : BitVec 32 := 0#32
  let v64 : BitVec 1 := Scalar.cmpi .slt c512_i32_25 c0_i32_29
  let v65 : BitVec 32 := Scalar.extui v64
  let v66 : BitVec 32 := Scalar.subi v63 v65
  let v67 : BitVec 1 := Scalar.cmpi .ne v61 v66
  let v68 : BitVec 32 := Scalar.remsi v55 c512_i32_25
  let c0_i32_30 : BitVec 32 := 0#32
  let v69 : BitVec 1 := Scalar.cmpi .ne v68 c0_i32_30
  let v70 : BitVec 1 := Scalar.andi v67 v69
  let v56 : BitVec 32 := Scalar.divsi v55 c512_i32_25
  let c1_i32_31 : BitVec 32 := 1#32
  let v71 : BitVec 32 := Scalar.subi v56 c1_i32_31
  let v72 : BitVec 32 := Scalar.select v70 v71 v56
  let v73 : BitVec 32 := Scalar.subi v72 c0_i32_33
  let c1_i32_34 : BitVec 32 := 1#32
  let v75 : BitVec 32 := Scalar.divsi v73 c1_i32_34
  let v76 : BitVec 32 := Scalar.muli v75 c1_i32_34
  let v77 : BitVec 32 := Scalar.addi c0_i32_33 v76
  let c1_i32_36 : BitVec 32 := 1#32
  let arg18 : BitVec 32 := Scf.iv v77 c1_i32_36 k0_t2
  let c512_i32_105 : BitVec 32 := 512#32
  let v243 : BitVec 32 := Scalar.muli arg18 c512_i32_105
  v243
def k0_off3 (i : grid0.Coords) (k0_t2 : Fin (k0_t2_loop i).trips) : Fin 2 → Nat :=
  let c0_i32_33 : BitVec 32 := 0#32
  let arg2 : BitVec 32 := BitVec.ofNat 32 (i 2).val
  let c512_i32 : BitVec 32 := 512#32
  let v55 : BitVec 32 := Scalar.muli arg2 c512_i32
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c512_i32_25 : BitVec 32 := 512#32
  let c0_i32_28 : BitVec 32 := 0#32
  let v62 : BitVec 1 := Scalar.cmpi .sgt c512_i32_25 c0_i32_28
  let v63 : BitVec 32 := Scalar.extui v62
  let c0_i32_29 : BitVec 32 := 0#32
  let v64 : BitVec 1 := Scalar.cmpi .slt c512_i32_25 c0_i32_29
  let v65 : BitVec 32 := Scalar.extui v64
  let v66 : BitVec 32 := Scalar.subi v63 v65
  let v67 : BitVec 1 := Scalar.cmpi .ne v61 v66
  let v68 : BitVec 32 := Scalar.remsi v55 c512_i32_25
  let c0_i32_30 : BitVec 32 := 0#32
  let v69 : BitVec 1 := Scalar.cmpi .ne v68 c0_i32_30
  let v70 : BitVec 1 := Scalar.andi v67 v69
  let v56 : BitVec 32 := Scalar.divsi v55 c512_i32_25
  let c1_i32_31 : BitVec 32 := 1#32
  let v71 : BitVec 32 := Scalar.subi v56 c1_i32_31
  let v72 : BitVec 32 := Scalar.select v70 v71 v56
  let v73 : BitVec 32 := Scalar.subi v72 c0_i32_33
  let c1_i32_34 : BitVec 32 := 1#32
  let v75 : BitVec 32 := Scalar.divsi v73 c1_i32_34
  let v76 : BitVec 32 := Scalar.muli v75 c1_i32_34
  let v77 : BitVec 32 := Scalar.addi c0_i32_33 v76
  let c1_i32_36 : BitVec 32 := 1#32
  let arg18 : BitVec 32 := Scf.iv v77 c1_i32_36 k0_t2
  let c512_i32_105 : BitVec 32 := 512#32
  let v243 : BitVec 32 := Scalar.muli arg18 c512_i32_105
  let v244 : BitVec 32 := v243
  let v245 : Index := Scalar.indexCast v244
  let c0_106 : Index := 0#32
  ![v245.toNat, 0]
def k0_off4 (i : grid0.Coords) (k0_t2 : Fin (k0_t2_loop i).trips) : Fin 2 → Nat :=
  let c0_i32_33 : BitVec 32 := 0#32
  let arg2 : BitVec 32 := BitVec.ofNat 32 (i 2).val
  let c512_i32 : BitVec 32 := 512#32
  let v55 : BitVec 32 := Scalar.muli arg2 c512_i32
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c512_i32_25 : BitVec 32 := 512#32
  let c0_i32_28 : BitVec 32 := 0#32
  let v62 : BitVec 1 := Scalar.cmpi .sgt c512_i32_25 c0_i32_28
  let v63 : BitVec 32 := Scalar.extui v62
  let c0_i32_29 : BitVec 32 := 0#32
  let v64 : BitVec 1 := Scalar.cmpi .slt c512_i32_25 c0_i32_29
  let v65 : BitVec 32 := Scalar.extui v64
  let v66 : BitVec 32 := Scalar.subi v63 v65
  let v67 : BitVec 1 := Scalar.cmpi .ne v61 v66
  let v68 : BitVec 32 := Scalar.remsi v55 c512_i32_25
  let c0_i32_30 : BitVec 32 := 0#32
  let v69 : BitVec 1 := Scalar.cmpi .ne v68 c0_i32_30
  let v70 : BitVec 1 := Scalar.andi v67 v69
  let v56 : BitVec 32 := Scalar.divsi v55 c512_i32_25
  let c1_i32_31 : BitVec 32 := 1#32
  let v71 : BitVec 32 := Scalar.subi v56 c1_i32_31
  let v72 : BitVec 32 := Scalar.select v70 v71 v56
  let v73 : BitVec 32 := Scalar.subi v72 c0_i32_33
  let c1_i32_34 : BitVec 32 := 1#32
  let v75 : BitVec 32 := Scalar.divsi v73 c1_i32_34
  let v76 : BitVec 32 := Scalar.muli v75 c1_i32_34
  let v77 : BitVec 32 := Scalar.addi c0_i32_33 v76
  let c1_i32_36 : BitVec 32 := 1#32
  let arg18 : BitVec 32 := Scf.iv v77 c1_i32_36 k0_t2
  let c512_i32_105 : BitVec 32 := 512#32
  let v243 : BitVec 32 := Scalar.muli arg18 c512_i32_105
  let v244 : BitVec 32 := v243
  let v247 : Index := Scalar.indexCast v244
  let c0_107 : Index := 0#32
  ![v247.toNat, 0]
def k0_mult3 (i : grid0.Coords) : BitVec 32 :=
  let arg2 : BitVec 32 := BitVec.ofNat 32 (i 2).val
  let c512_i32 : BitVec 32 := 512#32
  let v55 : BitVec 32 := Scalar.muli arg2 c512_i32
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c512_i32_25 : BitVec 32 := 512#32
  let c0_i32_28 : BitVec 32 := 0#32
  let v62 : BitVec 1 := Scalar.cmpi .sgt c512_i32_25 c0_i32_28
  let v63 : BitVec 32 := Scalar.extui v62
  let c0_i32_29 : BitVec 32 := 0#32
  let v64 : BitVec 1 := Scalar.cmpi .slt c512_i32_25 c0_i32_29
  let v65 : BitVec 32 := Scalar.extui v64
  let v66 : BitVec 32 := Scalar.subi v63 v65
  let v67 : BitVec 1 := Scalar.cmpi .ne v61 v66
  let v68 : BitVec 32 := Scalar.remsi v55 c512_i32_25
  let c0_i32_30 : BitVec 32 := 0#32
  let v69 : BitVec 1 := Scalar.cmpi .ne v68 c0_i32_30
  let v70 : BitVec 1 := Scalar.andi v67 v69
  let v56 : BitVec 32 := Scalar.divsi v55 c512_i32_25
  let c1_i32_31 : BitVec 32 := 1#32
  let v71 : BitVec 32 := Scalar.subi v56 c1_i32_31
  let v72 : BitVec 32 := Scalar.select v70 v71 v56
  let c512_i32_37 : BitVec 32 := 512#32
  let v78 : BitVec 32 := Scalar.muli v72 c512_i32_37
  v78
def k0_off5 (i : grid0.Coords) : Fin 2 → Nat :=
  let arg2 : BitVec 32 := BitVec.ofNat 32 (i 2).val
  let c512_i32 : BitVec 32 := 512#32
  let v55 : BitVec 32 := Scalar.muli arg2 c512_i32
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c512_i32_25 : BitVec 32 := 512#32
  let c0_i32_28 : BitVec 32 := 0#32
  let v62 : BitVec 1 := Scalar.cmpi .sgt c512_i32_25 c0_i32_28
  let v63 : BitVec 32 := Scalar.extui v62
  let c0_i32_29 : BitVec 32 := 0#32
  let v64 : BitVec 1 := Scalar.cmpi .slt c512_i32_25 c0_i32_29
  let v65 : BitVec 32 := Scalar.extui v64
  let v66 : BitVec 32 := Scalar.subi v63 v65
  let v67 : BitVec 1 := Scalar.cmpi .ne v61 v66
  let v68 : BitVec 32 := Scalar.remsi v55 c512_i32_25
  let c0_i32_30 : BitVec 32 := 0#32
  let v69 : BitVec 1 := Scalar.cmpi .ne v68 c0_i32_30
  let v70 : BitVec 1 := Scalar.andi v67 v69
  let v56 : BitVec 32 := Scalar.divsi v55 c512_i32_25
  let c1_i32_31 : BitVec 32 := 1#32
  let v71 : BitVec 32 := Scalar.subi v56 c1_i32_31
  let v72 : BitVec 32 := Scalar.select v70 v71 v56
  let c512_i32_37 : BitVec 32 := 512#32
  let v78 : BitVec 32 := Scalar.muli v72 c512_i32_37
  let v79 : BitVec 32 := v78
  let v80 : Index := Scalar.indexCast v79
  let c0_38 : Index := 0#32
  ![v80.toNat, 0]
def k0_off6 (i : grid0.Coords) : Fin 2 → Nat :=
  let arg2 : BitVec 32 := BitVec.ofNat 32 (i 2).val
  let c512_i32 : BitVec 32 := 512#32
  let v55 : BitVec 32 := Scalar.muli arg2 c512_i32
  let c0_i32_26 : BitVec 32 := 0#32
  let v57 : BitVec 1 := Scalar.cmpi .sgt v55 c0_i32_26
  let v58 : BitVec 32 := Scalar.extui v57
  let c0_i32_27 : BitVec 32 := 0#32
  let v59 : BitVec 1 := Scalar.cmpi .slt v55 c0_i32_27
  let v60 : BitVec 32 := Scalar.extui v59
  let v61 : BitVec 32 := Scalar.subi v58 v60
  let c512_i32_25 : BitVec 32 := 512#32
  let c0_i32_28 : BitVec 32 := 0#32
  let v62 : BitVec 1 := Scalar.cmpi .sgt c512_i32_25 c0_i32_28
  let v63 : BitVec 32 := Scalar.extui v62
  let c0_i32_29 : BitVec 32 := 0#32
  let v64 : BitVec 1 := Scalar.cmpi .slt c512_i32_25 c0_i32_29
  let v65 : BitVec 32 := Scalar.extui v64
  let v66 : BitVec 32 := Scalar.subi v63 v65
  let v67 : BitVec 1 := Scalar.cmpi .ne v61 v66
  let v68 : BitVec 32 := Scalar.remsi v55 c512_i32_25
  let c0_i32_30 : BitVec 32 := 0#32
  let v69 : BitVec 1 := Scalar.cmpi .ne v68 c0_i32_30
  let v70 : BitVec 1 := Scalar.andi v67 v69
  let v56 : BitVec 32 := Scalar.divsi v55 c512_i32_25
  let c1_i32_31 : BitVec 32 := 1#32
  let v71 : BitVec 32 := Scalar.subi v56 c1_i32_31
  let v72 : BitVec 32 := Scalar.select v70 v71 v56
  let c512_i32_37 : BitVec 32 := 512#32
  let v78 : BitVec 32 := Scalar.muli v72 c512_i32_37
  let v79 : BitVec 32 := v78
  let v82 : Index := Scalar.indexCast v79
  let c0_39 : Index := 0#32
  ![v82.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c16_i32 : BitVec 32 := 16#32
  let v2 : BitVec 32 := Scalar.addi c16_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg1
  let c0_i32 : BitVec 32 := 0#32
  ![arg0.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 1 → Memref sig .tc .vmem S4x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== AttnIdeal.lean ====
variable {F : FTy → Type} [FloatOps F] [Named F]
def κ : String → Option EReal := fun
  | "mask" => some ⊥
  | _ => none
-- ==== AttnRefIdeal.lean ====
abbrev S32768x15360 : Shape := ⟨2, ![32768, 15360]⟩
abbrev S8x4096x128 : Shape := ⟨3, ![8, 4096, 128]⟩
abbrev S4x64 : Shape := ⟨2, ![4, 64]⟩
abbrev S128 : Shape := ⟨1, ![128]⟩
abbrev S1 : Shape := ⟨1, ![1]⟩
abbrev S8x4096x8 : Shape := ⟨3, ![8, 4096, 8]⟩
abbrev S32768x1024 : Shape := ⟨2, ![32768, 1024]⟩
abbrev S8x4096x8x2x64 : Shape := ⟨5, ![8, 4096, 8, 2, 64]⟩
abbrev S8x4096x1x1x8 : Shape := ⟨5, ![8, 4096, 1, 1, 8]⟩
abbrev S8x4096x8x2x8 : Shape := ⟨5, ![8, 4096, 8, 2, 8]⟩
abbrev S8x4096x8x2x16 : Shape := ⟨5, ![8, 4096, 8, 2, 16]⟩
abbrev S8x4096x8x2x48 : Shape := ⟨5, ![8, 4096, 8, 2, 48]⟩
abbrev S8x4096x8x128 : Shape := ⟨4, ![8, 4096, 8, 128]⟩
abbrev S1x64 : Shape := ⟨2, ![1, 64]⟩
abbrev S64 : Shape := ⟨1, ![64]⟩
abbrev S_ : Shape := ⟨0, ![]⟩
abbrev S8x8x2x4096x4096 : Shape := ⟨5, ![8, 8, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x2x4096 : Shape := ⟨4, ![8, 8, 2, 4096]⟩
abbrev S8x8x2x4096x1 : Shape := ⟨5, ![8, 8, 2, 4096, 1]⟩
abbrev S8x8x1x4096x4096 : Shape := ⟨5, ![8, 8, 1, 4096, 4096]⟩
abbrev S8x8x4096x4096 : Shape := ⟨4, ![8, 8, 4096, 4096]⟩
abbrev S8x8x128x4096 : Shape := ⟨4, ![8, 8, 128, 4096]⟩
abbrev S8x4096x8x1 : Shape := ⟨4, ![8, 4096, 8, 1]⟩
abbrev S1x1x1x128 : Shape := ⟨4, ![1, 1, 1, 128]⟩

abbrev nBuf : Space → Nat
  | .hbm => 147
  | .vmem => 0
  | .smem => 0
  | _ => 0

abbrev hbmTy0_0 (i : Nat) : BufTy := match i % 128 with
  | 0 => ⟨S32768x15360, .bf16⟩
  | 1 => ⟨S8x4096x128, .f32⟩
  | 2 => ⟨S8x4096x128, .f32⟩
  | 3 => ⟨S4x64, .f32⟩
  | 4 => ⟨S128, .f32⟩
  | 5 => ⟨S1, .f32⟩
  | 6 => ⟨S8x4096x8, .f32⟩
  | 7 => ⟨S8x4096x8, .f32⟩
  | 8 => ⟨S32768x15360, .f32⟩
  | 9 => ⟨S32768x1024, .f32⟩
  | 10 => ⟨S32768x1024, .f32⟩
  | 11 => ⟨S32768x1024, .f32⟩
  | 12 => ⟨S8x4096x8x2x64, .f32⟩
  | 13 => ⟨S8x4096x1x1x8, .f32⟩
  | 14 => ⟨S8x4096x1x1x8, .f32⟩
  | 15 => ⟨S8x4096x8x2x8, .f32⟩
  | 16 => ⟨S8x4096x8x2x8, .f32⟩
  | 17 => ⟨S8x4096x8x2x8, .f32⟩
  | 18 => ⟨S8x4096x8x2x8, .f32⟩
  | 19 => ⟨S8x4096x8x2x8, .f32⟩
  | 20 => ⟨S8x4096x8x2x8, .f32⟩
  | 21 => ⟨S8x4096x8x2x8, .f32⟩
  | 22 => ⟨S8x4096x8x2x8, .f32⟩
  | 23 => ⟨S8x4096x8x2x8, .f32⟩
  | 24 => ⟨S8x4096x8x2x8, .f32⟩
  | 25 => ⟨S8x4096x8x2x8, .f32⟩
  | 26 => ⟨S8x4096x8x2x8, .f32⟩
  | 27 => ⟨S8x4096x8x2x16, .f32⟩
  | 28 => ⟨S8x4096x8x2x48, .f32⟩
  | 29 => ⟨S8x4096x8x2x64, .f32⟩
  | 30 => ⟨S8x4096x8x2x64, .f32⟩
  | 31 => ⟨S8x4096x1x1x8, .f32⟩
  | 32 => ⟨S8x4096x1x1x8, .f32⟩
  | 33 => ⟨S8x4096x8x2x8, .f32⟩
  | 34 => ⟨S8x4096x8x2x8, .f32⟩
  | 35 => ⟨S8x4096x8x2x8, .f32⟩
  | 36 => ⟨S8x4096x8x2x8, .f32⟩
  | 37 => ⟨S8x4096x8x2x8, .f32⟩
  | 38 => ⟨S8x4096x8x2x8, .f32⟩
  | 39 => ⟨S8x4096x8x2x8, .f32⟩
  | 40 => ⟨S8x4096x8x2x8, .f32⟩
  | 41 => ⟨S8x4096x8x2x8, .f32⟩
  | 42 => ⟨S8x4096x8x2x8, .f32⟩
  | 43 => ⟨S8x4096x8x2x8, .f32⟩
  | 44 => ⟨S8x4096x8x2x8, .f32⟩
  | 45 => ⟨S8x4096x8x2x16, .f32⟩
  | 46 => ⟨S8x4096x8x2x48, .f32⟩
  | 47 => ⟨S8x4096x8x2x64, .f32⟩
  | 48 => ⟨S8x4096x8x128, .f32⟩
  | 49 => ⟨S1x64, .f32⟩
  | 50 => ⟨S64, .f32⟩
  | 51 => ⟨S1x64, .f32⟩
  | 52 => ⟨S64, .f32⟩
  | 53 => ⟨S64, .f32⟩
  | 54 => ⟨S_, .f32⟩
  | 55 => ⟨S_, .f32⟩
  | 56 => ⟨S_, .f32⟩
  | 57 => ⟨S1x64, .f32⟩
  | 58 => ⟨S64, .f32⟩
  | 59 => ⟨S1x64, .f32⟩
  | 60 => ⟨S64, .f32⟩
  | 61 => ⟨S64, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S8x8x2x4096x4096, .f32⟩
  | 69 => ⟨S_, .f32⟩
  | 70 => ⟨S8x8x2x4096x4096, .f32⟩
  | 71 => ⟨S8x8x2x4096x4096, .f32⟩
  | 72 => ⟨S4096, .i32⟩
  | 73 => ⟨S_, .i32⟩
  | 74 => ⟨S_, .i32⟩
  | 75 => ⟨S4096, .i32⟩
  | 76 => ⟨S4096, .i32⟩
  | 77 => ⟨S4096, .i32⟩
  | 78 => ⟨S_, .i32⟩
  | 79 => ⟨S4096, .i32⟩
  | 80 => ⟨S4096, .i1⟩
  | 81 => ⟨S4096, .i32⟩
  | 82 => ⟨S4096, .i32⟩
  | 83 => ⟨S_, .i32⟩
  | 84 => ⟨S4096, .i32⟩
  | 85 => ⟨S4096, .i1⟩
  | 86 => ⟨S4096, .i1⟩
  | 87 => ⟨S_, .i32⟩
  | 88 => ⟨S4096, .i32⟩
  | 89 => ⟨S4096, .i32⟩
  | 90 => ⟨S4096, .i32⟩
  | 91 => ⟨S1x4096, .i32⟩
  | 92 => ⟨S4096x1, .i32⟩
  | 93 => ⟨S4096x4096, .i32⟩
  | 94 => ⟨S4096x4096, .i32⟩
  | 95 => ⟨S4096x4096, .i1⟩
  | 96 => ⟨S_, .f32⟩
  | 97 => ⟨S_, .f32⟩
  | 98 => ⟨S8x8x2x4096x4096, .i1⟩
  | 99 => ⟨S8x8x2x4096x4096, .f32⟩
  | 100 => ⟨S8x8x2x4096x4096, .f32⟩
  | 101 => ⟨S_, .f32⟩
  | 102 => ⟨S8x8x2x4096, .f32⟩
  | 103 => ⟨S_, .f32⟩
  | 104 => ⟨S8x8x2x4096, .f32⟩
  | 105 => ⟨S8x8x2x4096, .f32⟩
  | 106 => ⟨S8x8x2x4096x1, .f32⟩
  | 107 => ⟨S8x8x2x4096x4096, .f32⟩
  | 108 => ⟨S8x8x2x4096x4096, .f32⟩
  | 109 => ⟨S8x8x2x4096x4096, .f32⟩
  | 110 => ⟨S_, .f32⟩
  | 111 => ⟨S8x8x2x4096, .f32⟩
  | 112 => ⟨S8x8x2x4096x1, .f32⟩
  | 113 => ⟨S8x8x2x4096x4096, .f32⟩
  | 114 => ⟨S8x8x2x4096x4096, .f32⟩
  | 115 => ⟨S8x8x1x4096x4096, .f32⟩
  | 116 => ⟨S8x8x4096x4096, .f32⟩
  | 117 => ⟨S8x8x1x4096x4096, .f32⟩
  | 118 => ⟨S8x8x4096x4096, .f32⟩
  | 119 => ⟨S8x8x4096x4096, .f32⟩
  | 120 => ⟨S8x8x4096x4096, .f32⟩
  | 121 => ⟨S8x8x4096x4096, .f32⟩
  | 122 => ⟨S8x8x128x4096, .f32⟩
  | 123 => ⟨S8x4096x8x128, .f32⟩
  | 124 => ⟨S8x4096x8x128, .f32⟩
  | 125 => ⟨S_, .f32⟩
  | 126 => ⟨S8x4096x8, .f32⟩
  | 127 => ⟨S8x4096x8x1, .f32⟩
  | _ => ⟨S32768x15360, .bf16⟩

abbrev hbmTy0_1 (i : Nat) : BufTy := match i % 128 with
  | 0 => ⟨S_, .f32⟩
  | 1 => ⟨S8x4096x8x1, .f32⟩
  | 2 => ⟨S8x4096x8x1, .f32⟩
  | 3 => ⟨S_, .f32⟩
  | 4 => ⟨S8x4096x8x1, .f32⟩
  | 5 => ⟨S8x4096x8x1, .f32⟩
  | 6 => ⟨S8x4096x8x1, .f32⟩
  | 7 => ⟨S8x4096x8x128, .f32⟩
  | 8 => ⟨S8x4096x8x128, .f32⟩
  | 9 => ⟨S1x1x1x128, .f32⟩
  | 10 => ⟨S8x4096x8x128, .f32⟩
  | 11 => ⟨S8x4096x8x128, .f32⟩
  | 12 => ⟨S_, .f32⟩
  | 13 => ⟨S_, .f32⟩
  | 14 => ⟨S_, .f32⟩
  | 15 => ⟨S8x4096x8x128, .f32⟩
  | 16 => ⟨S8x4096x8x128, .f32⟩
  | 17 => ⟨S32768x1024, .f32⟩
  | 18 => ⟨S32768x1024, .bf16⟩
  | _ => ⟨S32768x15360, .bf16⟩

abbrev hbmTy (i : Nat) : BufTy := match i / 128 with
  | 0 => hbmTy0_0 i
  | 1 => hbmTy0_1 i
  | _ => ⟨S32768x15360, .bf16⟩

abbrev bufTy : (tb : Table) → Fin (tcTables nBuf tb) → BufTy
  | .hbm, ⟨i, _⟩ => hbmTy i
  | _, _ => ⟨S32768x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_cst : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_cst_0 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_1 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_c : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_v8 : Ref sig .tc := ⟨.hbm, 82, rfl⟩
abbrev main_call0_c : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_call0_c_0 : Ref sig .tc := ⟨.hbm, 87, rfl⟩
abbrev main_call0_v12 : Ref sig .tc := ⟨.hbm, 88, rfl⟩
abbrev main_call0_v13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_2 : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_v70 : Ref sig .tc := ⟨.hbm, 100, rfl⟩
abbrev main_cst_3 : Ref sig .tc := ⟨.hbm, 101, rfl⟩
abbrev main_v71 : Ref sig .tc := ⟨.hbm, 102, rfl⟩
abbrev main_cst_4 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_5 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_cst_6 : Ref sig .tc := ⟨.hbm, 125, rfl⟩
abbrev main_v92 : Ref sig .tc := ⟨.hbm, 126, rfl⟩
abbrev main_v93 : Ref sig .tc := ⟨.hbm, 127, rfl⟩
abbrev main_cst_7 : Ref sig .tc := ⟨.hbm, 128, rfl⟩
abbrev main_v94 : Ref sig .tc := ⟨.hbm, 129, rfl⟩
abbrev main_v95 : Ref sig .tc := ⟨.hbm, 130, rfl⟩
abbrev main_cst_8 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_9 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩

abbrev nD : Nat := 1
abbrev τ : Topo := Topo.v7x

variable {F : FTy → Type} [FloatOps F]
-- ==== InProj.lean ====
abbrev S32768x2048 : Shape := ⟨2, ![32768, 2048]⟩
abbrev S1x2048 : Shape := ⟨2, ![1, 2048]⟩
abbrev S8x1x2048 : Shape := ⟨3, ![8, 1, 2048]⟩
abbrev S2048x15360 : Shape := ⟨2, ![2048, 15360]⟩
abbrev S32768x15360 : Shape := ⟨2, ![32768, 15360]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S8x1x2048, .f32⟩
  | .hbm, ⟨3, _⟩ => ⟨S8x1x2048, .f32⟩
  | .hbm, ⟨4, _⟩ => ⟨S2048x15360, .bf16⟩
  | .hbm, ⟨5, _⟩ => ⟨S32768x15360, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 15], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S32768x2048 : Shape := ⟨2, ![32768, 2048]⟩
abbrev S1x2048 : Shape := ⟨2, ![1, 2048]⟩
abbrev S8x1x2048 : Shape := ⟨3, ![8, 1, 2048]⟩
abbrev S2048x15360 : Shape := ⟨2, ![2048, 15360]⟩
abbrev S8x4096x2048 : Shape := ⟨3, ![8, 4096, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S8x4096x15360 : Shape := ⟨3, ![8, 4096, 15360]⟩
abbrev S32768x15360 : Shape := ⟨2, ![32768, 15360]⟩

abbrev nBuf : Space → Nat
  | .hbm => 34
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S1x2048, .f32⟩
  | .hbm, ⟨2, _⟩ => ⟨S8x1x2048, .f32⟩
  | .hbm, ⟨3, _⟩ => ⟨S8x1x2048, .f32⟩
  | .hbm, ⟨4, _⟩ => ⟨S2048x15360, .bf16⟩
  | .hbm, ⟨5, _⟩ => ⟨S8x4096x2048, .f32⟩
  | .hbm, ⟨6, _⟩ => ⟨S2048, .f32⟩
  | .hbm, ⟨7, _⟩ => ⟨S8x4096x2048, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S1x1x2048, .f32⟩
  | .hbm, ⟨21, _⟩ => ⟨S8x4096x2048, .f32⟩
  | .hbm, ⟨22, _⟩ => ⟨S8x4096x2048, .f32⟩
  | .hbm, ⟨23, _⟩ => ⟨S_, .f32⟩
  | .hbm, ⟨24, _⟩ => ⟨S8x1x2048, .f32⟩
  | .hbm, ⟨25, _⟩ => ⟨S8x1x2048, .f32⟩
  | .hbm, ⟨26, _⟩ => ⟨S8x4096x2048, .f32⟩
  | .hbm, ⟨27, _⟩ => ⟨S8x4096x2048, .f32⟩
  | .hbm, ⟨28, _⟩ => ⟨S8x4096x2048, .f32⟩
  | .hbm, ⟨29, _⟩ => ⟨S8x4096x2048, .f32⟩
  | .hbm, ⟨30, _⟩ => ⟨S2048x15360, .f32⟩
  | .hbm, ⟨31, _⟩ => ⟨S8x4096x15360, .f32⟩
  | .hbm, ⟨32, _⟩ => ⟨S32768x15360, .f32⟩
  | .hbm, ⟨33, _⟩ => ⟨S32768x15360, .bf16⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Merge.lean ====
abbrev S32768x1024 : Shape := ⟨2, ![32768, 1024]⟩
abbrev S32768x15360 : Shape := ⟨2, ![32768, 15360]⟩
abbrev S1024x2048 : Shape := ⟨2, ![1024, 2048]⟩
abbrev S32768x2048 : Shape := ⟨2, ![32768, 2048]⟩
abbrev S1024x1024 : Shape := ⟨2, ![1024, 1024]⟩
abbrev S1024x512 : Shape := ⟨2, ![1024, 512]⟩

abbrev nBuf : Space → Nat
  | .hbm => 8
  | .vmem => 20
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x15360, .bf16⟩
  | .hbm, ⟨4, _⟩ => ⟨S1024x2048, .bf16⟩
  | .hbm, ⟨5, _⟩ => ⟨S1024x2048, .bf16⟩
  | .hbm, ⟨6, _⟩ => ⟨S1024x2048, .bf16⟩
  | .hbm, ⟨7, _⟩ => ⟨S32768x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c18_i32 : BitVec 32 := 18#32
  let v0 : BitVec 32 := Scalar.addi c18_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c26_i32 : BitVec 32 := 26#32
  let v0 : BitVec 32 := Scalar.addi c26_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeRefIdeal.lean ====
abbrev S32768x1024 : Shape := ⟨2, ![32768, 1024]⟩
abbrev S32768x15360 : Shape := ⟨2, ![32768, 15360]⟩
abbrev S1024x2048 : Shape := ⟨2, ![1024, 2048]⟩
abbrev S32768x6144 : Shape := ⟨2, ![32768, 6144]⟩
abbrev S32768x3x2048 : Shape := ⟨3, ![32768, 3, 2048]⟩
abbrev S_ : Shape := ⟨0, ![]⟩
abbrev S32768x2048 : Shape := ⟨2, ![32768, 2048]⟩
abbrev S32768x1x2048 : Shape := ⟨3, ![32768, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x15360, .bf16⟩
  | .hbm, ⟨4, _⟩ => ⟨S1024x2048, .bf16⟩
  | .hbm, ⟨5, _⟩ => ⟨S1024x2048, .bf16⟩
  | .hbm, ⟨6, _⟩ => ⟨S1024x2048, .bf16⟩
  | .hbm, ⟨7, _⟩ => ⟨S32768x6144, .bf16⟩
  | .hbm, ⟨8, _⟩ => ⟨S32768x6144, .f32⟩
  | .hbm, ⟨9, _⟩ => ⟨S32768x3x2048, .f32⟩
  | .hbm, ⟨10, _⟩ => ⟨S32768x3x2048, .f32⟩
  | .hbm, ⟨11, _⟩ => ⟨S32768x3x2048, .f32⟩
  | .hbm, ⟨12, _⟩ => ⟨S_, .f32⟩
  | .hbm, ⟨13, _⟩ => ⟨S32768x3x2048, .f32⟩
  | .hbm, ⟨14, _⟩ => ⟨S32768x3x2048, .f32⟩
  | .hbm, ⟨15, _⟩ => ⟨S_, .f32⟩
  | .hbm, ⟨16, _⟩ => ⟨S32768x3x2048, .f32⟩
  | .hbm, ⟨17, _⟩ => ⟨S32768x3x2048, .f32⟩
  | .hbm, ⟨18, _⟩ => ⟨S32768x1024, .f32⟩
  | .hbm, ⟨19, _⟩ => ⟨S1024x2048, .f32⟩
  | .hbm, ⟨20, _⟩ => ⟨S32768x2048, .f32⟩
  | .hbm, ⟨21, _⟩ => ⟨S32768x1024, .f32⟩
  | .hbm, ⟨22, _⟩ => ⟨S1024x2048, .f32⟩
  | .hbm, ⟨23, _⟩ => ⟨S32768x2048, .f32⟩
  | .hbm, ⟨24, _⟩ => ⟨S32768x1024, .f32⟩
  | .hbm, ⟨25, _⟩ => ⟨S1024x2048, .f32⟩
  | .hbm, ⟨26, _⟩ => ⟨S32768x2048, .f32⟩
  | .hbm, ⟨27, _⟩ => ⟨S32768x1x2048, .f32⟩
  | .hbm, ⟨28, _⟩ => ⟨S32768x2048, .f32⟩
  | .hbm, ⟨29, _⟩ => ⟨S32768x2048, .f32⟩
  | .hbm, ⟨30, _⟩ => ⟨S32768x1x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S32768x1x2048, .f32⟩
  | .hbm, ⟨35, _⟩ => ⟨S32768x2048, .f32⟩
  | .hbm, ⟨36, _⟩ => ⟨S32768x2048, .f32⟩
  | .hbm, ⟨37, _⟩ => ⟨S32768x2048, .f32⟩
  | .hbm, ⟨38, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== OutProj.lean ====
abbrev S32768x2048 : Shape := ⟨2, ![32768, 2048]⟩
abbrev S2048x2048 : Shape := ⟨2, ![2048, 2048]⟩
abbrev S8x1x2048 : Shape := ⟨3, ![8, 1, 2048]⟩
abbrev S1024x2048 : Shape := ⟨2, ![1024, 2048]⟩
abbrev S2048x1024 : Shape := ⟨2, ![2048, 1024]⟩
abbrev S1024x1024 : Shape := ⟨2, ![1024, 1024]⟩
abbrev S1x1x1024 : Shape := ⟨3, ![1, 1, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S8x1x2048, .f32⟩
  | .hbm, ⟨4, _⟩ => ⟨S32768x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S32768x2048 : Shape := ⟨2, ![32768, 2048]⟩
abbrev S2048x2048 : Shape := ⟨2, ![2048, 2048]⟩
abbrev S8x1x2048 : Shape := ⟨3, ![8, 1, 2048]⟩
abbrev S8x4096x2048 : Shape := ⟨3, ![8, 4096, 2048]⟩

abbrev nBuf : Space → Nat
  | .hbm => 13
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .bf16⟩
  | .hbm, ⟨2, _⟩ => ⟨S32768x2048, .f32⟩
  | .hbm, ⟨3, _⟩ => ⟨S8x1x2048, .f32⟩
  | .hbm, ⟨4, _⟩ => ⟨S32768x2048, .f32⟩
  | .hbm, ⟨5, _⟩ => ⟨S2048x2048, .f32⟩
  | .hbm, ⟨6, _⟩ => ⟨S32768x2048, .f32⟩
  | .hbm, ⟨7, _⟩ => ⟨S8x4096x2048, .f32⟩
  | .hbm, ⟨8, _⟩ => ⟨S8x4096x2048, .f32⟩
  | .hbm, ⟨9, _⟩ => ⟨S8x4096x2048, .f32⟩
  | .hbm, ⟨10, _⟩ => ⟨S8x4096x2048, .f32⟩
  | .hbm, ⟨11, _⟩ => ⟨S8x4096x2048, .f32⟩
  | .hbm, ⟨12, _⟩ => ⟨S32768x2048, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== FinalNorm.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S1x2048, .f32⟩
  | .hbm, ⟨3, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S32768x2048 : Shape := ⟨2, ![32768, 2048]⟩
abbrev S2048 : Shape := ⟨1, ![2048]⟩
abbrev S8x4096x2048 : Shape := ⟨3, ![8, 4096, 2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S8x4096x2048, .f32⟩
  | .hbm, ⟨3, _⟩ => ⟨S8x4096x2048, .f32⟩
  | .hbm, ⟨4, _⟩ => ⟨S_, .f32⟩
  | .hbm, ⟨5, _⟩ => ⟨S8x4096, .f32⟩
  | .hbm, ⟨6, _⟩ => ⟨S8x4096x1, .f32⟩
  | .hbm, ⟨7, _⟩ => ⟨S_, .f32⟩
  | .hbm, ⟨8, _⟩ => ⟨S8x4096x1, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S8x4096x1, .f32⟩
  | .hbm, ⟨14, _⟩ => ⟨S8x4096x2048, .f32⟩
  | .hbm, ⟨15, _⟩ => ⟨S8x4096x2048, .f32⟩
  | .hbm, ⟨16, _⟩ => ⟨S1x1x2048, .f32⟩
  | .hbm, ⟨17, _⟩ => ⟨S8x4096x2048, .f32⟩
  | .hbm, ⟨18, _⟩ => ⟨S8x4096x2048, .f32⟩
  | .hbm, ⟨19, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Ada.lean ====
abbrev S8x2048 : Shape := ⟨2, ![8, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaRefIdeal.lean ====
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩
abbrev S4x12288x8 : Shape := ⟨3, ![4, 12288, 8]⟩
abbrev S4x8x12288 : Shape := ⟨3, ![4, 8, 12288]⟩
abbrev S4x1x12288 : Shape := ⟨3, ![4, 1, 12288]⟩

abbrev nBuf : Space → Nat
  | .hbm => 17
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S4x12288x8, .f32⟩
  | .hbm, ⟨13, _⟩ => ⟨S4x8x12288, .f32⟩
  | .hbm, ⟨14, _⟩ => ⟨S4x1x12288, .f32⟩
  | .hbm, ⟨15, _⟩ => ⟨S4x8x12288, .f32⟩
  | .hbm, ⟨16, _⟩ => ⟨S4x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Rope.lean ====
abbrev S8x4096 : Shape := ⟨2, ![8, 4096]⟩
abbrev S128 : Shape := ⟨1, ![128]⟩
abbrev S1x128 : Shape := ⟨2, ![1, 128]⟩
abbrev S8 : Shape := ⟨1, ![8]⟩
abbrev S_ : Shape := ⟨0, ![]⟩
abbrev S128x1 : Shape := ⟨2, ![128, 1]⟩
abbrev S8x4096x1 : Shape := ⟨3, ![8, 4096, 1]⟩
abbrev S8x4096x128 : Shape := ⟨3, ![8, 4096, 128]⟩
abbrev S1x4096x1 : Shape := ⟨3, ![1, 4096, 1]⟩
abbrev S1x4096x128 : Shape := ⟨3, ![1, 4096, 128]⟩
abbrev S4096x1 : Shape := ⟨2, ![4096, 1]⟩
abbrev S4096x128 : Shape := ⟨2, ![4096, 128]⟩

abbrev nBuf : Space → Nat
  | .hbm => 33
  | .vmem => 8
  | .smem => 0
  | _ => 0

abbrev bufTy : (tb : Table) → Fin (tcTables nBuf tb) → BufTy
  | .hbm, ⟨0, _⟩ => ⟨S8x4096, .i32⟩
  | .hbm, ⟨1, _⟩ => ⟨S128, .i32⟩
  | .hbm, ⟨2, _⟩ => ⟨S128, .i1⟩
  | .hbm, ⟨3, _⟩ => ⟨S128, .i1⟩
  | .hbm, ⟨4, _⟩ => ⟨S1x128, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S_, .i32⟩
  | .hbm, ⟨20, _⟩ => ⟨S128, .i32⟩
  | .hbm, ⟨21, _⟩ => ⟨S128, .i32⟩
  | .hbm, ⟨22, _⟩ => ⟨S128, .i32⟩
  | .hbm, ⟨23, _⟩ => ⟨S128x1, .i32⟩
  | .hbm, ⟨24, _⟩ => ⟨S128, .f32⟩
  | .hbm, ⟨25, _⟩ => ⟨S_, .f32⟩
  | .hbm, ⟨26, _⟩ => ⟨S_, .f32⟩
  | .hbm, ⟨27, _⟩ => ⟨S128, .f32⟩
  | .hbm, ⟨28, _⟩ => ⟨S128, .f32⟩
  | .hbm, ⟨29, _⟩ => ⟨S1x128, .f32⟩
  | .hbm, ⟨30, _⟩ => ⟨S8x4096x1, .i32⟩
  | .hbm, ⟨31, _⟩ => ⟨S8x4096x128, .f32⟩
  | .hbm, ⟨32, _⟩ => ⟨S8x4096x128, .f32⟩
  | .local _ .vmem, ⟨0, _⟩ => ⟨S1x4096x1, .i32⟩
  | .local _ .vmem, ⟨1, _⟩ => ⟨S1x4096x1, .i32⟩
  | .local _ .vmem, ⟨2, _⟩ => ⟨S1x128, .f32⟩
  | .local _ .vmem, ⟨3, _⟩ => ⟨S1x128, .f32⟩
  | .local _ .vmem, ⟨4, _⟩ => ⟨S1x4096x128, .f32⟩
  | .local _ .vmem, ⟨5, _⟩ => ⟨S1x4096x128, .f32⟩
  | .local _ .vmem, ⟨6, _⟩ => ⟨S1x4096x128, .f32⟩
  | .local _ .vmem, ⟨7, _⟩ => ⟨S1x4096x128, .f32⟩
  | _, _ => ⟨S8x4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_cst : Ref sig .tc := ⟨.hbm, 4, rfl⟩
abbrev main_v0 : Ref sig .tc := ⟨.hbm, 5, rfl⟩
abbrev main_cst_2 : Ref sig .tc := ⟨.hbm, 6, rfl⟩
abbrev main_v1 : Ref sig .tc := ⟨.hbm, 7, rfl⟩
abbrev main_v2 : Ref sig .tc := ⟨.hbm, 8, rfl⟩
abbrev main_cst_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_4 : Ref sig .tc := ⟨.hbm, 13, rfl⟩
abbrev main_v6 : Ref sig .tc := ⟨.hbm, 14, rfl⟩
abbrev main_v7 : Ref sig .tc := ⟨.hbm, 15, rfl⟩
abbrev main_cst_5 : Ref sig .tc := ⟨.hbm, 16, rfl⟩
abbrev main_v8 : Ref sig .tc := ⟨.hbm, 17, rfl⟩
abbrev main_v9 : Ref sig .tc := ⟨.hbm, 18, rfl⟩
abbrev main_c_6 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_7 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18_0 : Ref sig .tc := ⟨.hbm, 31, rfl⟩
abbrev main_v18_1 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RopeRefIdeal.lean ====
abbrev S8x4096 : Shape := ⟨2, ![8, 4096]⟩
abbrev S8 : Shape := ⟨1, ![8]⟩
abbrev S_ : Shape := ⟨0, ![]⟩
abbrev S8x4096x1 : Shape := ⟨3, ![8, 4096, 1]⟩
abbrev S1x1x8 : Shape := ⟨3, ![1, 1, 8]⟩
abbrev S8x4096x8 : Shape := ⟨3, ![8, 4096, 8]⟩
abbrev S8x4096x48 : Shape := ⟨3, ![8, 4096, 48]⟩
abbrev S8x4096x128 : Shape := ⟨3, ![8, 4096, 128]⟩

abbrev nBuf : Space → Nat
  | .hbm => 31
  | .vmem => 0
  | .smem => 0
  | _ => 0

abbrev bufTy : (tb : Table) → Fin (tcTables nBuf tb) → BufTy
  | .hbm, ⟨0, _⟩ => ⟨S8x4096, .i32⟩
  | .hbm, ⟨1, _⟩ => ⟨S8, .f32⟩
  | .hbm, ⟨2, _⟩ => ⟨S_, .f32⟩
  | .hbm, ⟨3, _⟩ => ⟨S8, .f32⟩
  | .hbm, ⟨4, _⟩ => ⟨S8, .f32⟩
  | .hbm, ⟨5, _⟩ => ⟨S_, .f32⟩
  | .hbm, ⟨6, _⟩ => ⟨S8, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S_, .f32⟩
  | .hbm, ⟨13, _⟩ => ⟨S8, .f32⟩
  | .hbm, ⟨14, _⟩ => ⟨S8, .f32⟩
  | .hbm, ⟨15, _⟩ => ⟨S8x4096, .f32⟩
  | .hbm, ⟨16, _⟩ => ⟨S8x4096x1, .f32⟩
  | .hbm, ⟨17, _⟩ => ⟨S1x1x8, .f32⟩
  | .hbm, ⟨18, _⟩ => ⟨S8x4096x8, .f32⟩
  | .hbm, ⟨19, _⟩ => ⟨S8x4096x8, .f32⟩
  | .hbm, ⟨20, _⟩ => ⟨S8x4096x8, .f32⟩
  | .hbm, ⟨21, _⟩ => ⟨S8x4096x8, .f32⟩
  | .hbm, ⟨22, _⟩ => ⟨S8x4096x8, .f32⟩
  | .hbm, ⟨23, _⟩ => ⟨S_, .f32⟩
  | .hbm, ⟨24, _⟩ => ⟨S8x4096x48, .f32⟩
  | .hbm, ⟨25, _⟩ => ⟨S_, .f32⟩
  | .hbm, ⟨26, _⟩ => ⟨S8x4096x48, .f32⟩
  | .hbm, ⟨27, _⟩ => ⟨S8x4096x128, .f32⟩
  | .hbm, ⟨28, _⟩ => ⟨S8x4096x8, .f32⟩
  | .hbm, ⟨29, _⟩ => ⟨S8x4096x8, .f32⟩
  | .hbm, ⟨30, _⟩ => ⟨S8x4096x128, .f32⟩
  | _, _ => ⟨S8x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_cst_4 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Conv.lean ====
abbrev S32768x15360 : Shape := ⟨2, ![32768, 15360]⟩
abbrev S31x1024 : Shape := ⟨2, ![31, 1024]⟩
abbrev S1024 : Shape := ⟨1, ![1024]⟩
abbrev S1x1024 : Shape := ⟨2, ![1, 1024]⟩
abbrev S32768x1024 : Shape := ⟨2, ![32768, 1024]⟩
abbrev S256x2048 : Shape := ⟨2, ![256, 2048]⟩
abbrev S32x2048 : Shape := ⟨2, ![32, 2048]⟩
abbrev S256x1024 : Shape := ⟨2, ![256, 1024]⟩
abbrev S288x1024 : Shape := ⟨2, ![288, 1024]⟩
abbrev S32x1024 : Shape := ⟨2, ![32, 1024]⟩
abbrev S1x256 : Shape := ⟨2, ![1, 256]⟩
abbrev S64x256 : Shape := ⟨2, ![64, 256]⟩
abbrev S256 : Shape := ⟨1, ![256]⟩
abbrev S256x1 : Shape := ⟨2, ![256, 1]⟩

abbrev nBuf : Space → Nat
  | .hbm => 9
  | .vmem => 12
  | .smem => 0
  | _ => 0

abbrev bufTy : (tb : Table) → Fin (tcTables nBuf tb) → BufTy
  | .hbm, ⟨0, _⟩ => ⟨S32768x15360, .bf16⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S32768x1024, .bf16⟩
  | .local _ .vmem, ⟨0, _⟩ => ⟨S256x2048, .bf16⟩
  | .local _ .vmem, ⟨1, _⟩ => ⟨S256x2048, .bf16⟩
  | .local _ .vmem, ⟨2, _⟩ => ⟨S32x2048, .bf16⟩
  | .local _ .vmem, ⟨3, _⟩ => ⟨S32x2048, .bf16⟩
  | .local _ .vmem, ⟨4, _⟩ => ⟨S31x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S288x1024, .f32⟩
  | .local _ .vmem, ⟨11, _⟩ => ⟨S256x1024, .f32⟩
  | _, _ => ⟨S32768x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let v2 : BitVec 32 := Scalar.muli v1 c8_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S31x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvRefIdeal.lean ====
abbrev S32768x15360 : Shape := ⟨2, ![32768, 15360]⟩
abbrev S31x1024 : Shape := ⟨2, ![31, 1024]⟩
abbrev S1024 : Shape := ⟨1, ![1024]⟩
abbrev S32768x2048 : Shape := ⟨2, ![32768, 2048]⟩
abbrev S8x4096x2048 : Shape := ⟨3, ![8, 4096, 2048]⟩
abbrev S8x4096x1024 : Shape := ⟨3, ![8, 4096, 1024]⟩
abbrev S_ : Shape := ⟨0, ![]⟩
abbrev S8x4126x1024 : Shape := ⟨3, ![8, 4126, 1024]⟩
abbrev S1x1024 : Shape := ⟨2, ![1, 1024]⟩
abbrev S1x1x1024 : Shape := ⟨3, ![1, 1, 1024]⟩
abbrev S8x4096 : Shape := ⟨2, ![8, 4096]⟩
abbrev S8x4096x1 : Shape := ⟨3, ![8, 4096, 1]⟩
abbrev S32768x1024 : Shape := ⟨2, ![32768, 1024]⟩

abbrev nBuf : Space → Nat
  | .hbm => 282
  | .vmem => 0
  | .smem => 0
  | _ => 0

abbrev hbmTy0_0 (i : Nat) : BufTy := match i % 128 with
  | 0 => ⟨S32768x15360, .bf16⟩
  | 1 => ⟨S31x1024, .f32⟩
  | 2 => ⟨S1024, .f32⟩
  | 3 => ⟨S1024, .f32⟩
  | 4 => ⟨S1024, .f32⟩
  | 5 => ⟨S32768x2048, .bf16⟩
  | 6 => ⟨S32768x2048, .f32⟩
  | 7 => ⟨S8x4096x2048, .f32⟩
  | 8 => ⟨S8x4096x1024, .f32⟩
  | 9 => ⟨S8x4096x1024, .f32⟩
  | 10 => ⟨S8x4096x1024, .f32⟩
  | 11 => ⟨S8x4096x1024, .f32⟩
  | 12 => ⟨S_, .f32⟩
  | 13 => ⟨S8x4096x1024, .f32⟩
  | 14 => ⟨S8x4096x1024, .f32⟩
  | 15 => ⟨S_, .f32⟩
  | 16 => ⟨S8x4096x1024, .f32⟩
  | 17 => ⟨S8x4096x1024, .f32⟩
  | 18 => ⟨S8x4096x1024, .f32⟩
  | 19 => ⟨S_, .i32⟩
  | 20 => ⟨S_, .f32⟩
  | 21 => ⟨S8x4126x1024, .f32⟩
  | 22 => ⟨S1x1024, .f32⟩
  | 23 => ⟨S1024, .f32⟩
  | 24 => ⟨S8x4096x1024, .f32⟩
  | 25 => ⟨S1x1x1024, .f32⟩
  | 26 => ⟨S8x4096x1024, .f32⟩
  | 27 => ⟨S8x4096x1024, .f32⟩
  | 28 => ⟨S_, .f32⟩
  | 29 => ⟨S8x4096x1024, .f32⟩
  | 30 => ⟨S8x4096x1024, .f32⟩
  | 31 => ⟨S1x1024, .f32⟩
  | 32 => ⟨S1024, .f32⟩
  | 33 => ⟨S8x4096x1024, .f32⟩
  | 34 => ⟨S1x1x1024, .f32⟩
  | 35 => ⟨S8x4096x1024, .f32⟩
  | 36 => ⟨S8x4096x1024, .f32⟩
  | 37 => ⟨S8x4096x1024, .f32⟩
  | 38 => ⟨S1x1024, .f32⟩
  | 39 => ⟨S1024, .f32⟩
  | 40 => ⟨S8x4096x1024, .f32⟩
  | 41 => ⟨S1x1x1024, .f32⟩
  | 42 => ⟨S8x4096x1024, .f32⟩
  | 43 => ⟨S8x4096x1024, .f32⟩
  | 44 => ⟨S8x4096x1024, .f32⟩
  | 45 => ⟨S1x1024, .f32⟩
  | 46 => ⟨S1024, .f32⟩
  | 47 => ⟨S8x4096x1024, .f32⟩
  | 48 => ⟨S1x1x1024, .f32⟩
  | 49 => ⟨S8x4096x1024, .f32⟩
  | 50 => ⟨S8x4096x1024, .f32⟩
  | 51 => ⟨S8x4096x1024, .f32⟩
  | 52 => ⟨S1x1024, .f32⟩
  | 53 => ⟨S1024, .f32⟩
  | 54 => ⟨S8x4096x1024, .f32⟩
  | 55 => ⟨S1x1x1024, .f32⟩
  | 56 => ⟨S8x4096x1024, .f32⟩
  | 57 => ⟨S8x4096x1024, .f32⟩
  | 58 => ⟨S8x4096x1024, .f32⟩
  | 59 => ⟨S1x1024, .f32⟩
  | 60 => ⟨S1024, .f32⟩
  | 61 => ⟨S8x4096x1024, .f32⟩
  | 62 => ⟨S1x1x1024, .f32⟩
  | 63 => ⟨S8x4096x1024, .f32⟩
  | 64 => ⟨S8x4096x1024, .f32⟩
  | 65 => ⟨S8x4096x1024, .f32⟩
  | 66 => ⟨S1x1024, .f32⟩
  | 67 => ⟨S1024, .f32⟩
  | 68 => ⟨S8x4096x1024, .f32⟩
  | 69 => ⟨S1x1x1024, .f32⟩
  | 70 => ⟨S8x4096x1024, .f32⟩
  | 71 => ⟨S8x4096x1024, .f32⟩
  | 72 => ⟨S8x4096x1024, .f32⟩
  | 73 => ⟨S1x1024, .f32⟩
  | 74 => ⟨S1024, .f32⟩
  | 75 => ⟨S8x4096x1024, .f32⟩
  | 76 => ⟨S1x1x1024, .f32⟩
  | 77 => ⟨S8x4096x1024, .f32⟩
  | 78 => ⟨S8x4096x1024, .f32⟩
  | 79 => ⟨S8x4096x1024, .f32⟩
  | 80 => ⟨S1x1024, .f32⟩
  | 81 => ⟨S1024, .f32⟩
  | 82 => ⟨S8x4096x1024, .f32⟩
  | 83 => ⟨S1x1x1024, .f32⟩
  | 84 => ⟨S8x4096x1024, .f32⟩
  | 85 => ⟨S8x4096x1024, .f32⟩
  | 86 => ⟨S8x4096x1024, .f32⟩
  | 87 => ⟨S1x1024, .f32⟩
  | 88 => ⟨S1024, .f32⟩
  | 89 => ⟨S8x4096x1024, .f32⟩
  | 90 => ⟨S1x1x1024, .f32⟩
  | 91 => ⟨S8x4096x1024, .f32⟩
  | 92 => ⟨S8x4096x1024, .f32⟩
  | 93 => ⟨S8x4096x1024, .f32⟩
  | 94 => ⟨S1x1024, .f32⟩
  | 95 => ⟨S1024, .f32⟩
  | 96 => ⟨S8x4096x1024, .f32⟩
  | 97 => ⟨S1x1x1024, .f32⟩
  | 98 => ⟨S8x4096x1024, .f32⟩
  | 99 => ⟨S8x4096x1024, .f32⟩
  | 100 => ⟨S8x4096x1024, .f32⟩
  | 101 => ⟨S1x1024, .f32⟩
  | 102 => ⟨S1024, .f32⟩
  | 103 => ⟨S8x4096x1024, .f32⟩
  | 104 => ⟨S1x1x1024, .f32⟩
  | 105 => ⟨S8x4096x1024, .f32⟩
  | 106 => ⟨S8x4096x1024, .f32⟩
  | 107 => ⟨S8x4096x1024, .f32⟩
  | 108 => ⟨S1x1024, .f32⟩
  | 109 => ⟨S1024, .f32⟩
  | 110 => ⟨S8x4096x1024, .f32⟩
  | 111 => ⟨S1x1x1024, .f32⟩
  | 112 => ⟨S8x4096x1024, .f32⟩
  | 113 => ⟨S8x4096x1024, .f32⟩
  | 114 => ⟨S8x4096x1024, .f32⟩
  | 115 => ⟨S1x1024, .f32⟩
  | 116 => ⟨S1024, .f32⟩
  | 117 => ⟨S8x4096x1024, .f32⟩
  | 118 => ⟨S1x1x1024, .f32⟩
  | 119 => ⟨S8x4096x1024, .f32⟩
  | 120 => ⟨S8x4096x1024, .f32⟩
  | 121 => ⟨S8x4096x1024, .f32⟩
  | 122 => ⟨S1x1024, .f32⟩
  | 123 => ⟨S1024, .f32⟩
  | 124 => ⟨S8x4096x1024, .f32⟩
  | 125 => ⟨S1x1x1024, .f32⟩
  | 126 => ⟨S8x4096x1024, .f32⟩
  | 127 => ⟨S8x4096x1024, .f32⟩
  | _ => ⟨S32768x15360, .bf16⟩

abbrev hbmTy0_1 (i : Nat) : BufTy := match i % 128 with
  | 0 => ⟨S8x4096x1024, .f32⟩
  | 1 => ⟨S1x1024, .f32⟩
  | 2 => ⟨S1024, .f32⟩
  | 3 => ⟨S8x4096x1024, .f32⟩
  | 4 => ⟨S1x1x1024, .f32⟩
  | 5 => ⟨S8x4096x1024, .f32⟩
  | 6 => ⟨S8x4096x1024, .f32⟩
  | 7 => ⟨S8x4096x1024, .f32⟩
  | 8 => ⟨S1x1024, .f32⟩
  | 9 => ⟨S1024, .f32⟩
  | 10 => ⟨S8x4096x1024, .f32⟩
  | 11 => ⟨S1x1x1024, .f32⟩
  | 12 => ⟨S8x4096x1024, .f32⟩
  | 13 => ⟨S8x4096x1024, .f32⟩
  | 14 => ⟨S8x4096x1024, .f32⟩
  | 15 => ⟨S1x1024, .f32⟩
  | 16 => ⟨S1024, .f32⟩
  | 17 => ⟨S8x4096x1024, .f32⟩
  | 18 => ⟨S1x1x1024, .f32⟩
  | 19 => ⟨S8x4096x1024, .f32⟩
  | 20 => ⟨S8x4096x1024, .f32⟩
  | 21 => ⟨S8x4096x1024, .f32⟩
  | 22 => ⟨S1x1024, .f32⟩
  | 23 => ⟨S1024, .f32⟩
  | 24 => ⟨S8x4096x1024, .f32⟩
  | 25 => ⟨S1x1x1024, .f32⟩
  | 26 => ⟨S8x4096x1024, .f32⟩
  | 27 => ⟨S8x4096x1024, .f32⟩
  | 28 => ⟨S8x4096x1024, .f32⟩
  | 29 => ⟨S1x1024, .f32⟩
  | 30 => ⟨S1024, .f32⟩
  | 31 => ⟨S8x4096x1024, .f32⟩
  | 32 => ⟨S1x1x1024, .f32⟩
  | 33 => ⟨S8x4096x1024, .f32⟩
  | 34 => ⟨S8x4096x1024, .f32⟩
  | 35 => ⟨S8x4096x1024, .f32⟩
  | 36 => ⟨S1x1024, .f32⟩
  | 37 => ⟨S1024, .f32⟩
  | 38 => ⟨S8x4096x1024, .f32⟩
  | 39 => ⟨S1x1x1024, .f32⟩
  | 40 => ⟨S8x4096x1024, .f32⟩
  | 41 => ⟨S8x4096x1024, .f32⟩
  | 42 => ⟨S8x4096x1024, .f32⟩
  | 43 => ⟨S1x1024, .f32⟩
  | 44 => ⟨S1024, .f32⟩
  | 45 => ⟨S8x4096x1024, .f32⟩
  | 46 => ⟨S1x1x1024, .f32⟩
  | 47 => ⟨S8x4096x1024, .f32⟩
  | 48 => ⟨S8x4096x1024, .f32⟩
  | 49 => ⟨S8x4096x1024, .f32⟩
  | 50 => ⟨S1x1024, .f32⟩
  | 51 => ⟨S1024, .f32⟩
  | 52 => ⟨S8x4096x1024, .f32⟩
  | 53 => ⟨S1x1x1024, .f32⟩
  | 54 => ⟨S8x4096x1024, .f32⟩
  | 55 => ⟨S8x4096x1024, .f32⟩
  | 56 => ⟨S8x4096x1024, .f32⟩
  | 57 => ⟨S1x1024, .f32⟩
  | 58 => ⟨S1024, .f32⟩
  | 59 => ⟨S8x4096x1024, .f32⟩
  | 60 => ⟨S1x1x1024, .f32⟩
  | 61 => ⟨S8x4096x1024, .f32⟩
  | 62 => ⟨S8x4096x1024, .f32⟩
  | 63 => ⟨S8x4096x1024, .f32⟩
  | 64 => ⟨S1x1024, .f32⟩
  | 65 => ⟨S1024, .f32⟩
  | 66 => ⟨S8x4096x1024, .f32⟩
  | 67 => ⟨S1x1x1024, .f32⟩
  | 68 => ⟨S8x4096x1024, .f32⟩
  | 69 => ⟨S8x4096x1024, .f32⟩
  | 70 => ⟨S8x4096x1024, .f32⟩
  | 71 => ⟨S1x1024, .f32⟩
  | 72 => ⟨S1024, .f32⟩
  | 73 => ⟨S8x4096x1024, .f32⟩
  | 74 => ⟨S1x1x1024, .f32⟩
  | 75 => ⟨S8x4096x1024, .f32⟩
  | 76 => ⟨S8x4096x1024, .f32⟩
  | 77 => ⟨S8x4096x1024, .f32⟩
  | 78 => ⟨S1x1024, .f32⟩
  | 79 => ⟨S1024, .f32⟩
  | 80 => ⟨S8x4096x1024, .f32⟩
  | 81 => ⟨S1x1x1024, .f32⟩
  | 82 => ⟨S8x4096x1024, .f32⟩
  | 83 => ⟨S8x4096x1024, .f32⟩
  | 84 => ⟨S8x4096x1024, .f32⟩
  | 85 => ⟨S1x1024, .f32⟩
  | 86 => ⟨S1024, .f32⟩
  | 87 => ⟨S8x4096x1024, .f32⟩
  | 88 => ⟨S1x1x1024, .f32⟩
  | 89 => ⟨S8x4096x1024, .f32⟩
  | 90 => ⟨S8x4096x1024, .f32⟩
  | 91 => ⟨S8x4096x1024, .f32⟩
  | 92 => ⟨S1x1024, .f32⟩
  | 93 => ⟨S1024, .f32⟩
  | 94 => ⟨S8x4096x1024, .f32⟩
  | 95 => ⟨S1x1x1024, .f32⟩
  | 96 => ⟨S8x4096x1024, .f32⟩
  | 97 => ⟨S8x4096x1024, .f32⟩
  | 98 => ⟨S8x4096x1024, .f32⟩
  | 99 => ⟨S1x1024, .f32⟩
  | 100 => ⟨S1024, .f32⟩
  | 101 => ⟨S8x4096x1024, .f32⟩
  | 102 => ⟨S1x1x1024, .f32⟩
  | 103 => ⟨S8x4096x1024, .f32⟩
  | 104 => ⟨S8x4096x1024, .f32⟩
  | 105 => ⟨S8x4096x1024, .f32⟩
  | 106 => ⟨S1x1024, .f32⟩
  | 107 => ⟨S1024, .f32⟩
  | 108 => ⟨S8x4096x1024, .f32⟩
  | 109 => ⟨S1x1x1024, .f32⟩
  | 110 => ⟨S8x4096x1024, .f32⟩
  | 111 => ⟨S8x4096x1024, .f32⟩
  | 112 => ⟨S8x4096x1024, .f32⟩
  | 113 => ⟨S1x1x1024, .f32⟩
  | 114 => ⟨S8x4096x1024, .f32⟩
  | 115 => ⟨S8x4096x1024, .f32⟩
  | 116 => ⟨S_, .f32⟩
  | 117 => ⟨S8x4096, .f32⟩
  | 118 => ⟨S8x4096x1, .f32⟩
  | 119 => ⟨S_, .f32⟩
  | 120 => ⟨S8x4096x1, .f32⟩
  | 121 => ⟨S8x4096x1, .f32⟩
  | 122 => ⟨S8x4096x1024, .f32⟩
  | 123 => ⟨S8x4096x1024, .f32⟩
  | 124 => ⟨S8x4096x1024, .f32⟩
  | 125 => ⟨S_, .f32⟩
  | 126 => ⟨S8x4096, .f32⟩
  | 127 => ⟨S8x4096x1, .f32⟩
  | _ => ⟨S32768x15360, .bf16⟩

abbrev hbmTy0_2 (i : Nat) : BufTy := match i % 128 with
  | 0 => ⟨S_, .f32⟩
  | 1 => ⟨S8x4096x1, .f32⟩
  | 2 => ⟨S8x4096x1, .f32⟩
  | 3 => ⟨S_, .f32⟩
  | 4 => ⟨S8x4096x1, .f32⟩
  | 5 => ⟨S8x4096x1, .f32⟩
  | 6 => ⟨S8x4096x1, .f32⟩
  | 7 => ⟨S8x4096x1024, .f32⟩
  | 8 => ⟨S8x4096x1024, .f32⟩
  | 9 => ⟨S1x1x1024, .f32⟩
  | 10 => ⟨S8x4096x1024, .f32⟩
  | 11 => ⟨S8x4096x1024, .f32⟩
  | 12 => ⟨S1x1x1024, .f32⟩
  | 13 => ⟨S8x4096x1024, .f32⟩
  | 14 => ⟨S8x4096x1024, .f32⟩
  | 15 => ⟨S8x4096x1024, .f32⟩
  | 16 => ⟨S8x4096x1024, .f32⟩
  | 17 => ⟨S_, .f32⟩
  | 18 => ⟨S8x4096x1024, .f32⟩
  | 19 => ⟨S8x4096x1024, .f32⟩
  | 20 => ⟨S_, .f32⟩
  | 21 => ⟨S8x4096x1024, .f32⟩
  | 22 => ⟨S8x4096x1024, .f32⟩
  | 23 => ⟨S8x4096x1024, .f32⟩
  | 24 => ⟨S32768x1024, .f32⟩
  | 25 => ⟨S32768x1024, .bf16⟩
  | _ => ⟨S32768x15360, .bf16⟩

abbrev hbmTy (i : Nat) : BufTy := match i / 128 with
  | 0 => hbmTy0_0 i
  | 1 => hbmTy0_1 i
  | 2 => hbmTy0_2 i
  | _ => ⟨S32768x15360, .bf16⟩

abbrev bufTy : (tb : Table) → Fin (tcTables nBuf tb) → BufTy
  | .hbm, ⟨i, _⟩ => hbmTy i
  | _, _ => ⟨S32768x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180 : Ref sig .tc := ⟨.hbm, 190, rfl⟩
abbrev main_v181 : Ref sig .tc := ⟨.hbm, 191, rfl⟩
abbrev main_v182 : Ref sig .tc := ⟨.hbm, 192, rfl⟩
abbrev main_v183 : Ref sig .tc := ⟨.hbm, 193, rfl⟩
abbrev main_v184 : Ref sig .tc := ⟨.hbm, 194, rfl⟩
abbrev main_v185 : Ref sig .tc := ⟨.hbm, 195, rfl⟩
abbrev main_v186 : Ref sig .tc := ⟨.hbm, 196, rfl⟩
abbrev main_v187 : Ref sig .tc := ⟨.hbm, 197, rfl⟩
abbrev main_v188 : Ref sig .tc := ⟨.hbm, 198, rfl⟩
abbrev main_v189 : Ref sig .tc := ⟨.hbm, 199, rfl⟩
abbrev main_v190 : Ref sig .tc := ⟨.hbm, 200, rfl⟩
abbrev main_v191 : Ref sig .tc := ⟨.hbm, 201, rfl⟩
abbrev main_v192 : Ref sig .tc := ⟨.hbm, 202, rfl⟩
abbrev main_v193 : Ref sig .tc := ⟨.hbm, 203, rfl⟩
abbrev main_v194 : Ref sig .tc := ⟨.hbm, 204, rfl⟩
abbrev main_v195 : Ref sig .tc := ⟨.hbm, 205, rfl⟩
abbrev main_v196 : Ref sig .tc := ⟨.hbm, 206, rfl⟩
abbrev main_v197 : Ref sig .tc := ⟨.hbm, 207, rfl⟩
abbrev main_v198 : Ref sig .tc := ⟨.hbm, 208, rfl⟩
abbrev main_v199 : Ref sig .tc := ⟨.hbm, 209, rfl⟩
abbrev main_v200 : Ref sig .tc := ⟨.hbm, 210, rfl⟩
abbrev main_v201 : Ref sig .tc := ⟨.hbm, 211, rfl⟩
abbrev main_v202 : Ref sig .tc := ⟨.hbm, 212, rfl⟩
abbrev main_v203 : Ref sig .tc := ⟨.hbm, 213, rfl⟩
abbrev main_v204 : Ref sig .tc := ⟨.hbm, 214, rfl⟩
abbrev main_v205 : Ref sig .tc := ⟨.hbm, 215, rfl⟩
abbrev main_v206 : Ref sig .tc := ⟨.hbm, 216, rfl⟩
abbrev main_v207 : Ref sig .tc := ⟨.hbm, 217, rfl⟩
abbrev main_v208 : Ref sig .tc := ⟨.hbm, 218, rfl⟩
abbrev main_v209 : Ref sig .tc := ⟨.hbm, 219, rfl⟩
abbrev main_v210 : Ref sig .tc := ⟨.hbm, 220, rfl⟩
abbrev main_v211 : Ref sig .tc := ⟨.hbm, 221, rfl⟩
abbrev main_v212 : Ref sig .tc := ⟨.hbm, 222, rfl⟩
abbrev main_v213 : Ref sig .tc := ⟨.hbm, 223, rfl⟩
abbrev main_v214 : Ref sig .tc := ⟨.hbm, 224, rfl⟩
abbrev main_v215 : Ref sig .tc := ⟨.hbm, 225, rfl⟩
abbrev main_v216 : Ref sig .tc := ⟨.hbm, 226, rfl⟩
abbrev main_v217 : Ref sig .tc := ⟨.hbm, 227, rfl⟩
abbrev main_v218 : Ref sig .tc := ⟨.hbm, 228, rfl⟩
abbrev main_v219 : Ref sig .tc := ⟨.hbm, 229, rfl⟩
abbrev main_v220 : Ref sig .tc := ⟨.hbm, 230, rfl⟩
abbrev main_v221 : Ref sig .tc := ⟨.hbm, 231, rfl⟩
abbrev main_v222 : Ref sig .tc := ⟨.hbm, 232, rfl⟩
abbrev main_v223 : Ref sig .tc := ⟨.hbm, 233, rfl⟩
abbrev main_v224 : Ref sig .tc := ⟨.hbm, 234, rfl⟩
abbrev main_v225 : Ref sig .tc := ⟨.hbm, 235, rfl⟩
abbrev main_v226 : Ref sig .tc := ⟨.hbm, 236, rfl⟩
abbrev main_v227 : Ref sig .tc := ⟨.hbm, 237, rfl⟩
abbrev main_v228 : Ref sig .tc := ⟨.hbm, 238, rfl⟩
abbrev main_v229 : Ref sig .tc := ⟨.hbm, 239, rfl⟩
abbrev main_v230 : Ref sig .tc := ⟨.hbm, 240, rfl⟩
abbrev main_v231 : Ref sig .tc := ⟨.hbm, 241, rfl⟩
abbrev main_v232 : Ref sig .tc := ⟨.hbm, 242, rfl⟩
abbrev main_v233 : Ref sig .tc := ⟨.hbm, 243, rfl⟩
abbrev main_cst_2 : Ref sig .tc := ⟨.hbm, 244, rfl⟩
abbrev main_v234 : Ref sig .tc := ⟨.hbm, 245, rfl⟩
abbrev main_v235 : Ref sig .tc := ⟨.hbm, 246, rfl⟩
abbrev main_cst_3 : Ref sig .tc := ⟨.hbm, 247, rfl⟩
abbrev main_v236 : Ref sig .tc := ⟨.hbm, 248, rfl⟩
abbrev main_v237 : Ref sig .tc := ⟨.hbm, 249, rfl⟩
abbrev main_v238 : Ref sig .tc := ⟨.hbm, 250, rfl⟩
abbrev main_v239 : Ref sig .tc := ⟨.hbm, 251, rfl⟩
abbrev main_v240 : Ref sig .tc := ⟨.hbm, 252, rfl⟩
abbrev main_cst_4 : Ref sig .tc := ⟨.hbm, 253, rfl⟩
abbrev main_v241 : Ref sig .tc := ⟨.hbm, 254, rfl⟩
abbrev main_v242 : Ref sig .tc := ⟨.hbm, 255, rfl⟩
abbrev main_cst_5 : Ref sig .tc := ⟨.hbm, 256, rfl⟩
abbrev main_v243 : Ref sig .tc := ⟨.hbm, 257, rfl⟩
abbrev main_v244 : Ref sig .tc := ⟨.hbm, 258, rfl⟩
abbrev main_cst_6 : Ref sig .tc := ⟨.hbm, 259, rfl⟩
abbrev main_v245 : Ref sig .tc := ⟨.hbm, 260, rfl⟩
abbrev main_v246 : Ref sig .tc := ⟨.hbm, 261, rfl⟩
abbrev main_v247 : Ref sig .tc := ⟨.hbm, 262, rfl⟩
abbrev main_v248 : Ref sig .tc := ⟨.hbm, 263, rfl⟩
abbrev main_v249 : Ref sig .tc := ⟨.hbm, 264, rfl⟩
abbrev main_v250 : Ref sig .tc := ⟨.hbm, 265, rfl⟩
abbrev main_v251 : Ref sig .tc := ⟨.hbm, 266, rfl⟩
abbrev main_v252 : Ref sig .tc := ⟨.hbm, 267, rfl⟩
abbrev main_v253 : Ref sig .tc := ⟨.hbm, 268, rfl⟩
abbrev main_v254 : Ref sig .tc := ⟨.hbm, 269, rfl⟩
abbrev main_v255 : Ref sig .tc := ⟨.hbm, 270, rfl⟩
abbrev main_call1_v0 : Ref sig .tc := ⟨.hbm, 271, rfl⟩
abbrev main_call1_v1 : Ref sig .tc := ⟨.hbm, 272, rfl⟩
abbrev main_call1_cst : Ref sig .tc := ⟨.hbm, 273, rfl⟩
abbrev main_call1_v2 : Ref sig .tc := ⟨.hbm, 274, rfl⟩
abbrev main_call1_v3 : Ref sig .tc := ⟨.hbm, 275, rfl⟩
abbrev main_call1_cst_0 : Ref sig .tc := ⟨.hbm, 276, rfl⟩
abbrev main_call1_v4 : Ref sig .tc := ⟨.hbm, 277, rfl⟩
abbrev main_call1_v5 : Ref sig .tc := ⟨.hbm, 278, rfl⟩
abbrev main_v256 : Ref sig .tc := ⟨.hbm, 279, rfl⟩
abbrev main_v257 : Ref sig .tc := ⟨.hbm, 280, rfl⟩
abbrev main_v258 : Ref sig .tc := ⟨.hbm, 281, rfl⟩

abbrev nD : Nat := 1
abbrev τ : Topo := Topo.v7x

variable {F : FTy → Type} [FloatOps F]
-- ==== Proof.AttnMath.lean ====
module

public import Idealize.ShloMosaic.Lib.Pointwise

/-! The sums of a softmax taken block by block, over the extended reals. -/

@[expose] public section

noncomputable section
namespace Cert.Proof.AttnMath
open Idealize.ShloMosaic

/-- The weight of a score as a real number: its exponential, and zero for a masked score. -/
def ew (s : EReal) : ℝ := (Ideal.exp s).toReal

theorem ew_bot : ew ⊥ = 0 := by simp [ew]
theorem ew_coe (x : ℝ) : ew (x : EReal) = Real.exp x := by simp [ew]
theorem ew_nonneg (s : EReal) : 0 ≤ ew s := by
  induction s with
  | bot => simp [ew]
  | top => simp [ew]
  | coe x => rw [ew_coe]; exact (Real.exp_pos x).le

/-- The exponential of a score less a real shift is the weight times the exponential of the negated shift. -/
theorem exp_sub_coe {s : EReal} (hs : s ≠ ⊤) (r : ℝ) :
    Ideal.exp (s - (r : EReal)) = ((Real.exp (-r) * ew s : ℝ) : EReal) := by
  induction s with
  | bot => rw [ew_bot]; simp
  | top => exact absurd rfl hs
  | coe x =>
    rw [ew_coe, ← EReal.coe_sub, Ideal.exp_coe, ← Real.exp_add]
    congr 2; ring

theorem neg_inf_word : Ideal.ofBits .f32 4286578688#32 = ⊥ := by
  simp [Ideal.ofBits, Ideal.ieee, -EReal.coe_mul]

/-- The largest entry of a row, from negative infinity. -/
def mx {ι : Type} [Fintype ι] (s : ι → EReal) : EReal :=
  Finset.fold max (Ideal.ofBits .f32 4286578688#32) s Finset.univ

theorem mx_eq {ι : Type} [Fintype ι] (s : ι → EReal) : mx s = Finset.univ.sup s := by
  unfold mx; rw [neg_inf_word]; rfl

theorem mx_real {ι : Type} [Fintype ι] (s : ι → EReal) (ht : ∀ j, s j ≠ ⊤) (hb : ∃ j, s j ≠ ⊥) :
    ∃ r : ℝ, mx s = (r : EReal) := by
  have h1 : mx s ≠ ⊤ := by
    rw [mx_eq]
    apply ne_of_lt
    rw [Finset.sup_lt_iff (by exact bot_lt_top)]
    exact fun j _ => lt_top_iff_ne_top.mpr (ht j)
  have h2 : mx s ≠ ⊥ := by
    obtain ⟨j, hj⟩ := hb
    rw [mx_eq]
    intro h
    have := Finset.le_sup (f := s) (Finset.mem_univ j)
    rw [h] at this
    exact hj (le_bot_iff.mp this)
  exact ⟨(mx s).toReal, (EReal.coe_toReal h1 h2).symm⟩

theorem coe_sum {ι : Type} (S : Finset ι) (f : ι → ℝ) :
    (∑ j ∈ S, (f j : EReal)) = ((∑ j ∈ S, f j : ℝ) : EReal) := by
  classical
  induction S using Finset.induction_on with
  | empty => simp
  | insert a S ha ih => rw [Finset.sum_insert ha, Finset.sum_insert ha, ih, EReal.coe_add]

/-- The running maximum and the running sum agree with an unshifted sum: either nothing has been seen, or the
    maximum is a real number and the sum is the unshifted one times the exponential of the negated maximum. -/
def Inv (M A : EReal) (W : ℝ) : Prop :=
  (M = ⊥ ∧ A = 0 ∧ W = 0) ∨ ∃ r : ℝ, M = (r : EReal) ∧ A = ((Real.exp (-r) * W : ℝ) : EReal)

/-- One block of keys keeps the running maximum and sum right. -/
theorem step {ι : Type} [Fintype ι] {M A : EReal} {W : ℝ} (h : Inv M A W) (s v : ι → EReal) (vr : ι → ℝ)
    (ht : ∀ j, s j ≠ ⊤) (hb : ∃ j, s j ≠ ⊥) (hv : ∀ j, v j = (vr j : EReal)) :
    ∃ r : ℝ, max M (mx s) = (r : EReal) ∧
      Ideal.exp (M - max M (mx s)) * A + ∑ j, Ideal.exp (s j - max M (mx s)) * v j
        = ((Real.exp (-r) * (W + ∑ j, ew (s j) * vr j) : ℝ) : EReal) := by
  obtain ⟨x, hx⟩ := mx_real s ht hb
  have key : ∀ r : ℝ, (∑ j, Ideal.exp (s j - (r : EReal)) * v j)
      = ((Real.exp (-r) * ∑ j, ew (s j) * vr j : ℝ) : EReal) := by
    intro r
    rw [Finset.mul_sum, ← coe_sum]
    refine Finset.sum_congr rfl fun j _ => ?_
    rw [exp_sub_coe (ht j), hv, ← EReal.coe_mul, mul_assoc]
  rcases h with ⟨hM, hA, hW⟩ | ⟨m, hM, hA⟩
  · refine ⟨x, ?_, ?_⟩
    · rw [hM, hx]; exact max_eq_right bot_le
    · rw [hM, hx, max_eq_right bot_le, key, hA, hW, mul_zero, zero_add, zero_add]
  · have hmax : max M (mx s) = ((max m x : ℝ) : EReal) := by rw [hM, hx]; exact (EReal.coe_strictMono.monotone.map_max).symm
    refine ⟨max m x, hmax, ?_⟩
    rw [hmax, key, hM, hA, ← EReal.coe_sub, Ideal.exp_coe, ← EReal.coe_mul, ← EReal.coe_add]
    congr 1
    rw [mul_add, ← mul_assoc, ← Real.exp_add]
    congr 3
    ring

theorem step_inv {ι : Type} [Fintype ι] {M A : EReal} {W : ℝ} (h : Inv M A W) (s v : ι → EReal) (vr : ι → ℝ)
    (ht : ∀ j, s j ≠ ⊤) (hb : ∃ j, s j ≠ ⊥) (hv : ∀ j, v j = (vr j : EReal)) :
    Inv (max M (mx s)) (Ideal.exp (M - max M (mx s)) * A + ∑ j, Ideal.exp (s j - max M (mx s)) * v j)
      (W + ∑ j, ew (s j) * vr j) :=
  Or.inr (step h s v vr ht hb hv)

/-- The quotient of two running sums is the quotient of the unshifted ones. -/
theorem div_shift {N D : ℝ} (r : ℝ) (hD : D ≠ 0) :
    Ideal.div ((Real.exp (-r) * N : ℝ) : EReal) ((Real.exp (-r) * D : ℝ) : EReal) = ((N / D : ℝ) : EReal) := by
  have he : Real.exp (-r) ≠ 0 := (Real.exp_pos _).ne'
  rw [Ideal.div_coe (mul_ne_zero he hD), ← EReal.coe_mul]
  congr 1
  field_simp

end Cert.Proof.AttnMath
-- ==== Proof.AttnPay.lean ====
module

public import proofs.«01_k».proof.Defs
public import proofs.«01_k».proof.Proof.Gen.AttnIdeal.Value
public import Idealize.ShloMosaic.Lib.Pointwise
public import proofs.«01_k».proof.Proof.AttnMath
public import Idealize.ShloMosaic.Lib.IdealHost
public import Idealize.ShloMosaic.Lib.Claim

@[expose] public section

set_option maxRecDepth 16384

noncomputable section

namespace Cert.Proof.Attn

open Idealize.ShloMosaic Idealize.ShloMosaic.TcCoe Idealize.ShloMosaic.Tactic Idealize.SL.Sem
open Idealize.ShloMosaic.Pipeline (Dat)
open Cert.AttnIdeal Cert.AttnIdeal.Gen

open Cert.Proof.AttnMath

/-- A score: the product of a query row with a key row. -/
def score (q : Vec Ideal S512x128 .bf16) (kb : Vec Ideal S512x128 .bf16) (r j : Fin 512) : EReal :=
  ∑ d : Fin 128, q (ix2 r d) * kb (ix2 j d)

/-- A masked score. -/
def mscore (mask : IVec S512x512 1) (q : Vec Ideal S512x128 .bf16) (kb : Vec Ideal S512x128 .bf16) (r j : Fin 512) : EReal :=
  Scalar.select (mask (ix2 r j)) (score q kb r j) (Named.named κ "mask" 0xF149F2CA#32 : Ideal .f32)

/-- The running maximum after a block of scores. -/
def newMax (m : EReal) (s : Fin 512 → EReal) : EReal := max m (mx s)

/-- The running sum after a block of scores. -/
def newAcc (m a : EReal) (s v : Fin 512 → EReal) : EReal :=
  Ideal.exp (m - newMax m s) * a + ∑ j, Ideal.exp (s j - newMax m s) * v j

section
variable (q kb : Vec Ideal S512x128 .bf16) (vb : Vec Ideal S512x256 .bf16) (m : Vec Ideal S1x512x1 .f32)
  (a : Vec Ideal S1x512x256 .f32) (r : Fin 512) (d : Fin 256)

theorem pay7_apply : k0_pay7 q kb m (ix3 (0 : Fin 1) r (0 : Fin 1)) = newMax (m (ix3 0 r 0)) (score q kb r) := by
  pointwise [k0_pay7, k0_pay5, k0_pay4, k0_pay3]; rfl
theorem pay6_apply : k0_pay6 q kb vb m a (ix3 (0 : Fin 1) r d)
    = newAcc (m (ix3 0 r 0)) (a (ix3 0 r d)) (score q kb r) (fun j => vb (ix2 j d)) := by
  pointwise [k0_pay6, k0_pay5, k0_pay4, k0_pay3]; rfl
theorem pay28_apply : k0_pay28 (k0_pay9 m) (k0_pay10 q kb) (ix3 (0 : Fin 1) r (0 : Fin 1))
    = newMax (m (ix3 0 r 0)) (score q kb r) := by
  pointwise [k0_pay28, k0_pay26, k0_pay9, k0_pay10, k0_pay8]; rfl
theorem pay27_apply : k0_pay27 vb (k0_pay8 q kb) (k0_pay9 m) (k0_pay10 q kb) a (ix3 (0 : Fin 1) r d)
    = newAcc (m (ix3 0 r 0)) (a (ix3 0 r d)) (score q kb r) (fun j => vb (ix2 j d)) := by
  pointwise [k0_pay27, k0_pay26, k0_pay9, k0_pay10, k0_pay8]; rfl

theorem pay41_apply (w1 w2 : IVec S512x512 32) : k0_pay41 (k0_pay37 q kb w1 w2 64#32 m) (ix3 (0 : Fin 1) r (0 : Fin 1))
    = newMax (m (ix3 0 r 0)) (mscore (k0_pay34 w1 w2 64#32) q kb r) := by
  pointwise [k0_pay41, k0_pay37, k0_pay36, k0_pay35]; rfl
theorem pay40_apply (w1 w2 : IVec S512x512 32) :
    k0_pay40 (k0_pay38 q kb w1 w2 64#32 m a) (k0_pay39 q kb vb w1 w2 64#32 m) (ix3 (0 : Fin 1) r d)
    = newAcc (m (ix3 0 r 0)) (a (ix3 0 r d)) (mscore (k0_pay34 w1 w2 64#32) q kb r) (fun j => vb (ix2 j d)) := by
  pointwise [k0_pay40, k0_pay38, k0_pay39, k0_pay37, k0_pay36, k0_pay35]; rfl
theorem pay46_apply (w : IVec S512x512 1) : k0_pay46 q kb w m (ix3 (0 : Fin 1) r (0 : Fin 1))
    = newMax (m (ix3 0 r 0)) (mscore w q kb r) := by
  pointwise [k0_pay46, k0_pay44, k0_pay43, k0_pay42]; rfl
theorem pay45_apply (w : IVec S512x512 1) :
    k0_pay45 q kb vb w m a (ix3 (0 : Fin 1) r d)
    = newAcc (m (ix3 0 r 0)) (a (ix3 0 r d)) (mscore w q kb r) (fun j => vb (ix2 j d)) := by
  pointwise [k0_pay45, k0_pay44, k0_pay43, k0_pay42]; rfl
end

theorem pay32_apply (b : Fin 8) (r j : Fin 512) :
    k0_pay32 (BitVec.ofNat 32 b.val) (ix2 r j) = BitVec.ofNat 32 (b.val * 8 + r.val / 64) := by
  pointwise [k0_pay32]
  revert b r; decide +kernel
theorem pay33_apply (b : Fin 8) (r j : Fin 512) :
    k0_pay33 (BitVec.ofNat 32 b.val) (ix2 r j) = BitVec.ofNat 32 (b.val * 512 + j.val) := by
  pointwise [k0_pay33]
  revert b j; decide +kernel
theorem mask_apply (b : Fin 8) (r j : Fin 512) :
    k0_pay34 (k0_pay32 (BitVec.ofNat 32 b.val)) (k0_pay33 (BitVec.ofNat 32 b.val)) 64#32 (ix2 r j)
      = if j.val / 64 ≤ r.val / 64 then 1#1 else 0#1 := by
  pointwise [k0_pay34]
  rw [pay32_apply, pay33_apply]
  have hr : r.val / 64 < 8 := by omega
  generalize r.val / 64 = x at hr
  obtain ⟨x, rfl⟩ : ∃ y : Fin 8, x = y.val := ⟨⟨x, hr⟩, rfl⟩
  clear hr
  revert b x j; decide +kernel

/-- Whether a lane is among the first eight of its group of sixty-four, as the kernel computes it. -/
def laneSel (d : Nat) : BitVec 1 :=
  (IntOp.cmpi CmpIPredicate.slt (Scalar.select (IntOp.andi (IntOp.xori (IntOp.cmpi CmpIPredicate.slt (IntOp.remsi ArithUnit.vector (BitVec.ofNat 32 d) (Scalar.select (Scalar.cmpi CmpIPredicate.eq 64#32 0#32) 1#32 64#32)) 0#32) (Scalar.cmpi CmpIPredicate.slt (Scalar.select (Scalar.cmpi CmpIPredicate.eq 64#32 0#32) 1#32 64#32) 0#32)) (IntOp.cmpi CmpIPredicate.ne (IntOp.remsi ArithUnit.vector (BitVec.ofNat 32 d) (Scalar.select (Scalar.cmpi CmpIPredicate.eq 64#32 0#32) 1#32 64#32)) 0#32)) (IntOp.addi (IntOp.remsi ArithUnit.vector (BitVec.ofNat 32 d) (Scalar.select (Scalar.cmpi CmpIPredicate.eq 64#32 0#32) 1#32 64#32)) (Scalar.select (Scalar.cmpi CmpIPredicate.eq 64#32 0#32) 1#32 64#32)) (IntOp.remsi ArithUnit.vector (BitVec.ofNat 32 d) (Scalar.select (Scalar.cmpi CmpIPredicate.eq 64#32 0#32) 1#32 64#32))) 8#32)

theorem laneSel_eq : ∀ d : Fin 128, laneSel d.val = if d.val % 64 < 8 then 1#1 else 0#1 := by decide +kernel

theorem select_lane {α : Type} (d : Fin 128) (x y : α) :
    Scalar.select (laneSel d.val) x y = if d.val % 64 < 8 then x else y := by
  rw [laneSel_eq]; split <;> simp [Scalar.select]

/-- The lane a rotated lane is paired with. -/
def partner (d : Fin 128) : Fin 128 :=
  if d.val % 64 < 8 then ⟨(d.val + 8) % 128, Nat.mod_lt _ (by norm_num)⟩ else ⟨(d.val + 120) % 128, Nat.mod_lt _ (by norm_num)⟩

theorem pay21_apply (x : Vec Ideal S512x128 .bf16) (ct st : Vec Ideal S1x512x128 .f32) (r : Fin 512) (d : Fin 128) :
   k0_pay21 x ct st (ix2 r d) = (x (ix2 r d) * ct (ix3 0 r d) + x (ix2 r (partner d)) * st (ix3 0 r d)) * Ideal.ofBits FTy.f32 1040187392#32 := by
  pointwise [k0_pay21]
  rw [partner]
  refine congrArg (fun y => (x (ix2 r d) * ct (ix3 0 r d) + y * st (ix3 0 r d)) * Ideal.ofBits FTy.f32 1040187392#32) ((select_lane d _ _).trans ?_)
  split <;> (congr 3)
theorem pay2_apply (x : Vec Ideal S4096x128 .bf16) (ct st : Vec Ideal S1x4096x128 .f32) (r : Fin 4096) (d : Fin 128) :
   k0_pay2 x ct st (ix2 r d) = x (ix2 r d) * ct (ix3 0 r d) + x (ix2 r (partner d)) * st (ix3 0 r d) := by
  pointwise [k0_pay2]
  rw [partner]
  refine congrArg (fun y => x (ix2 r d) * ct (ix3 0 r d) + y * st (ix3 0 r d)) ((select_lane d _ _).trans ?_)
  split <;> (congr 3)

theorem lt64 : ∀ d : Fin 128, IntOp.cmpi CmpIPredicate.slt (BitVec.ofNat 32 d.val) 64#32 = if d.val < 64 then 1#1 else 0#1 := by decide +kernel
theorem ge64 : ∀ d : Fin 128, IntOp.cmpi CmpIPredicate.sge (BitVec.ofNat 32 d.val) 64#32 = if d.val < 64 then 0#1 else 1#1 := by decide +kernel
theorem pay22_apply (x : FVec Ideal S512x128 .f32) (r : Fin 512) (d : Fin 128) :
   k0_pay22 x (ix2 r d) = if d.val < 64 then x (ix2 r d) else 0 := by
  pointwise [k0_pay22]
  rw [lt64]; split <;> simp [Scalar.select]
theorem pay23_apply (x : FVec Ideal S512x128 .f32) (r : Fin 512) (d : Fin 128) :
   k0_pay23 x (ix2 r d) = if d.val < 64 then 0 else x (ix2 r d) := by
  pointwise [k0_pay23]
  rw [ge64]; split <;> simp [Scalar.select]
theorem pay1_apply (l : EReal) (x : FVec Ideal S512x128 .f32) (g : Vec Ideal S1x128 .f32) (r : Fin 512) (d : Fin 128) :
   k0_pay1 (F := Ideal) l x (k0_pay48 g) (ix2 r d) = x (ix2 r d) * g (ix2 0 d) * (1 - l) := by
  pointwise [k0_pay1, k0_pay48]

/-- The weight of the second attention map. -/
def lamOf (x : Vec Ideal S4x64 .f32) (l : EReal) : EReal :=
  Ideal.exp (∑ j, x (ix2 0 j) * x (ix2 1 j)) - Ideal.exp (∑ j, x (ix2 2 j) * x (ix2 3 j)) + l

/-- The difference of the two attention maps' results, from the running sums: lane 128 carries the sum of weights. -/
def diffOf (lam : EReal) (a0 a1 : Vec Ideal S1x512x256 .f32) (r : Fin 512) (d : Fin 128) : EReal :=
  Ideal.div (a0 (ix3 0 r ⟨d.val, by omega⟩)) (a0 (ix3 0 r 128)) - lam * Ideal.div (a1 (ix3 0 r ⟨d.val, by omega⟩)) (a1 (ix3 0 r 128))

/-- The root-mean-square normalization of a row of 128. -/
def normed (o : Fin 128 → EReal) (d : Fin 128) : EReal :=
  o d * Ideal.rsqrt (Ideal.div (∑ e, o e * o e) (Ideal.ofBits FTy.f32 1124073472#32) + Ideal.ofBits FTy.f32 897988541#32)

theorem pay47_apply (l : EReal) (x : Vec Ideal S4x64 .f32) (a0 a1 : Vec Ideal S1x512x256 .f32) (r : Fin 512) (d : Fin 128) :
   k0_pay47 (F := Ideal) l x a0 a1 (ix2 r d) = normed (diffOf (lamOf x l) a0 a1 r) d := by
  pointwise [k0_pay47]; rfl

theorem pay24_apply (i : S2x512x256.Idx) : k0_pay24 (F := Ideal) i = 0 := by
  unfold k0_pay24; exact Ideal.ofBits_zero_f32
theorem pay25_apply (i : S2x512x1.Idx) : k0_pay25 (F := Ideal) i = ⊥ := by
  unfold k0_pay25; exact IdealRules.named_const.ideal_named_scalar _ _ _ _ rfl
theorem pay20_apply (i : S4096x128.Idx) : k0_pay20 (F := Ideal) i = 1 := by
  unfold k0_pay20; exact Ideal.ofBits_one_bf16
theorem pay19_apply (x : Vec Ideal S4096x128 .bf16) (r : Fin 4096) (d : Fin 128) : k0_pay19 x (ix2 r d) = x (ix2 r d) := by
  pointwise [k0_pay19]
end Cert.Proof.Attn
-- ==== Proof.AttnRun.lean ====
module

public import proofs.«01_k».proof.Defs
public import proofs.«01_k».proof.Proof.Gen.AttnIdeal.Value
public import Idealize.ShloMosaic.Lib.Pointwise
public import Idealize.ShloMosaic.Lib.WritesUnit
public import proofs.«01_k».proof.Proof.AttnPay
public import Idealize.ShloMosaic.Lib.Claim

@[expose] public section

set_option maxRecDepth 16384

noncomputable section

namespace Cert.Proof.Attn

open Idealize.ShloMosaic Idealize.ShloMosaic.TcCoe Idealize.ShloMosaic.Tactic Idealize.SL.Sem
open Idealize.ShloMosaic.Pipeline (Dat)
open Cert.AttnIdeal Cert.AttnIdeal.Gen

open Cert.Proof.AttnMath

section Trip
variable (c : Dev nD) (i : grid0.Coords) (arg3 : Memref sig .tc .smem S1 .f32) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S4x64 .f32) (harg11 : arg11.IsWhole) (arg12 : Memref sig .tc .vmem S1x128 .f32) (harg12 : arg12.IsWhole) (arg13 : Memref sig .tc .vmem S512x128 .bf16) (harg13 : arg13.IsWhole) (arg14 : Memref sig .tc .vmem S4096x128 .bf16) (harg14 : arg14.IsWhole) (arg15 : Memref sig .tc .vmem S4096x256 .bf16) (harg15 : arg15.IsWhole) (arg16 : Memref sig .tc .vmem S2x512x256 .f32) (harg16 : arg16.IsWhole) (arg17 : Memref sig .tc .vmem S2x512x1 .f32) (harg17 : arg17.IsWhole)
    (arg2 : BitVec 32) (v41 v46 : FVec Ideal S512x128 .bf16) (v72 : BitVec 32)
    (X14 : BufTy.Contents (Elt Ideal) arg14.view.ty) (X15 : BufTy.Contents (Elt Ideal) arg15.view.ty)

/-- The running sums held in the first carried buffer, of one map, row and lane. -/
abbrev RA (arg16 : Memref sig .tc .vmem S2x512x256 .f32) (f : BufTy.Contents (Elt Ideal) arg16.view.ty) (C : Fin 2) (r : Fin 512) (d : Fin 256) : EReal :=
  arg16.view.read (Elt Ideal) f (ix3 C r d)
/-- The running maximum held in the second carried buffer, of one map and row. -/
abbrev RM (arg17 : Memref sig .tc .vmem S2x512x1 .f32) (f : BufTy.Contents (Elt Ideal) arg17.view.ty) (C : Fin 2) (r : Fin 512) : EReal :=
  arg17.view.read (Elt Ideal) f (ix3 C r (0 : Fin 1))

/-- The map's queries. -/
def qOf (v41 v46 : FVec Ideal S512x128 .bf16) (C : Fin 2) : FVec Ideal S512x128 .bf16 := if C = 0 then v41 else v46

/-- Two pieces written over the carried sums, one per map. -/
theorem RA_two (f : BufTy.Contents (Elt Ideal) arg16.view.ty) (w1 w0 : Vec Ideal S1x512x256 .f32) (L : List (View.Piece (Elt Ideal) S2x512x256 .f32)) (C : Fin 2) (r : Fin 512) (d : Fin 256) :
    RA arg16 (arg16.view.writes (Elt Ideal) f
      ((⟨Rect.unit (s := S2x512x256) ![1, 0, 0] S1x512x256.size inb_S2x512x256_S1x512x256_1_0_0, w1⟩ : View.Piece (Elt Ideal) S2x512x256 .f32)
        :: (⟨Rect.unit (s := S2x512x256) ![0, 0, 0] S1x512x256.size inb_S2x512x256_S1x512x256_0_0_0, w0⟩ : View.Piece (Elt Ideal) S2x512x256 .f32) :: L)) C r d
      = if C = 0 then w0 (ix3 (0 : Fin 1) r d) else w1 (ix3 (0 : Fin 1) r d) := by
  match C with
  | 0 =>
    rw [if_pos rfl]
    refine (View.read_writes_cons_unit_of_not_mem arg16.view f _ w1 _ (ix3 (0 : Fin 2) r d) rfl (0 : Fin 3) (Or.inl (by simp [ix3]))).trans ?_
    exact View.read_writes_cons_unit_of_mem arg16.view f _ w0 L (ix3 (0 : Fin 2) r d) (ix3 (0 : Fin 1) r d) rfl (by
      intro a; fin_cases a <;> simp [ix3])
  | 1 =>
    rw [if_neg (by decide)]
    exact View.read_writes_cons_unit_of_mem arg16.view f _ w1 _ (ix3 (1 : Fin 2) r d) (ix3 (0 : Fin 1) r d) rfl (by
      intro a; fin_cases a <;> simp [ix3])

/-- Two pieces written over the carried maxima, one per map. -/
theorem RM_two (f : BufTy.Contents (Elt Ideal) arg17.view.ty) (w1 w0 : Vec Ideal S1x512x1 .f32) (L : List (View.Piece (Elt Ideal) S2x512x1 .f32)) (C : Fin 2) (r : Fin 512) :
    RM arg17 (arg17.view.writes (Elt Ideal) f
      ((⟨Rect.unit (s := S2x512x1) ![1, 0, 0] S1x512x1.size inb_S2x512x1_S1x512x1_1_0_0, w1⟩ : View.Piece (Elt Ideal) S2x512x1 .f32)
        :: (⟨Rect.unit (s := S2x512x1) ![0, 0, 0] S1x512x1.size inb_S2x512x1_S1x512x1_0_0_0, w0⟩ : View.Piece (Elt Ideal) S2x512x1 .f32) :: L)) C r
      = if C = 0 then w0 (ix3 (0 : Fin 1) r (0 : Fin 1)) else w1 (ix3 (0 : Fin 1) r (0 : Fin 1)) := by
  match C with
  | 0 =>
    rw [if_pos rfl]
    refine (View.read_writes_cons_unit_of_not_mem arg17.view f _ w1 _ (ix3 (0 : Fin 2) r (0 : Fin 1)) rfl (0 : Fin 3) (Or.inl (by simp [ix3]))).trans ?_
    exact View.read_writes_cons_unit_of_mem arg17.view f _ w0 L (ix3 (0 : Fin 2) r (0 : Fin 1)) (ix3 (0 : Fin 1) r (0 : Fin 1)) rfl (by
      intro a; fin_cases a <;> simp [ix3])
  | 1 =>
    rw [if_neg (by decide)]
    exact View.read_writes_cons_unit_of_mem arg17.view f _ w1 _ (ix3 (1 : Fin 2) r (0 : Fin 1)) (ix3 (0 : Fin 1) r (0 : Fin 1)) rfl (by
      intro a; fin_cases a <;> simp [ix3])

/-- A load of one map's sums reads the carried buffer. -/
theorem ld16_0 (f : BufTy.Contents (Elt Ideal) arg16.view.ty) (r : Fin 512) (d : Fin 256) :
    View.readAt (Elt Ideal) arg16.view (Rect.unit (s := S2x512x256) ![0, 0, 0] S1x512x256.size inb_S2x512x256_S1x512x256_0_0_0).toLoadRect f (ix3 (0 : Fin 1) r d) = RA arg16 f 0 r d := by
  refine congrArg (arg16.view.read (Elt Ideal) f) (funext fun a => Fin.ext ?_)
  fin_cases a <;> simp [ix3]
theorem ld16_1 (f : BufTy.Contents (Elt Ideal) arg16.view.ty) (r : Fin 512) (d : Fin 256) :
    View.readAt (Elt Ideal) arg16.view (Rect.unit (s := S2x512x256) ![1, 0, 0] S1x512x256.size inb_S2x512x256_S1x512x256_1_0_0).toLoadRect f (ix3 (0 : Fin 1) r d) = RA arg16 f 1 r d := by
  refine congrArg (arg16.view.read (Elt Ideal) f) (funext fun a => Fin.ext ?_)
  fin_cases a <;> simp [ix3]
theorem ld17_0 (f : BufTy.Contents (Elt Ideal) arg17.view.ty) (r : Fin 512) :
    View.readAt (Elt Ideal) arg17.view (Rect.unit (s := S2x512x1) ![0, 0, 0] S1x512x1.size inb_S2x512x1_S1x512x1_0_0_0).toLoadRect f (ix3 (0 : Fin 1) r (0 : Fin 1)) = RM arg17 f 0 r := by
  refine congrArg (arg17.view.read (Elt Ideal) f) (funext fun a => Fin.ext ?_)
  fin_cases a <;> simp [ix3]
theorem ld17_1 (f : BufTy.Contents (Elt Ideal) arg17.view.ty) (r : Fin 512) :
    View.readAt (Elt Ideal) arg17.view (Rect.unit (s := S2x512x1) ![1, 0, 0] S1x512x1.size inb_S2x512x1_S1x512x1_1_0_0).toLoadRect f (ix3 (0 : Fin 1) r (0 : Fin 1)) = RM arg17 f 1 r := by
  refine congrArg (arg17.view.read (Elt Ideal) f) (funext fun a => Fin.ext ?_)
  fin_cases a <;> simp [ix3]

/-- The keys a trip loads. -/
abbrev kbOf (k : Fin (k0_t1_loop i).trips) : Vec Ideal S512x128 .bf16 :=
  View.readAt (Elt Ideal) arg14.view (Rect.unit (s := S4096x128) (k0_off1 i k) S512x128.size (k0_off1_inb i k)).toLoadRect X14
/-- The values a trip loads. -/
abbrev vbOf (k : Fin (k0_t1_loop i).trips) : Vec Ideal S512x256 .bf16 :=
  View.readAt (Elt Ideal) arg15.view (Rect.unit (s := S4096x256) (k0_off2 i k) S512x256.size (k0_off2_inb i k)).toLoadRect X15

theorem trip16 (k : Fin (k0_t1_loop i).trips) (f16 : BufTy.Contents (Elt Ideal) arg16.view.ty) (f17 : BufTy.Contents (Elt Ideal) arg17.view.ty) (C : Fin 2) (r : Fin 512) (d : Fin 256) :
    RA arg16 (arg16.view.writes (Elt Ideal) f16 ((trip_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v41 v46 v72 X14 X15 k).1 f16 f17)) C r d
      = newAcc (RM arg17 f17 C r) (RA arg16 f16 C r d) (score (qOf v41 v46 C) (kbOf i arg14 X14 k) r) (fun j => vbOf i arg15 X15 k (ix2 j d)) := by
  unfold trip_k0_t1
  dsimp only
  sl_unfold_words
  refine (RA_two arg16 f16 (k0_pay27 (vbOf i arg15 X15 k) (k0_pay8 v46 (kbOf i arg14 X14 k)) (k0_pay9 (View.readAt (Elt Ideal) arg17.view (Rect.unit (s := S2x512x1) ![1, 0, 0] S1x512x1.size inb_S2x512x1_S1x512x1_1_0_0).toLoadRect f17)) (k0_pay10 v46 (kbOf i arg14 X14 k)) (View.readAt (Elt Ideal) arg16.view (Rect.unit (s := S2x512x256) ![1, 0, 0] S1x512x256.size inb_S2x512x256_S1x512x256_1_0_0).toLoadRect f16))
    (k0_pay6 v41 (kbOf i arg14 X14 k) (vbOf i arg15 X15 k) (View.readAt (Elt Ideal) arg17.view (Rect.unit (s := S2x512x1) ![0, 0, 0] S1x512x1.size inb_S2x512x1_S1x512x1_0_0_0).toLoadRect f17) (View.readAt (Elt Ideal) arg16.view (Rect.unit (s := S2x512x256) ![0, 0, 0] S1x512x256.size inb_S2x512x256_S1x512x256_0_0_0).toLoadRect f16)) [] C r d).trans ?_
  match C with
  | 0 => rw [if_pos rfl, pay6_apply, ld16_0, ld17_0]; rfl
  | 1 => rw [if_neg (by decide), pay27_apply, ld16_1, ld17_1]; rfl

theorem trip17 (k : Fin (k0_t1_loop i).trips) (f16 : BufTy.Contents (Elt Ideal) arg16.view.ty) (f17 : BufTy.Contents (Elt Ideal) arg17.view.ty) (C : Fin 2) (r : Fin 512) :
    RM arg17 (arg17.view.writes (Elt Ideal) f17 ((trip_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v41 v46 v72 X14 X15 k).2.1 f16 f17)) C r
      = newMax (RM arg17 f17 C r) (score (qOf v41 v46 C) (kbOf i arg14 X14 k) r) := by
  unfold trip_k0_t1
  dsimp only
  sl_unfold_words
  refine (RM_two arg17 f17 (k0_pay28 (k0_pay9 (View.readAt (Elt Ideal) arg17.view (Rect.unit (s := S2x512x1) ![1, 0, 0] S1x512x1.size inb_S2x512x1_S1x512x1_1_0_0).toLoadRect f17)) (k0_pay10 v46 (kbOf i arg14 X14 k)))
    (k0_pay7 v41 (kbOf i arg14 X14 k) (View.readAt (Elt Ideal) arg17.view (Rect.unit (s := S2x512x1) ![0, 0, 0] S1x512x1.size inb_S2x512x1_S1x512x1_0_0_0).toLoadRect f17)) [] C r).trans ?_
  match C with
  | 0 => rw [if_pos rfl, pay7_apply, ld17_0]; rfl
  | 1 => rw [if_neg (by decide), pay28_apply, ld17_1]; rfl

/-- The recursion over the trips. -/
abbrev pbOf (G16 : BufTy.Contents (Elt Ideal) arg16.view.ty) (G17 : BufTy.Contents (Elt Ideal) arg17.view.ty) (n : ℕ) :=
  pb_k0_t1 (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v41 v46 v72 X14 X15 G16 G17 n

theorem sum_block (g : ℕ → ℝ) (n : ℕ) :
    (∑ x ∈ Finset.range ((n + 1) * 512), g x) = (∑ x ∈ Finset.range (n * 512), g x) + ∑ j : Fin 512, g (n * 512 + j.val) := by
  rw [Nat.add_mul, Nat.one_mul, Finset.sum_range_add]
  exact congrArg _ (Finset.sum_range fun x => g (n * 512 + x))

/-- The carried sums and maxima after a number of trips: real scores, and the weighted sum of the keys seen. -/
theorem loop_inv (G16 : BufTy.Contents (Elt Ideal) arg16.view.ty) (G17 : BufTy.Contents (Elt Ideal) arg17.view.ty) (C : Fin 2) (r : Fin 512) (d : Fin 256)
    (h0 : Inv (RM arg17 G17 C r) (RA arg16 G16 C r d) 0)
    (s : ℕ → ℝ) (v : ℕ → ℝ)
    (hs : ∀ (k : Fin (k0_t1_loop i).trips) (j : Fin 512), score (qOf v41 v46 C) (kbOf i arg14 X14 k) r j = ((s (k.val * 512 + j.val) : ℝ) : EReal))
    (hv : ∀ (k : Fin (k0_t1_loop i).trips) (j : Fin 512), vbOf i arg15 X15 k (ix2 j d) = ((v (k.val * 512 + j.val) : ℝ) : EReal))
    (n : ℕ) (hn : n ≤ (k0_t1_loop i).trips) :
    Inv (RM arg17 (arg17.view.writes (Elt Ideal) G17 (pbOf c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v41 v46 v72 X14 X15 G16 G17 n).2) C r)
      (RA arg16 (arg16.view.writes (Elt Ideal) G16 (pbOf c i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v41 v46 v72 X14 X15 G16 G17 n).1) C r d)
      (∑ x ∈ Finset.range (n * 512), Real.exp (s x) * v x) := by
  induction n with
  | zero => rw [Nat.zero_mul, Finset.range_zero, Finset.sum_empty]; exact h0
  | succ n ih =>
    have ih := ih (by omega)
    have hk : n < (k0_t1_loop i).trips := by omega
    have e := pb_k0_t1_succ (F := Ideal) Variants.none c none i arg3 harg3 arg4 harg4 arg5 harg5 arg6 harg6 arg7 harg7 arg8 harg8 arg9 harg9 arg10 harg10 arg11 harg11 arg12 harg12 arg13 harg13 arg14 harg14 arg15 harg15 arg16 harg16 arg17 harg17 arg2 v41 v46 v72 X14 X15 G16 G17 ⟨n, hk⟩
    dsimp only at e
    unfold pbOf
    rw [e]
    dsimp only
    rw [View.writes_append, View.writes_append, trip16, trip17, sum_block]
    have := step_inv ih (score (qOf v41 v46 C) (kbOf i arg14 X14 ⟨n, hk⟩) r) (fun j => vbOf i arg15 X15 ⟨n, hk⟩ (ix2 j d)) (fun j => v (n * 512 + j.val))
      (fun j => by rw [hs]; exact EReal.coe_ne_top _) ⟨0, by rw [hs]; exact EReal.coe_ne_bot _⟩ (fun j => hv _ j)
    have e2 : (∑ j : Fin 512, ew (score (qOf v41 v46 C) (kbOf i arg14 X14 ⟨n, hk⟩) r j) * v (n * 512 + j.val))
        = ∑ j : Fin 512, Real.exp (s (n * 512 + j.val)) * v (n * 512 + j.val) :=
      Finset.sum_congr rfl fun j _ => by rw [hs, ew_coe]
    rw [e2] at this
    exact this
end Trip

theorem off5_eq (i : grid0.Coords) : k0_off5 i = ![(i 2).val * 512, 0] := by
  have h : ∀ b : Fin 8, ∀ i : grid0.Coords, i 2 = b → k0_off5 i = ![b.val * 512, 0] := by
    intro b i hb
    unfold k0_off5
    rw [hb]
    clear hb
    revert b; decide +kernel
  exact h (i 2) i rfl
theorem off6_eq (i : grid0.Coords) : k0_off6 i = ![(i 2).val * 512, 0] := off5_eq i
theorem trips_eq (i : grid0.Coords) : (k0_t1_loop i).trips = (i 2).val := by
  have h : ∀ b : Fin 8, ∀ i : grid0.Coords, i 2 = b → (k0_t1_loop i).trips = b.val := by
    intro b i hb
    unfold k0_t1_loop
    rw [hb]
    clear hb
    revert b; decide +kernel
  exact h (i 2) i rfl
theorem off1_eq (i : grid0.Coords) (k : Fin (k0_t1_loop i).trips) : k0_off1 i k = ![k.val * 512, 0] := by
  have hk : k.val < 8 := lt_trans (lt_of_lt_of_eq k.isLt (trips_eq i)) (i 2).isLt
  have h : ∀ b : Fin 8, k.val = b.val → k0_off1 i k = ![b.val * 512, 0] := by
    intro b hb
    unfold k0_off1
    rw [hb]
    clear hb
    clear hk
    revert b; decide +kernel
  exact h ⟨k.val, hk⟩ rfl
theorem off2_eq (i : grid0.Coords) (k : Fin (k0_t1_loop i).trips) : k0_off2 i k = ![k.val * 512, 0] := off1_eq i k
theorem trips2_eq (i : grid0.Coords) : (k0_t2_loop i).trips = 0 := by
  have h : ∀ b : Fin 8, ∀ i : grid0.Coords, i 2 = b → (k0_t2_loop i).trips = 0 := by
    intro b i hb
    unfold k0_t2_loop
    rw [hb]
    clear hb
    revert b; decide +kernel
  exact h (i 2) i rfl
end Cert.Proof.Attn
-- ==== Proof.AttnCore.lean ====
module

public import proofs.«01_k».proof.Defs
public import proofs.«01_k».proof.Proof.Gen.AttnIdeal.Value
public import Idealize.ShloMosaic.Lib.Pointwise
public import Idealize.ShloMosaic.Lib.WritesUnit
public import proofs.«01_k».proof.Proof.AttnRun
public import Idealize.ShloMosaic.Lib.Claim

@[expose] public section

set_option maxRecDepth 16384

noncomputable section

namespace Cert.Proof.Attn

open Idealize.ShloMosaic Idealize.ShloMosaic.TcCoe Idealize.ShloMosaic.Tactic Idealize.SL.Sem
open Idealize.ShloMosaic.Pipeline (Dat)
open Cert.AttnIdeal Cert.AttnIdeal.Gen

open Cert.Proof.AttnMath

/-- A key's score where the mask admits it, and negative infinity elsewhere; `R` is the query's row. -/
def keyScore (s : Fin 4096 → ℝ) (R : ℕ) (key : Fin 4096) : EReal := if key.val / 64 ≤ R / 64 then ((s key : ℝ) : EReal) else ⊥

/-- The weighted sum over all keys. -/
def wsum (s v : Fin 4096 → ℝ) (R : ℕ) : ℝ := ∑ key : Fin 4096, ew (keyScore s R key) * v key

/-- The sum over all keys is the sum over the blocks before the query's and the masked block. -/
theorem wsum_split (s v : Fin 4096 → ℝ) (s' v' : ℕ → ℝ) (hs : ∀ key, s' key.val = s key) (hv : ∀ key, v' key.val = v key)
    (b : Fin 8) (r : Fin 512) :
    wsum s v (b.val * 512 + r.val) = (∑ x ∈ Finset.range (b.val * 512), Real.exp (s' x) * v' x)
      + ∑ j : Fin 512, ew (keyScore s (b.val * 512 + r.val) ⟨b.val * 512 + j.val, by omega⟩) * v ⟨b.val * 512 + j.val, by omega⟩ := by
  set R := b.val * 512 + r.val with hR
  let g : ℕ → ℝ := fun x => if h : x < 4096 then ew (keyScore s R ⟨x, h⟩) * v ⟨x, h⟩ else 0
  have e1 : wsum s v R = ∑ x ∈ Finset.range 4096, g x := by
    rw [Finset.sum_range]
    exact Finset.sum_congr rfl fun key _ => by
      show _ = (if h : key.val < 4096 then _ else _)
      rw [dif_pos key.isLt]
  have hb : 4096 = b.val * 512 + (512 + (7 - b.val) * 512) := by omega
  have e2 : (∑ x ∈ Finset.range (b.val * 512), g x) = ∑ x ∈ Finset.range (b.val * 512), Real.exp (s' x) * v' x := by
    refine Finset.sum_congr rfl fun x hx => ?_
    have hx := Finset.mem_range.mp hx
    have h4 : x < 4096 := by omega
    have hc : x / 64 ≤ R / 64 := Nat.div_le_div_right (by omega)
    show (if h : x < 4096 then _ else _) = _
    rw [dif_pos h4, keyScore, if_pos hc, ew_coe, ← hs ⟨x, h4⟩, ← hv ⟨x, h4⟩]
  have e3 : (∑ x ∈ Finset.range ((7 - b.val) * 512), g (b.val * 512 + (512 + x))) = 0 := by
    refine Finset.sum_eq_zero fun x hx => ?_
    have hx := Finset.mem_range.mp hx
    have h4 : b.val * 512 + (512 + x) < 4096 := by omega
    have hc : ¬ (b.val * 512 + (512 + x)) / 64 ≤ R / 64 := by omega
    show (if h : b.val * 512 + (512 + x) < 4096 then _ else _) = _
    rw [dif_pos h4, keyScore, if_neg hc, ew_bot, zero_mul]
  have e4 : (∑ x ∈ Finset.range 512, g (b.val * 512 + x)) = ∑ j : Fin 512, ew (keyScore s R ⟨b.val * 512 + j.val, by omega⟩) * v ⟨b.val * 512 + j.val, by omega⟩ := by
    rw [Finset.sum_range]
    refine Finset.sum_congr rfl fun j _ => ?_
    exact dif_pos (by omega)
  rw [e1, show Finset.range 4096 = Finset.range (b.val * 512 + (512 + (7 - b.val) * 512)) from congrArg _ hb, Finset.sum_range_add, e2, Finset.sum_range_add, e4, e3, add_zero]

/-- A dot product of real rows is real. -/
theorem score_real (q kb : Vec Ideal S512x128 .bf16) (r j : Fin 512) (a k : Fin 128 → ℝ) (hq : ∀ e, q (ix2 r e) = ((a e : ℝ) : EReal))
    (hk : ∀ e, kb (ix2 j e) = ((k e : ℝ) : EReal)) : score q kb r j = ((∑ e, a e * k e : ℝ) : EReal) := by
  rw [← coe_sum]
  exact Finset.sum_congr rfl fun e _ => by rw [hq, hk, EReal.coe_mul]

/-- The masked block's scores. -/
theorem mscore_eq (b : Fin 8) (q kb : Vec Ideal S512x128 .bf16) (r j : Fin 512) (s : Fin 4096 → ℝ)
    (h : score q kb r j = ((s ⟨b.val * 512 + j.val, by omega⟩ : ℝ) : EReal)) :
    mscore (k0_pay34 (k0_pay32 (BitVec.ofNat 32 b.val)) (k0_pay33 (BitVec.ofNat 32 b.val)) 64#32) q kb r j
      = keyScore s (b.val * 512 + r.val) ⟨b.val * 512 + j.val, by omega⟩ := by
  unfold mscore keyScore
  rw [mask_apply]
  by_cases hc : j.val / 64 ≤ r.val / 64
  · rw [if_pos hc, if_pos (show (b.val * 512 + j.val) / 64 ≤ (b.val * 512 + r.val) / 64 by omega), ← h]
    simp [Scalar.select]
  · rw [if_neg hc, if_neg (show ¬ (b.val * 512 + j.val) / 64 ≤ (b.val * 512 + r.val) / 64 by omega)]
    have e : (Named.named κ "mask" 0xF149F2CA#32 : Ideal .f32) = ⊥ := IdealRules.named_const.ideal_named_scalar _ _ _ _ rfl
    rw [e]
    simp [Scalar.select]

section Core
variable (c : Dev nD) (i : grid0.Coords) (arg3 : Memref sig .tc .smem S1 .f32) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S4x64 .f32) (harg11 : arg11.IsWhole) (arg12 : Memref sig .tc .vmem S1x128 .f32) (harg12 : arg12.IsWhole) (arg13 : Memref sig .tc .vmem S512x128 .bf16) (harg13 : arg13.IsWhole) (arg14 : Memref sig .tc .vmem S4096x128 .bf16) (harg14 : arg14.IsWhole) (arg15 : Memref sig .tc .vmem S4096x256 .bf16) (harg15 : arg15.IsWhole) (arg16 : Memref sig .tc .vmem S2x512x256 .f32) (harg16 : arg16.IsWhole) (arg17 : Memref sig .tc .vmem S2x512x1 .f32) (harg17 : arg17.IsWhole)

theorem RA_skip (f : BufTy.Contents (Elt Ideal) arg16.view.ty) (w0 : Vec Ideal S1x512x256 .f32) (L : List (View.Piece (Elt Ideal) S2x512x256 .f32)) (r : Fin 512) (d : Fin 256) :
    RA arg16 (arg16.view.writes (Elt Ideal) f
      ((⟨Rect.unit (s := S2x512x256) ![0, 0, 0] S1x512x256.size inb_S2x512x256_S1x512x256_0_0_0, w0⟩ : View.Piece (Elt Ideal) S2x512x256 .f32) :: L)) 1 r d
      = RA arg16 (arg16.view.writes (Elt Ideal) f L) 1 r d :=
  View.read_writes_cons_unit_of_not_mem arg16.view f _ w0 _ (ix3 (1 : Fin 2) r d) rfl (0 : Fin 3) (Or.inr (le_refl 1 : 0 + 1 ≤ 1))
theorem RM_skip (f : BufTy.Contents (Elt Ideal) arg17.view.ty) (w0 : Vec Ideal S1x512x1 .f32) (L : List (View.Piece (Elt Ideal) S2x512x1 .f32)) (r : Fin 512) :
    RM arg17 (arg17.view.writes (Elt Ideal) f
      ((⟨Rect.unit (s := S2x512x1) ![0, 0, 0] S1x512x1.size inb_S2x512x1_S1x512x1_0_0_0, w0⟩ : View.Piece (Elt Ideal) S2x512x1 .f32) :: L)) 1 r
      = RM arg17 (arg17.view.writes (Elt Ideal) f L) 1 r :=
  View.read_writes_cons_unit_of_not_mem arg17.view f _ w0 _ (ix3 (1 : Fin 2) r (0 : Fin 1)) rfl (0 : Fin 3) (Or.inr (le_refl 1 : 0 + 1 ≤ 1))

variable (v41 v46 : FVec Ideal S512x128 .bf16)
    (X14 : BufTy.Contents (Elt Ideal) arg14.view.ty) (X15 : BufTy.Contents (Elt Ideal) arg15.view.ty)

/-- The cleared sums and maxima a point starts from. -/
abbrev G16 (arg16 : Memref sig .tc .vmem S2x512x256 .f32) : BufTy.Contents (Elt Ideal) arg16.view.ty :=
  arg16.view.writes (Elt Ideal) arg16.view.junk [(⟨Rect.unit (s := S2x512x256) ![0, 0, 0] S2x512x256.size inb_S2x512x256_S2x512x256_0_0_0, k0_pay24 (F := Ideal)⟩ : View.Piece (Elt Ideal) S2x512x256 .f32)]
abbrev G17 (arg17 : Memref sig .tc .vmem S2x512x1 .f32) : BufTy.Contents (Elt Ideal) arg17.view.ty :=
  arg17.view.writes (Elt Ideal) arg17.view.junk [(⟨Rect.unit (s := S2x512x1) ![0, 0, 0] S2x512x1.size inb_S2x512x1_S2x512x1_0_0_0, k0_pay25 (F := Ideal)⟩ : View.Piece (Elt Ideal) S2x512x1 .f32)]

theorem G16_read (C : Fin 2) (r : Fin 512) (d : Fin 256) : RA arg16 (G16 arg16) C r d = 0 :=
  (View.read_writes_cons_unit_of_mem arg16.view _ _ _ _ (ix3 C r d) (ix3 C r d) rfl (by intro a; fin_cases a <;> simp [ix3])).trans (pay24_apply _)
theorem G17_read (C : Fin 2) (r : Fin 512) : RM arg17 (G17 arg17) C r = ⊥ :=
  (View.read_writes_cons_unit_of_mem arg17.view _ _ _ _ (ix3 C r (0 : Fin 1)) (ix3 C r (0 : Fin 1)) rfl (by intro a; fin_cases a <;> simp [ix3])).trans (pay25_apply _)

theorem kbOf_apply (k : Fin (k0_t1_loop i).trips) (j : Fin 512) (e : Fin 128) (key : Fin 4096) (hk : key.val = k.val * 512 + j.val) :
    kbOf i arg14 X14 k (ix2 j e) = arg14.view.read (Elt Ideal) X14 (ix2 key e) := by
  refine congrArg (arg14.view.read (Elt Ideal) X14) (funext fun a => Fin.ext ?_)
  show k0_off1 i k a + 1 * (ix2 j e a).val = _
  rw [off1_eq]
  fin_cases a
  · show k.val * 512 + 1 * j.val = key.val; omega
  · show 0 + 1 * e.val = e.val; omega
theorem vbOf_apply (k : Fin (k0_t1_loop i).trips) (j : Fin 512) (e : Fin 256) (key : Fin 4096) (hk : key.val = k.val * 512 + j.val) :
    vbOf i arg15 X15 k (ix2 j e) = arg15.view.read (Elt Ideal) X15 (ix2 key e) := by
  refine congrArg (arg15.view.read (Elt Ideal) X15) (funext fun a => Fin.ext ?_)
  show k0_off2 i k a + 1 * (ix2 j e a).val = _
  rw [off2_eq]
  fin_cases a
  · show k.val * 512 + 1 * j.val = key.val; omega
  · show 0 + 1 * e.val = e.val; omega

/-- The carried sums and maxima after the trips of both loops, of which the second makes none. -/
theorem core (w w1 w2 : BitVec 32) (b : Fin 8) (hw1 : w1 = BitVec.ofNat 32 b.val) (hw2 : w2 = BitVec.ofNat 32 b.val) (hb : (i 2).val = b.val) (C : Fin 2) (r : Fin 512)
    (kb : Vec Ideal S512x128 .bf16) (vb : Vec Ideal S512x256 .bf16)
    (H16 : BufTy.Contents (Elt Ideal) arg16.view.ty) (H17 : BufTy.Contents (Elt Ideal) arg17.view.ty)
    (h16 : H16 = arg16.view.writes (Elt Ideal) (G16 arg16) (pbOf c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) v41 v46 w X14 X15 (G16 arg16) (G17 arg17) (k0_t1_loop i).trips).1)
    (h17 : H17 = arg17.view.writes (Elt Ideal) (G17 arg17) (pbOf c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) v41 v46 w X14 X15 (G16 arg16) (G17 arg17) (k0_t1_loop i).trips).2)
    (qr : Fin 128 → ℝ) (K : Fin 4096 → Fin 128 → ℝ) (V : Fin 4096 → Fin 256 → ℝ)
    (hq : ∀ e, qOf v41 v46 C (ix2 r e) = ((qr e : ℝ) : EReal))
    (hK : ∀ key e, arg14.view.read (Elt Ideal) X14 (ix2 key e) = ((K key e : ℝ) : EReal))
    (hV : ∀ key e, arg15.view.read (Elt Ideal) X15 (ix2 key e) = ((V key e : ℝ) : EReal))
    (hkb : ∀ (j : Fin 512) e, kb (ix2 j e) = ((K ⟨b.val * 512 + j.val, by omega⟩ e : ℝ) : EReal))
    (hvb : ∀ (j : Fin 512) e, vb (ix2 j e) = ((V ⟨b.val * 512 + j.val, by omega⟩ e : ℝ) : EReal)) :
    ∃ rr : ℝ, ∀ d : Fin 256,
      newAcc (RM arg17 H17 C r) (RA arg16 H16 C r d)
        (mscore (k0_pay34 (k0_pay32 w1) (k0_pay33 w2) 64#32) (qOf v41 v46 C) kb r) (fun j => vb (ix2 j d))
        = ((Real.exp (-rr) * wsum (fun key => ∑ e, qr e * K key e) (fun key => V key d) (b.val * 512 + r.val) : ℝ) : EReal) := by
  subst hw1 hw2
  have ht : (k0_t1_loop i).trips = b.val := by rw [trips_eq, hb]
  set s : Fin 4096 → ℝ := fun key => ∑ e, qr e * K key e with hsdef
  let s' : ℕ → ℝ := fun x => if h : x < 4096 then s ⟨x, h⟩ else 0
  have hs' : ∀ key : Fin 4096, s' key.val = s key := fun key => dif_pos key.isLt
  have hms : ∀ j : Fin 512, mscore (k0_pay34 (k0_pay32 (BitVec.ofNat 32 b.val)) (k0_pay33 (BitVec.ofNat 32 b.val)) 64#32) (qOf v41 v46 C) kb r j
      = keyScore s (b.val * 512 + r.val) ⟨b.val * 512 + j.val, by omega⟩ := fun j =>
    mscore_eq b _ _ r j s (score_real _ _ r j qr _ hq (hkb j))
  have main : ∀ d : Fin 256, ∃ rr : ℝ,
      newMax (RM arg17 H17 C r) (mscore (k0_pay34 (k0_pay32 (BitVec.ofNat 32 b.val)) (k0_pay33 (BitVec.ofNat 32 b.val)) 64#32) (qOf v41 v46 C) kb r) = (rr : EReal) ∧
      newAcc (RM arg17 H17 C r) (RA arg16 H16 C r d)
        (mscore (k0_pay34 (k0_pay32 (BitVec.ofNat 32 b.val)) (k0_pay33 (BitVec.ofNat 32 b.val)) 64#32) (qOf v41 v46 C) kb r) (fun j => vb (ix2 j d))
        = ((Real.exp (-rr) * wsum s (fun key => V key d) (b.val * 512 + r.val) : ℝ) : EReal) := by
    intro d
    let v' : ℕ → ℝ := fun x => if h : x < 4096 then V ⟨x, h⟩ d else 0
    have hv' : ∀ key : Fin 4096, v' key.val = V key d := fun key => dif_pos key.isLt
    have h0 : Inv (RM arg17 (G17 arg17) C r) (RA arg16 (G16 arg16) C r d) 0 := Or.inl ⟨G17_read arg17 C r, G16_read arg16 C r d, rfl⟩
    have hL := loop_inv c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) v41 v46 w X14 X15 (G16 arg16) (G17 arg17) C r d h0 s' v'
      (fun k j => by
        have hk : k.val * 512 + j.val < 4096 := by have := k.isLt; omega
        rw [score_real _ _ r j qr (K ⟨k.val * 512 + j.val, hk⟩) hq (fun e => (kbOf_apply i arg14 X14 k j e ⟨_, hk⟩ rfl).trans (hK _ _))]
        exact congrArg _ (hs' ⟨_, hk⟩).symm)
      (fun k j => by
        have hk : k.val * 512 + j.val < 4096 := by have := k.isLt; omega
        rw [vbOf_apply i arg15 X15 k j d ⟨_, hk⟩ rfl, hV]
        exact congrArg _ (hv' ⟨_, hk⟩).symm)
      _ le_rfl
    rw [← h16, ← h17, ht] at hL
    obtain ⟨rr, e1, e2⟩ := step hL (mscore (k0_pay34 (k0_pay32 (BitVec.ofNat 32 b.val)) (k0_pay33 (BitVec.ofNat 32 b.val)) 64#32) (qOf v41 v46 C) kb r)
      (fun j => vb (ix2 j d)) (fun j => V ⟨b.val * 512 + j.val, by omega⟩ d)
      (fun j => by rw [hms, keyScore]; split; · exact EReal.coe_ne_top _
                   · exact bot_ne_top)
      ⟨r, by rw [hms, keyScore, if_pos le_rfl]; exact EReal.coe_ne_bot _⟩
      (fun j => hvb j d)
    refine ⟨rr, e1, e2.trans ?_⟩
    rw [wsum_split s (fun key => V key d) s' v' hs' hv' b r]
    simp only [hms]
  obtain ⟨rr, h1, _⟩ := main 0
  refine ⟨rr, fun d => ?_⟩
  obtain ⟨r2, g1, g2⟩ := main d
  rw [h1] at g1
  rw [EReal.coe_eq_coe_iff.mp g1]
  exact g2
end Core
end Cert.Proof.Attn
-- ==== Proof.AttnOut.lean ====
module

public import proofs.«01_k».proof.Defs
public import proofs.«01_k».proof.Proof.Gen.AttnIdeal.Value
public import Idealize.ShloMosaic.Lib.Pointwise
public import Idealize.ShloMosaic.Lib.WritesUnit
public import proofs.«01_k».proof.Proof.AttnCore
public import Idealize.ShloMosaic.Lib.Claim

@[expose] public section

set_option maxRecDepth 16384

noncomputable section

namespace Cert.Proof.Attn

open Idealize.ShloMosaic Idealize.ShloMosaic.TcCoe Idealize.ShloMosaic.Tactic Idealize.SL.Sem
open Idealize.ShloMosaic.Pipeline (Dat)
open Cert.AttnIdeal Cert.AttnIdeal.Gen

open Cert.Proof.AttnMath

/-- The difference of the two maps' results, the running sums being shifted weighted sums. -/
theorem diff_final (lam : EReal) (A0 A1 : Vec Ideal S1x512x256 .f32) (r : Fin 512) (N0 N1 : Fin 256 → ℝ)
    (h0 : ∃ rr : ℝ, ∀ d, A0 (ix3 (0 : Fin 1) r d) = ((Real.exp (-rr) * N0 d : ℝ) : EReal))
    (h1 : ∃ rr : ℝ, ∀ d, A1 (ix3 (0 : Fin 1) r d) = ((Real.exp (-rr) * N1 d : ℝ) : EReal))
    (hN0 : N0 128 ≠ 0) (hN1 : N1 128 ≠ 0) (e : Fin 128) :
    diffOf lam A0 A1 r e = ((N0 ⟨e.val, by omega⟩ / N0 128 : ℝ) : EReal) - lam * ((N1 ⟨e.val, by omega⟩ / N1 128 : ℝ) : EReal) := by
  obtain ⟨r0, h0⟩ := h0
  obtain ⟨r1, h1⟩ := h1
  unfold diffOf
  rw [h0, h0, h1, h1, div_shift r0 hN0, div_shift r1 hN1]

/-- The sum of the weights is positive: the query's own key has a positive one. -/
theorem wsum_pos (s v : Fin 4096 → ℝ) (hv : ∀ key, v key = 1) (R : ℕ) (hR : R < 4096) : wsum s v R ≠ 0 := by
  unfold wsum
  refine ne_of_gt (Finset.sum_pos' (fun key _ => ?_) ⟨⟨R, hR⟩, Finset.mem_univ _, ?_⟩)
  · rw [hv, mul_one]; exact ew_nonneg _
  · rw [hv, mul_one, keyScore, if_pos le_rfl, ew_coe]; exact Real.exp_pos _

/-- The value a point leaves at a row and lane, from the reals its queries, keys and values are. -/
def outVal (l : EReal) (x8 : Vec Ideal S4x64 .f32) (x9 : Vec Ideal S1x128 .f32) (qr : Fin 2 → Fin 128 → ℝ) (K : Fin 4096 → Fin 128 → ℝ)
    (V : Fin 4096 → Fin 256 → ℝ) (R : ℕ) (d : Fin 128) : EReal :=
  normed (fun e => ((wsum (fun key => ∑ x, qr 0 x * K key x) (fun key => V key ⟨e.val, by omega⟩) R / wsum (fun key => ∑ x, qr 0 x * K key x) (fun key => V key 128) R : ℝ) : EReal)
    - lamOf x8 l * ((wsum (fun key => ∑ x, qr 1 x * K key x) (fun key => V key ⟨e.val, by omega⟩) R / wsum (fun key => ∑ x, qr 1 x * K key x) (fun key => V key 128) R : ℝ) : EReal)) d
    * x9 (ix2 (0 : Fin 1) d) * (1 - l)

theorem hz1 : (![0] : Fin 1 → ℕ) = fun _ => 0 := by funext a; fin_cases a <;> rfl
theorem hz2 : (![0, 0] : Fin 2 → ℕ) = fun _ => 0 := by funext a; fin_cases a <;> rfl
theorem hz3 : (![0, 0, 0] : Fin 3 → ℕ) = fun _ => 0 := by funext a; fin_cases a <;> rfl

section Out
variable (c : Dev nD) (i : grid0.Coords) (arg3 : Memref sig .tc .smem S1 .f32) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S4x64 .f32) (harg11 : arg11.IsWhole) (arg12 : Memref sig .tc .vmem S1x128 .f32) (harg12 : arg12.IsWhole) (arg13 : Memref sig .tc .vmem S512x128 .bf16) (harg13 : arg13.IsWhole) (arg14 : Memref sig .tc .vmem S4096x128 .bf16) (harg14 : arg14.IsWhole) (arg15 : Memref sig .tc .vmem S4096x256 .bf16) (harg15 : arg15.IsWhole) (arg16 : Memref sig .tc .vmem S2x512x256 .f32) (harg16 : arg16.IsWhole) (arg17 : Memref sig .tc .vmem S2x512x1 .f32) (harg17 : arg17.IsWhole)
  (x0 : Vec Ideal S1 .f32) (x1 : Vec Ideal S512x128 .bf16) (x2 x3 : Vec Ideal S4096x128 .bf16) (x4 x5 : Vec Ideal S1x512x128 .f32) (x6 x7 : Vec Ideal S1x4096x128 .f32) (x8 : Vec Ideal S4x64 .f32) (x9 : Vec Ideal S1x128 .f32)

theorem outB (hc0 : ¬cond0_0 i) (xs0 : Vec Ideal S4096x128 .bf16) (xs1 : Vec Ideal S4096x256 .bf16) (b : Fin 8) (hb : (i 2).val = b.val) (r : Fin 512) (d : Fin 128)
    (qr : Fin 2 → Fin 128 → ℝ) (K : Fin 4096 → Fin 128 → ℝ) (V : Fin 4096 → Fin 256 → ℝ)
    (hq0 : ∀ e, k0_pay22 (k0_pay21 x1 x4 x5) (ix2 r e) = ((qr 0 e : ℝ) : EReal))
    (hq1 : ∀ e, k0_pay23 (k0_pay21 x1 x4 x5) (ix2 r e) = ((qr 1 e : ℝ) : EReal))
    (hK : ∀ key e, xs0 (ix2 key e) = ((K key e : ℝ) : EReal))
    (hV : ∀ key e, xs1 (ix2 key e) = ((V key e : ℝ) : EReal))
    (hV1 : ∀ key, V key 128 = 1) :
    out0_B_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1 (ix2 r d) = outVal (x0 (ix1 (0 : Fin 1))) x8 x9 qr K V (b.val * 512 + r.val) d := by
  unfold out0_B_10
  rw [View.read_writes_eq_canon _ _ _ (cover0_B_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 xs0 xs1)]
  unfold kernelRun0_B; dsimp only; sl_unfold_words
  rw [View.canon_unit_zero hz2]
  have hn : Scf.trips (k0_t2_loop i).lb (k0_t2_loop i).ub (k0_t2_loop i).st = 0 := trips2_eq i
  rw [hn, pb_k0_t2.eq_1]
  refine (pay1_apply _ _ _ r d).trans ?_
  rw [pay47_apply]
  generalize hv : (Scalar.select _ _ _ : BitVec 32) = v72
  have hv' : v72 = BitVec.ofNat 32 b.val := by
    rw [← hv, hb]; clear * -; revert b; decide +kernel
  subst hv'
  have e4 : View.readAt (Elt Ideal) arg4.view (Rect.unit ![0, 0] S512x128.size inb_S512x128_S512x128_0_0).toLoadRect (harg4.unread x1) = x1 := by
    rw [View.readAt_eq_ld, harg4.read_unread, View.ld_unit_zero (S := S512x128) hz2]
  have e7 : View.readAt (Elt Ideal) arg7.view (Rect.unit ![0, 0, 0] S1x512x128.size inb_S1x512x128_S1x512x128_0_0_0).toLoadRect (harg7.unread x4) = x4 := by
    rw [View.readAt_eq_ld, harg7.read_unread, View.ld_unit_zero (S := S1x512x128) hz3]
  have e8 : View.readAt (Elt Ideal) arg8.view (Rect.unit ![0, 0, 0] S1x512x128.size inb_S1x512x128_S1x512x128_0_0_0).toLoadRect (harg8.unread x5) = x5 := by
    rw [View.readAt_eq_ld, harg8.read_unread, View.ld_unit_zero (S := S1x512x128) hz3]
  rw [e4, e7, e8]
  have h41 := hq0
  have h46 := hq1
  generalize k0_pay22 (F := Ideal) _ = v41 at h41 ⊢
  generalize k0_pay23 (F := Ideal) _ = v46 at h46 ⊢
  have hX14 : ∀ key e, arg14.view.read (Elt Ideal) (harg14.unread xs0) (ix2 key e) = ((K key e : ℝ) : EReal) := fun key e => by rw [harg14.read_unread, hK]
  have hX15 : ∀ key e, arg15.view.read (Elt Ideal) (harg15.unread xs1) (ix2 key e) = ((V key e : ℝ) : EReal) := fun key e => by rw [harg15.read_unread, hV]
  have hkb : ∀ (j : Fin 512) e, View.readAt (Elt Ideal) arg14.view (Rect.unit (s := S4096x128) (k0_off5 i) S512x128.size (k0_off5_inb i)).toLoadRect (harg14.unread xs0) (ix2 j e) = ((K ⟨b.val * 512 + j.val, by omega⟩ e : ℝ) : EReal) := by
    intro j e
    rw [← hX14]
    refine congrArg (arg14.view.read (Elt Ideal) (harg14.unread xs0)) (funext fun a => Fin.ext ?_)
    show k0_off5 i a + 1 * (ix2 j e a).val = _
    rw [off5_eq, hb]
    fin_cases a
    · show b.val * 512 + 1 * j.val = b.val * 512 + j.val; omega
    · show 0 + 1 * e.val = e.val; omega
  have hvb : ∀ (j : Fin 512) e, View.readAt (Elt Ideal) arg15.view (Rect.unit (s := S4096x256) (k0_off6 i) S512x256.size (k0_off6_inb i)).toLoadRect (harg15.unread xs1) (ix2 j e) = ((V ⟨b.val * 512 + j.val, by omega⟩ e : ℝ) : EReal) := by
    intro j e
    rw [← hX15]
    refine congrArg (arg15.view.read (Elt Ideal) (harg15.unread xs1)) (funext fun a => Fin.ext ?_)
    show k0_off6 i a + 1 * (ix2 j e a).val = _
    rw [off6_eq, hb]
    fin_cases a
    · show b.val * 512 + 1 * j.val = b.val * 512 + j.val; omega
    · show 0 + 1 * e.val = e.val; omega
  have el : View.readAt (Elt Ideal) arg3.view (Rect.unit (s := S1) ![0] S1.size inb_S1_S1_0).toLoadRect (harg3.unread x0) = x0 := by
    rw [View.readAt_eq_ld, harg3.read_unread, View.ld_unit_zero (S := S1) hz1]
  have e11 : View.readAt (Elt Ideal) arg11.view (Rect.unit (s := S4x64) ![0, 0] S4x64.size inb_S4x64_S4x64_0_0).toLoadRect (harg11.unread x8) = x8 := by
    rw [View.readAt_eq_ld, harg11.read_unread, View.ld_unit_zero (S := S4x64) hz2]
  have e12 : View.readAt (Elt Ideal) arg12.view (Rect.unit (s := S1x128) ![0, 0] S1x128.size inb_S1x128_S1x128_0_0).toLoadRect (harg12.unread x9) = x9 := by
    rw [View.readAt_eq_ld, harg12.read_unread, View.ld_unit_zero (S := S1x128) hz2]
  have hR : b.val * 512 + r.val < 4096 := by omega
  let P := pbOf c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) v41 v46 (BitVec.ofNat 32 b.val) (harg14.unread xs0) (harg15.unread xs1) (G16 arg16) (G17 arg17) (k0_t1_loop i).trips
  let H16 := arg16.view.writes (Elt Ideal) arg16.view.junk ([] ++ (P.1 ++ [(⟨Rect.unit (s := S2x512x256) ![0, 0, 0] S2x512x256.size inb_S2x512x256_S2x512x256_0_0_0, k0_pay24 (F := Ideal)⟩ : View.Piece (Elt Ideal) S2x512x256 .f32)]))
  let H17 := arg17.view.writes (Elt Ideal) arg17.view.junk ([] ++ (P.2 ++ [(⟨Rect.unit (s := S2x512x1) ![0, 0, 0] S2x512x1.size inb_S2x512x1_S2x512x1_0_0_0, k0_pay25 (F := Ideal)⟩ : View.Piece (Elt Ideal) S2x512x1 .f32)]))
  have h16 : H16 = arg16.view.writes (Elt Ideal) (G16 arg16) P.1 := by
    show arg16.view.writes (Elt Ideal) arg16.view.junk ([] ++ (P.1 ++ _)) = _
    rw [List.nil_append, View.writes_append]
  have h17 : H17 = arg17.view.writes (Elt Ideal) (G17 arg17) P.2 := by
    show arg17.view.writes (Elt Ideal) arg17.view.junk ([] ++ (P.2 ++ _)) = _
    rw [List.nil_append, View.writes_append]
  obtain ⟨r0, c0⟩ := core c i arg3 harg3 arg4 harg4 arg5 harg5 arg6 harg6 arg7 harg7 arg8 harg8 arg9 harg9 arg10 harg10 arg11 harg11 arg12 harg12 arg13 harg13 arg14 harg14 arg15 harg15 arg16 harg16 arg17 harg17 v41 v46 (harg14.unread xs0) (harg15.unread xs1) (BitVec.ofNat 32 b.val) (BitVec.ofNat 32 (i 2).val) (BitVec.ofNat 32 b.val) b (by rw [hb]) rfl hb 0 r _ _ H16 H17 h16 h17 (qr 0) K V h41 hX14 hX15 hkb hvb
  obtain ⟨r1, c1⟩ := core c i arg3 harg3 arg4 harg4 arg5 harg5 arg6 harg6 arg7 harg7 arg8 harg8 arg9 harg9 arg10 harg10 arg11 harg11 arg12 harg12 arg13 harg13 arg14 harg14 arg15 harg15 arg16 harg16 arg17 harg17 v41 v46 (harg14.unread xs0) (harg15.unread xs1) (BitVec.ofNat 32 b.val) (BitVec.ofNat 32 (i 2).val) (BitVec.ofNat 32 b.val) b (by rw [hb]) rfl hb 1 r _ _ H16 H17 h16 h17 (qr 1) K V h46 hX14 hX15 hkb hvb
  have efirst : ∀ q : S1.Idx, x0 q = x0 (ix1 (0 : Fin 1)) := fun q => congrArg x0 (funext fun a => by fin_cases a; exact Subsingleton.elim (α := Fin 1) _ _)
  unfold outVal
  refine congrArg₂ (· * ·) (congrArg₂ (· * ·) (congrArg (fun f => normed f d) (funext fun e => ?_)) ?_) ?_
  · refine (diff_final _ _ _ r (fun d => wsum (fun key => ∑ x, qr 0 x * K key x) (fun key => V key d) (b.val * 512 + r.val))
      (fun d => wsum (fun key => ∑ x, qr 1 x * K key x) (fun key => V key d) (b.val * 512 + r.val)) ⟨r0, fun d' => ?_⟩ ⟨r1, fun d' => ?_⟩
      (wsum_pos _ _ hV1 _ hR) (wsum_pos _ _ hV1 _ hR) e).trans ?_
    · refine Eq.trans ?_ (c0 d')
      refine (ld16_0 arg16 _ r d').trans ((RA_two arg16 _ _ _ _ 0 r d').trans ((if_pos rfl).trans ((pay40_apply _ _ _ _ _ _ _ _ _).trans ?_)))
      exact congrArg₂ (fun m a => newAcc m a _ _) (ld17_0 arg17 H17 r) (ld16_0 arg16 H16 r d')
    · refine Eq.trans ?_ (c1 d')
      refine (ld16_1 arg16 _ r d').trans ((RA_two arg16 _ _ _ _ 1 r d').trans ((if_neg (by decide)).trans ((pay45_apply _ _ _ _ _ _ _ _).trans ?_)))
      exact congrArg₂ (fun m a => newAcc m a _ _) ((ld17_1 arg17 _ r).trans (RM_skip arg17 _ _ _ r)) ((ld16_1 arg16 _ r d').trans (RA_skip arg16 _ _ _ r d'))
    · rw [e11, el, efirst]
  · rw [e12]
  · rw [el, efirst]
end Out
end Cert.Proof.Attn
-- ==== Proof.AttnOutA.lean ====
module

public import proofs.«01_k».proof.Defs
public import proofs.«01_k».proof.Proof.Gen.AttnIdeal.Value
public import Idealize.ShloMosaic.Lib.Pointwise
public import Idealize.ShloMosaic.Lib.WritesUnit
public import proofs.«01_k».proof.Proof.AttnOut
public import Idealize.ShloMosaic.Lib.VecWindow
public import Idealize.ShloMosaic.Lib.Claim

@[expose] public section

set_option maxRecDepth 16384

noncomputable section

namespace Cert.Proof.Attn

open Idealize.ShloMosaic Idealize.ShloMosaic.TcCoe Idealize.ShloMosaic.Tactic Idealize.SL.Sem
open Idealize.ShloMosaic.Pipeline (Dat)
open Cert.AttnIdeal Cert.AttnIdeal.Gen

open Cert.Proof.AttnMath

/-- The values with a block of ones beside them. -/
def vOnes (x3 : Vec Ideal S4096x128 .bf16) : Vec Ideal S4096x256 .bf16 :=
  fun q => if h : (q 1).val < 128 then x3 (ix2 (q 0) ⟨(q 1).val, h⟩) else 1

theorem keys_read (arg14 : Memref sig .tc .vmem S4096x128 .bf16) (f : BufTy.Contents (Elt Ideal) arg14.view.ty) (w : Vec Ideal S4096x128 .bf16) (inb) :
    arg14.view.read (Elt Ideal) (arg14.view.writes (Elt Ideal) f
      [(⟨Rect.unit (s := S4096x128) ![0, 0] S4096x128.size inb, w⟩ : View.Piece (Elt Ideal) S4096x128 .bf16)]) = w :=
  View.read_writes_full arg14.view f inb w []

theorem vOnes_read (arg15 : Memref sig .tc .vmem S4096x256 .bf16) (f : BufTy.Contents (Elt Ideal) arg15.view.ty) (x3 : Vec Ideal S4096x128 .bf16)
    (key : Fin 4096) (e : Fin 256) :
    arg15.view.read (Elt Ideal) (arg15.view.writes (Elt Ideal) f
      [(⟨Rect.unit (s := S4096x256) ![0, 128] S4096x128.size inb_S4096x256_S4096x128_0_128, k0_pay20 (F := Ideal)⟩ : View.Piece (Elt Ideal) S4096x256 .bf16),
       (⟨Rect.unit (s := S4096x256) ![0, 0] S4096x128.size inb_S4096x256_S4096x128_0_0, k0_pay19 x3⟩ : View.Piece (Elt Ideal) S4096x256 .bf16)]) (ix2 key e)
      = vOnes x3 (ix2 key e) := by
  by_cases h : e.val < 128
  · refine (View.read_writes_cons_unit_of_not_mem arg15.view f _ _ _ (ix2 key e) rfl (1 : Fin 2) (Or.inl h)).trans ?_
    refine (View.read_writes_cons_unit_of_mem arg15.view f _ _ _ (ix2 key e) (ix2 key (⟨e.val, h⟩ : Fin 128)) rfl (by
      intro a; fin_cases a <;> simp [ix2])).trans ?_
    rw [pay19_apply]
    show _ = (if h : e.val < 128 then x3 (ix2 key ⟨e.val, h⟩) else 1)
    rw [dif_pos h]
  · have h2 : e.val - 128 < 128 := by omega
    refine (View.read_writes_cons_unit_of_mem arg15.view f _ _ _ (ix2 key e) (ix2 key (⟨e.val - 128, h2⟩ : Fin 128)) rfl (by
      intro a; fin_cases a
      · show key.val = 0 + key.val; omega
      · show e.val = 128 + (e.val - 128); omega)).trans ?_
    rw [pay20_apply]
    show _ = (if h : e.val < 128 then x3 (ix2 key ⟨e.val, h⟩) else 1)
    rw [dif_neg h]

section Out
variable (c : Dev nD) (i : grid0.Coords) (arg3 : Memref sig .tc .smem S1 .f32) (harg3 : arg3.IsWhole) (arg4 : Memref sig .tc .vmem S512x128 .bf16) (harg4 : arg4.IsWhole) (arg5 : Memref sig .tc .vmem S4096x128 .bf16) (harg5 : arg5.IsWhole) (arg6 : Memref sig .tc .vmem S4096x128 .bf16) (harg6 : arg6.IsWhole) (arg7 : Memref sig .tc .vmem S1x512x128 .f32) (harg7 : arg7.IsWhole) (arg8 : Memref sig .tc .vmem S1x512x128 .f32) (harg8 : arg8.IsWhole) (arg9 : Memref sig .tc .vmem S1x4096x128 .f32) (harg9 : arg9.IsWhole) (arg10 : Memref sig .tc .vmem S1x4096x128 .f32) (harg10 : arg10.IsWhole) (arg11 : Memref sig .tc .vmem S4x64 .f32) (harg11 : arg11.IsWhole) (arg12 : Memref sig .tc .vmem S1x128 .f32) (harg12 : arg12.IsWhole) (arg13 : Memref sig .tc .vmem S512x128 .bf16) (harg13 : arg13.IsWhole) (arg14 : Memref sig .tc .vmem S4096x128 .bf16) (harg14 : arg14.IsWhole) (arg15 : Memref sig .tc .vmem S4096x256 .bf16) (harg15 : arg15.IsWhole) (arg16 : Memref sig .tc .vmem S2x512x256 .f32) (harg16 : arg16.IsWhole) (arg17 : Memref sig .tc .vmem S2x512x1 .f32) (harg17 : arg17.IsWhole)
  (x0 : Vec Ideal S1 .f32) (x1 : Vec Ideal S512x128 .bf16) (x2 x3 : Vec Ideal S4096x128 .bf16) (x4 x5 : Vec Ideal S1x512x128 .f32) (x6 x7 : Vec Ideal S1x4096x128 .f32) (x8 : Vec Ideal S4x64 .f32) (x9 : Vec Ideal S1x128 .f32)

theorem outA (hc0 : cond0_0 i) (b : Fin 8) (hb : (i 2).val = b.val) (r : Fin 512) (d : Fin 128)
    (qr : Fin 2 → Fin 128 → ℝ) (K : Fin 4096 → Fin 128 → ℝ) (V : Fin 4096 → Fin 256 → ℝ)
    (hq0 : ∀ e, k0_pay22 (k0_pay21 x1 x4 x5) (ix2 r e) = ((qr 0 e : ℝ) : EReal))
    (hq1 : ∀ e, k0_pay23 (k0_pay21 x1 x4 x5) (ix2 r e) = ((qr 1 e : ℝ) : EReal))
    (hK : ∀ key e, k0_pay2 x2 x6 x7 (ix2 key e) = ((K key e : ℝ) : EReal))
    (hV : ∀ key e, vOnes x3 (ix2 key e) = ((V key e : ℝ) : EReal))
    (hV1 : ∀ key, V key 128 = 1) :
    out0_A_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 (ix2 r d) = outVal (x0 (ix1 (0 : Fin 1))) x8 x9 qr K V (b.val * 512 + r.val) d := by
  unfold out0_A_10
  rw [View.read_writes_eq_canon _ _ _ (cover0_A_10 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A; dsimp only; sl_unfold_words
  rw [View.canon_unit_zero hz2]
  have hn : Scf.trips (k0_t2_loop i).lb (k0_t2_loop i).ub (k0_t2_loop i).st = 0 := trips2_eq i
  rw [hn, pb_k0_t2.eq_1]
  refine (pay1_apply _ _ _ r d).trans ?_
  rw [pay47_apply]
  generalize hv : (Scalar.select _ _ _ : BitVec 32) = v72
  have hv' : v72 = BitVec.ofNat 32 b.val := by
    rw [← hv, hb]; clear * -; revert b; decide +kernel
  subst hv'
  have e4 : View.readAt (Elt Ideal) arg4.view (Rect.unit ![0, 0] S512x128.size inb_S512x128_S512x128_0_0).toLoadRect (harg4.unread x1) = x1 := by
    rw [View.readAt_eq_ld, harg4.read_unread, View.ld_unit_zero (S := S512x128) hz2]
  have e7 : View.readAt (Elt Ideal) arg7.view (Rect.unit ![0, 0, 0] S1x512x128.size inb_S1x512x128_S1x512x128_0_0_0).toLoadRect (harg7.unread x4) = x4 := by
    rw [View.readAt_eq_ld, harg7.read_unread, View.ld_unit_zero (S := S1x512x128) hz3]
  have e8 : View.readAt (Elt Ideal) arg8.view (Rect.unit ![0, 0, 0] S1x512x128.size inb_S1x512x128_S1x512x128_0_0_0).toLoadRect (harg8.unread x5) = x5 := by
    rw [View.readAt_eq_ld, harg8.read_unread, View.ld_unit_zero (S := S1x512x128) hz3]
  rw [e4, e7, e8]
  have e5 : View.readAt (Elt Ideal) arg5.view (Rect.unit (s := S4096x128) ![0, 0] S4096x128.size inb_S4096x128_S4096x128_0_0).toLoadRect (harg5.unread x2) = x2 := by
    rw [View.readAt_eq_ld, harg5.read_unread, View.ld_unit_zero (S := S4096x128) hz2]
  have e6 : View.readAt (Elt Ideal) arg6.view (Rect.unit (s := S4096x128) ![0, 0] S4096x128.size inb_S4096x128_S4096x128_0_0).toLoadRect (harg6.unread x3) = x3 := by
    rw [View.readAt_eq_ld, harg6.read_unread, View.ld_unit_zero (S := S4096x128) hz2]
  have e9 : View.readAt (Elt Ideal) arg9.view (Rect.unit (s := S1x4096x128) ![0, 0, 0] S1x4096x128.size inb_S1x4096x128_S1x4096x128_0_0_0).toLoadRect (harg9.unread x6) = x6 := by
    rw [View.readAt_eq_ld, harg9.read_unread, View.ld_unit_zero (S := S1x4096x128) hz3]
  have e10 : View.readAt (Elt Ideal) arg10.view (Rect.unit (s := S1x4096x128) ![0, 0, 0] S1x4096x128.size inb_S1x4096x128_S1x4096x128_0_0_0).toLoadRect (harg10.unread x7) = x7 := by
    rw [View.readAt_eq_ld, harg10.read_unread, View.ld_unit_zero (S := S1x4096x128) hz3]
  have h41 := hq0
  have h46 := hq1
  generalize k0_pay22 (F := Ideal) _ = v41 at h41 ⊢
  generalize k0_pay23 (F := Ideal) _ = v46 at h46 ⊢
  generalize hX14d : arg14.view.writes (Elt Ideal) _ _ = X14
  generalize hX15d : arg15.view.writes (Elt Ideal) _ _ = X15
  have hX14 : ∀ key e, arg14.view.read (Elt Ideal) X14 (ix2 key e) = ((K key e : ℝ) : EReal) := fun key e => by
    rw [← hX14d, ← hK]
    rw [keys_read]
    show k0_pay2 (View.readAt (Elt Ideal) arg5.view (Rect.unit (s := S4096x128) ![0, 0] S4096x128.size inb_S4096x128_S4096x128_0_0).toLoadRect (harg5.unread x2))
      (View.readAt (Elt Ideal) arg9.view (Rect.unit (s := S1x4096x128) ![0, 0, 0] S1x4096x128.size inb_S1x4096x128_S1x4096x128_0_0_0).toLoadRect (harg9.unread x6))
      (View.readAt (Elt Ideal) arg10.view (Rect.unit (s := S1x4096x128) ![0, 0, 0] S1x4096x128.size inb_S1x4096x128_S1x4096x128_0_0_0).toLoadRect (harg10.unread x7)) (ix2 key e) = _
    rw [e5, e9, e10]
  have hX15 : ∀ key e, arg15.view.read (Elt Ideal) X15 (ix2 key e) = ((V key e : ℝ) : EReal) := fun key e => by
    rw [← hX15d, ← hV]
    refine (vOnes_read arg15 _ _ key e).trans ?_
    rw [e6]
  have hkb : ∀ (j : Fin 512) e, View.readAt (Elt Ideal) arg14.view (Rect.unit (s := S4096x128) (k0_off5 i) S512x128.size (k0_off5_inb i)).toLoadRect X14 (ix2 j e) = ((K ⟨b.val * 512 + j.val, by omega⟩ e : ℝ) : EReal) := by
    intro j e
    rw [← hX14]
    refine congrArg (arg14.view.read (Elt Ideal) X14) (funext fun a => Fin.ext ?_)
    show k0_off5 i a + 1 * (ix2 j e a).val = _
    rw [off5_eq, hb]
    fin_cases a
    · show b.val * 512 + 1 * j.val = b.val * 512 + j.val; omega
    · show 0 + 1 * e.val = e.val; omega
  have hvb : ∀ (j : Fin 512) e, View.readAt (Elt Ideal) arg15.view (Rect.unit (s := S4096x256) (k0_off6 i) S512x256.size (k0_off6_inb i)).toLoadRect X15 (ix2 j e) = ((V ⟨b.val * 512 + j.val, by omega⟩ e : ℝ) : EReal) := by
    intro j e
    rw [← hX15]
    refine congrArg (arg15.view.read (Elt Ideal) X15) (funext fun a => Fin.ext ?_)
    show k0_off6 i a + 1 * (ix2 j e a).val = _
    rw [off6_eq, hb]
    fin_cases a
    · show b.val * 512 + 1 * j.val = b.val * 512 + j.val; omega
    · show 0 + 1 * e.val = e.val; omega
  have el : View.readAt (Elt Ideal) arg3.view (Rect.unit (s := S1) ![0] S1.size inb_S1_S1_0).toLoadRect (harg3.unread x0) = x0 := by
    rw [View.readAt_eq_ld, harg3.read_unread, View.ld_unit_zero (S := S1) hz1]
  have e11 : View.readAt (Elt Ideal) arg11.view (Rect.unit (s := S4x64) ![0, 0] S4x64.size inb_S4x64_S4x64_0_0).toLoadRect (harg11.unread x8) = x8 := by
    rw [View.readAt_eq_ld, harg11.read_unread, View.ld_unit_zero (S := S4x64) hz2]
  have e12 : View.readAt (Elt Ideal) arg12.view (Rect.unit (s := S1x128) ![0, 0] S1x128.size inb_S1x128_S1x128_0_0).toLoadRect (harg12.unread x9) = x9 := by
    rw [View.readAt_eq_ld, harg12.read_unread, View.ld_unit_zero (S := S1x128) hz2]
  have hR : b.val * 512 + r.val < 4096 := by omega
  let P := pbOf c i arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 2).val) v41 v46 (BitVec.ofNat 32 b.val) X14 X15 (G16 arg16) (G17 arg17) (k0_t1_loop i).trips
  let H16 := arg16.view.writes (Elt Ideal) arg16.view.junk ([] ++ (P.1 ++ [(⟨Rect.unit (s := S2x512x256) ![0, 0, 0] S2x512x256.size inb_S2x512x256_S2x512x256_0_0_0, k0_pay24 (F := Ideal)⟩ : View.Piece (Elt Ideal) S2x512x256 .f32)]))
  let H17 := arg17.view.writes (Elt Ideal) arg17.view.junk ([] ++ (P.2 ++ [(⟨Rect.unit (s := S2x512x1) ![0, 0, 0] S2x512x1.size inb_S2x512x1_S2x512x1_0_0_0, k0_pay25 (F := Ideal)⟩ : View.Piece (Elt Ideal) S2x512x1 .f32)]))
  have h16 : H16 = arg16.view.writes (Elt Ideal) (G16 arg16) P.1 := by
    show arg16.view.writes (Elt Ideal) arg16.view.junk ([] ++ (P.1 ++ _)) = _
    rw [List.nil_append, View.writes_append]
  have h17 : H17 = arg17.view.writes (Elt Ideal) (G17 arg17) P.2 := by
    show arg17.view.writes (Elt Ideal) arg17.view.junk ([] ++ (P.2 ++ _)) = _
    rw [List.nil_append, View.writes_append]
  obtain ⟨r0, c0⟩ := core c i arg3 harg3 arg4 harg4 arg5 harg5 arg6 harg6 arg7 harg7 arg8 harg8 arg9 harg9 arg10 harg10 arg11 harg11 arg12 harg12 arg13 harg13 arg14 harg14 arg15 harg15 arg16 harg16 arg17 harg17 v41 v46 X14 X15 (BitVec.ofNat 32 b.val) (BitVec.ofNat 32 (i 2).val) (BitVec.ofNat 32 b.val) b (by rw [hb]) rfl hb 0 r _ _ H16 H17 h16 h17 (qr 0) K V h41 hX14 hX15 hkb hvb
  obtain ⟨r1, c1⟩ := core c i arg3 harg3 arg4 harg4 arg5 harg5 arg6 harg6 arg7 harg7 arg8 harg8 arg9 harg9 arg10 harg10 arg11 harg11 arg12 harg12 arg13 harg13 arg14 harg14 arg15 harg15 arg16 harg16 arg17 harg17 v41 v46 X14 X15 (BitVec.ofNat 32 b.val) (BitVec.ofNat 32 (i 2).val) (BitVec.ofNat 32 b.val) b (by rw [hb]) rfl hb 1 r _ _ H16 H17 h16 h17 (qr 1) K V h46 hX14 hX15 hkb hvb
  have efirst : ∀ q : S1.Idx, x0 q = x0 (ix1 (0 : Fin 1)) := fun q => congrArg x0 (funext fun a => by fin_cases a; exact Subsingleton.elim (α := Fin 1) _ _)
  unfold outVal
  refine congrArg₂ (· * ·) (congrArg₂ (· * ·) (congrArg (fun f => normed f d) (funext fun e => ?_)) ?_) ?_
  · refine (diff_final _ _ _ r (fun d => wsum (fun key => ∑ x, qr 0 x * K key x) (fun key => V key d) (b.val * 512 + r.val))
      (fun d => wsum (fun key => ∑ x, qr 1 x * K key x) (fun key => V key d) (b.val * 512 + r.val)) ⟨r0, fun d' => ?_⟩ ⟨r1, fun d' => ?_⟩
      (wsum_pos _ _ hV1 _ hR) (wsum_pos _ _ hV1 _ hR) e).trans ?_
    · refine Eq.trans ?_ (c0 d')
      refine (ld16_0 arg16 _ r d').trans ((RA_two arg16 _ _ _ _ 0 r d').trans ((if_pos rfl).trans ((pay40_apply _ _ _ _ _ _ _ _ _).trans ?_)))
      exact congrArg₂ (fun m a => newAcc m a _ _) (ld17_0 arg17 H17 r) (ld16_0 arg16 H16 r d')
    · refine Eq.trans ?_ (c1 d')
      refine (ld16_1 arg16 _ r d').trans ((RA_two arg16 _ _ _ _ 1 r d').trans ((if_neg (by decide)).trans ((pay45_apply _ _ _ _ _ _ _ _).trans ?_)))
      exact congrArg₂ (fun m a => newAcc m a _ _) ((ld17_1 arg17 _ r).trans (RM_skip arg17 _ _ _ r)) ((ld16_1 arg16 _ r d').trans (RA_skip arg16 _ _ _ r d'))
    · rw [e11, el, efirst]
  · rw [e12]
  · rw [el, efirst]

theorem soutA0 (hc0 : cond0_0 i) : sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = k0_pay2 x2 x6 x7 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9)]
  unfold kernelRun0_A; dsimp only; sl_unfold_words
  rw [View.canon_unit_zero hz2]
  simp only [View.readAt_eq_ld, harg5.read_unread, harg9.read_unread, harg10.read_unread,
    View.ld_unit_zero (S := S4096x128) hz2, View.ld_unit_zero (S := S1x4096x128) hz3]
  rfl
theorem soutA1 (hc0 : cond0_0 i) : sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 = vOnes x3 := by
  unfold sout0_A_1
  unfold kernelRun0_A; dsimp only; sl_unfold_words
  simp only [View.readAt_eq_ld, harg6.read_unread, View.ld_unit_zero (S := S4096x128) hz2]
  funext q
  rw [show q = ix2 (q 0) (q 1) from by funext a; fin_cases a <;> rfl]
  exact vOnes_read _ _ x3 (q 0) (q 1)
end Out
end Cert.Proof.Attn
-- ==== Proof.AttnSpec.lean ====
module

public import proofs.«01_k».proof.Proof.AttnOut

@[expose] public section

noncomputable section

namespace Cert.Proof.Attn

open Idealize.ShloMosaic Idealize.ShloMosaic.TcCoe
open Cert.AttnIdeal

/-- The flattened row of position `r` of sequence `b`. -/
abbrev row (b : Fin 8) (r : Fin 4096) : Fin 32768 := ⟨b.val * 4096 + r.val, by omega⟩
/-- Lane `d` of head `h` in the query columns. -/
abbrev colQ (h : Fin 8) (d : Fin 128) : Fin 15360 := ⟨2048 + h.val * 128 + d.val, by omega⟩
/-- Lane `d` of head `h` in the key columns. -/
abbrev colK (h : Fin 8) (d : Fin 128) : Fin 15360 := ⟨3072 + h.val * 128 + d.val, by omega⟩
/-- Lane `d` of head `h` in the value columns. -/
abbrev colV (h : Fin 8) (d : Fin 128) : Fin 15360 := ⟨4096 + h.val * 128 + d.val, by omega⟩

/-! The queries', keys' and values' columns are 2048 to 5119. -/

theorem colQ_lo (h : Fin 8) (d : Fin 128) : 2048 ≤ (colQ h d).val := by show 2048 ≤ 2048 + h.val * 128 + d.val; omega
theorem colQ_hi (h : Fin 8) (d : Fin 128) : (colQ h d).val < 5120 := by show 2048 + h.val * 128 + d.val < 5120; omega
theorem colK_lo (h : Fin 8) (d : Fin 128) : 2048 ≤ (colK h d).val := by show 2048 ≤ 3072 + h.val * 128 + d.val; omega
theorem colK_hi (h : Fin 8) (d : Fin 128) : (colK h d).val < 5120 := by show 3072 + h.val * 128 + d.val < 5120; omega
theorem colV_lo (h : Fin 8) (d : Fin 128) : 2048 ≤ (colV h d).val := by show 2048 ≤ 4096 + h.val * 128 + d.val; omega
theorem colV_hi (h : Fin 8) (d : Fin 128) : (colV h d).val < 5120 := by show 4096 + h.val * 128 + d.val < 5120; omega

/-- The rotary turn of one row: each lane times its cosine plus the partner lane times its signed sine. -/
def rope (x ct st : Fin 128 → ℝ) (d : Fin 128) : ℝ := x d * ct d + x (partner d) * st d

section
variable (Z : Fin 32768 → Fin 15360 → ℝ) (C S : Fin 8 → Fin 4096 → Fin 128 → ℝ)

/-- The turned query of position `r`. -/
def qd (b h : Fin 8) (r : Fin 4096) (d : Fin 128) : ℝ := rope (fun e => Z (row b r) (colQ h e)) (C b r) (S b r) d
/-- The turned key of position `r`. -/
def kd (b h : Fin 8) (r : Fin 4096) (d : Fin 128) : ℝ := rope (fun e => Z (row b r) (colK h e)) (C b r) (S b r) d
/-- The value of position `r`, with ones beside it. -/
def vd (b h : Fin 8) (r : Fin 4096) (e : Fin 256) : ℝ := if he : e.val < 128 then Z (row b r) (colV h ⟨e.val, he⟩) else 1
/-- The scaled query of one component: the other component's lanes are zero. -/
def qr (b h : Fin 8) (r : Fin 4096) (i : Fin 2) (d : Fin 128) : ℝ := if d.val / 64 = i.val then qd Z C S b h r d * (1 / 8) else 0

/-- The attention of one row of one head at one lane. -/
def attnVal (lamInit : FVec Ideal S1 .f32) (lam : FVec Ideal S4x64 .f32) (g : FVec Ideal S128 .f32) (b h : Fin 8) (r : Fin 4096) (d : Fin 128) : EReal :=
  outVal (lamInit (ix1 (0 : Fin 1))) lam (fun q => g (ix1 (q 1))) (qr Z C S b h r) (kd Z C S b h) (vd Z b h) r.val d
end

/-- The attention as one function of the arguments, their entries taken as real numbers where they meet in a score or a value. -/
def G (a0 : FVec Ideal S32768x15360 .bf16) (a1 a2 : FVec Ideal S8x4096x128 .f32) (a3 : FVec Ideal S4x64 .f32) (a4 : FVec Ideal S128 .f32)
    (a5 : FVec Ideal S1 .f32) : FVec Ideal S32768x1024 .bf16 := fun i =>
  attnVal (fun R N => (a0 (ix2 R N)).toReal) (fun b r d => (a1 (ix3 b r d)).toReal) (fun b r d => (a2 (ix3 b r d)).toReal) a5 a3 a4
    ⟨(i 0).val / 4096, by have h : (i 0).val < 32768 := (i 0).isLt; omega⟩ ⟨(i 1).val / 128, by have h : (i 1).val < 1024 := (i 1).isLt; omega⟩
    ⟨(i 0).val % 4096, by omega⟩ ⟨(i 1).val % 128, by omega⟩

end Cert.Proof.Attn
-- ==== Proof.AttnKernel.lean ====
module

public import proofs.«01_k».proof.Defs
public import proofs.«01_k».proof.Proof.Gen.AttnIdeal.Value
public import Idealize.ShloMosaic.Lib.Pointwise
public import Idealize.ShloMosaic.Lib.WritesUnit
public import proofs.«01_k».proof.Proof.AttnOutA
public import proofs.«01_k».proof.Proof.AttnSpec
public import Idealize.ShloMosaic.Lib.StableHlo.ReadAt
public import Idealize.ShloMosaic.Lib.Claim

@[expose] public section

set_option maxRecDepth 16384

noncomputable section

namespace Cert.Proof.Attn

open Idealize.ShloMosaic Idealize.ShloMosaic.TcCoe Idealize.ShloMosaic.Tactic Idealize.SL.Sem
open Idealize.ShloMosaic.Pipeline (Dat)
open Cert.AttnIdeal Cert.AttnIdeal.Gen

variable (m : (ℓ : Loc nD τ sig) → Buf (Elt Ideal) ℓ) (ρ : Dev nD → PrngReg)

/-- The block index of each window at grid point `t`: sequence `t / 64`, head `t / 8 % 8`, query block `t % 8`. -/
theorem idx_facts : ∀ t : Fin cfg0.N,
    win0_0.index t 0 = 0
    ∧ win0_1.index t 0 = t.val / 64 * 8 + t.val % 8 ∧ win0_1.index t 1 = 16 + t.val / 8 % 8
    ∧ win0_2.index t 0 = t.val / 64 ∧ win0_2.index t 1 = 24 + t.val / 8 % 8
    ∧ win0_3.index t 0 = t.val / 64 ∧ win0_3.index t 1 = 32 + t.val / 8 % 8
    ∧ win0_4.index t 0 = t.val / 64 ∧ win0_4.index t 1 = t.val % 8 ∧ win0_4.index t 2 = 0
    ∧ win0_5.index t 0 = t.val / 64 ∧ win0_5.index t 1 = t.val % 8 ∧ win0_5.index t 2 = 0
    ∧ win0_6.index t 0 = t.val / 64 ∧ win0_6.index t 1 = 0 ∧ win0_6.index t 2 = 0
    ∧ win0_7.index t 0 = t.val / 64 ∧ win0_7.index t 1 = 0 ∧ win0_7.index t 2 = 0
    ∧ win0_8.index t 0 = 0 ∧ win0_8.index t 1 = 0
    ∧ win0_9.index t 0 = 0 ∧ win0_9.index t 1 = 0
    ∧ win0_10.index t 0 = t.val / 64 * 8 + t.val % 8 ∧ win0_10.index t 1 = t.val / 8 % 8
    ∧ (grid0.coords t 2).val = t.val % 8 :=
  (by decide +kernel : ∀ t : Fin grid0.N,
    win0_0.index t 0 = 0
    ∧ win0_1.index t 0 = t.val / 64 * 8 + t.val % 8 ∧ win0_1.index t 1 = 16 + t.val / 8 % 8
    ∧ win0_2.index t 0 = t.val / 64 ∧ win0_2.index t 1 = 24 + t.val / 8 % 8
    ∧ win0_3.index t 0 = t.val / 64 ∧ win0_3.index t 1 = 32 + t.val / 8 % 8
    ∧ win0_4.index t 0 = t.val / 64 ∧ win0_4.index t 1 = t.val % 8 ∧ win0_4.index t 2 = 0
    ∧ win0_5.index t 0 = t.val / 64 ∧ win0_5.index t 1 = t.val % 8 ∧ win0_5.index t 2 = 0
    ∧ win0_6.index t 0 = t.val / 64 ∧ win0_6.index t 1 = 0 ∧ win0_6.index t 2 = 0
    ∧ win0_7.index t 0 = t.val / 64 ∧ win0_7.index t 1 = 0 ∧ win0_7.index t 2 = 0
    ∧ win0_8.index t 0 = 0 ∧ win0_8.index t 1 = 0
    ∧ win0_9.index t 0 = 0 ∧ win0_9.index t 1 = 0
    ∧ win0_10.index t 0 = t.val / 64 * 8 + t.val % 8 ∧ win0_10.index t 1 = t.val / 8 % 8
    ∧ (grid0.coords t 2).val = t.val % 8)

/-- The initial λ, whole at every point. -/
theorem blk0 (c : Dev nD) (t : Fin cfg0.N)  :
    (iblk m c 0 t : Vec Ideal S1 .f32) (ix1 (0 : Fin 1)) = (m ((c : Thread nD τ).loc main_arg5) : FVec Ideal S1 .f32) (ix1 (0 : Fin 1)) := by
  have hf := idx_facts t
  unfold iblk
  rw [View.read_apply]
  show V m c main_arg5 _ = m (c.tc.loc main_arg5) _
  rw [V_main_arg5]
  congr 1
  funext a
  apply Fin.ext
  match a with
  | ⟨0, _⟩ => show win0_0.index t 0 * 1 + 1 * 0 = 0; omega

/-- Block `t` of the queries. -/
theorem blk1 (c : Dev nD) (t : Fin cfg0.N) (r : Fin 512) (d : Fin 128) (R : Fin 32768) (N : Fin 15360) (hR : R.val = (t.val / 64 * 8 + t.val % 8) * 512 + r.val) (hN : N.val = (16 + t.val / 8 % 8) * 128 + d.val) :
    (iblk m c 1 t : Vec Ideal S512x128 .bf16) (ix2 r d) = (m ((c : Thread nD τ).loc main_arg0) : FVec Ideal S32768x15360 .bf16) (ix2 R N) := by
  have hf := idx_facts t
  unfold iblk
  rw [View.read_apply]
  show V m c main_arg0 _ = m (c.tc.loc main_arg0) _
  rw [V_main_arg0]
  congr 1
  funext a
  apply Fin.ext
  match a with
  | ⟨0, _⟩ => show win0_1.index t 0 * 512 + 1 * r.val = R.val; omega
  | ⟨1, _⟩ => show win0_1.index t 1 * 128 + 1 * d.val = N.val; omega

/-- Block `t` of the keys. -/
theorem blk2 (c : Dev nD) (t : Fin cfg0.N) (r : Fin 4096) (d : Fin 128) (R : Fin 32768) (N : Fin 15360) (hR : R.val = t.val / 64 * 4096 + r.val) (hN : N.val = (24 + t.val / 8 % 8) * 128 + d.val) :
    (iblk m c 2 t : Vec Ideal S4096x128 .bf16) (ix2 r d) = (m ((c : Thread nD τ).loc main_arg0) : FVec Ideal S32768x15360 .bf16) (ix2 R N) := by
  have hf := idx_facts t
  unfold iblk
  rw [View.read_apply]
  show V m c main_arg0 _ = m (c.tc.loc main_arg0) _
  rw [V_main_arg0]
  congr 1
  funext a
  apply Fin.ext
  match a with
  | ⟨0, _⟩ => show win0_2.index t 0 * 4096 + 1 * r.val = R.val; omega
  | ⟨1, _⟩ => show win0_2.index t 1 * 128 + 1 * d.val = N.val; omega

/-- Block `t` of the values. -/
theorem blk3 (c : Dev nD) (t : Fin cfg0.N) (r : Fin 4096) (d : Fin 128) (R : Fin 32768) (N : Fin 15360) (hR : R.val = t.val / 64 * 4096 + r.val) (hN : N.val = (32 + t.val / 8 % 8) * 128 + d.val) :
    (iblk m c 3 t : Vec Ideal S4096x128 .bf16) (ix2 r d) = (m ((c : Thread nD τ).loc main_arg0) : FVec Ideal S32768x15360 .bf16) (ix2 R N) := by
  have hf := idx_facts t
  unfold iblk
  rw [View.read_apply]
  show V m c main_arg0 _ = m (c.tc.loc main_arg0) _
  rw [V_main_arg0]
  congr 1
  funext a
  apply Fin.ext
  match a with
  | ⟨0, _⟩ => show win0_3.index t 0 * 4096 + 1 * r.val = R.val; omega
  | ⟨1, _⟩ => show win0_3.index t 1 * 128 + 1 * d.val = N.val; omega

/-- Block `t` of the queries' cosines. -/
theorem blk4 (c : Dev nD) (t : Fin cfg0.N) (r : Fin 512) (d : Fin 128) (B : Fin 8) (R : Fin 4096) (hB : B.val = t.val / 64) (hR : R.val = t.val % 8 * 512 + r.val) :
    (iblk m c 4 t : Vec Ideal S1x512x128 .f32) (ix3 (0 : Fin 1) r d) = (m ((c : Thread nD τ).loc main_arg1) : FVec Ideal S8x4096x128 .f32) (ix3 B R d) := by
  have hf := idx_facts t
  unfold iblk
  rw [View.read_apply]
  show V m c main_arg1 _ = m (c.tc.loc main_arg1) _
  rw [V_main_arg1]
  congr 1
  funext a
  apply Fin.ext
  match a with
  | ⟨0, _⟩ => show win0_4.index t 0 * 1 + 1 * 0 = B.val; omega
  | ⟨1, _⟩ => show win0_4.index t 1 * 512 + 1 * r.val = R.val; omega
  | ⟨2, _⟩ => show win0_4.index t 2 * 128 + 1 * d.val = d.val; omega

/-- Block `t` of the queries' sines. -/
theorem blk5 (c : Dev nD) (t : Fin cfg0.N) (r : Fin 512) (d : Fin 128) (B : Fin 8) (R : Fin 4096) (hB : B.val = t.val / 64) (hR : R.val = t.val % 8 * 512 + r.val) :
    (iblk m c 5 t : Vec Ideal S1x512x128 .f32) (ix3 (0 : Fin 1) r d) = (m ((c : Thread nD τ).loc main_arg2) : FVec Ideal S8x4096x128 .f32) (ix3 B R d) := by
  have hf := idx_facts t
  unfold iblk
  rw [View.read_apply]
  show V m c main_arg2 _ = m (c.tc.loc main_arg2) _
  rw [V_main_arg2]
  congr 1
  funext a
  apply Fin.ext
  match a with
  | ⟨0, _⟩ => show win0_5.index t 0 * 1 + 1 * 0 = B.val; omega
  | ⟨1, _⟩ => show win0_5.index t 1 * 512 + 1 * r.val = R.val; omega
  | ⟨2, _⟩ => show win0_5.index t 2 * 128 + 1 * d.val = d.val; omega

/-- Block `t` of the keys' cosines. -/
theorem blk6 (c : Dev nD) (t : Fin cfg0.N) (r : Fin 4096) (d : Fin 128) (B : Fin 8) (hB : B.val = t.val / 64) :
    (iblk m c 6 t : Vec Ideal S1x4096x128 .f32) (ix3 (0 : Fin 1) r d) = (m ((c : Thread nD τ).loc main_arg1) : FVec Ideal S8x4096x128 .f32) (ix3 B r d) := by
  have hf := idx_facts t
  unfold iblk
  rw [View.read_apply]
  show V m c main_arg1 _ = m (c.tc.loc main_arg1) _
  rw [V_main_arg1]
  congr 1
  funext a
  apply Fin.ext
  match a with
  | ⟨0, _⟩ => show win0_6.index t 0 * 1 + 1 * 0 = B.val; omega
  | ⟨1, _⟩ => show win0_6.index t 1 * 4096 + 1 * r.val = r.val; omega
  | ⟨2, _⟩ => show win0_6.index t 2 * 128 + 1 * d.val = d.val; omega

/-- Block `t` of the keys' sines. -/
theorem blk7 (c : Dev nD) (t : Fin cfg0.N) (r : Fin 4096) (d : Fin 128) (B : Fin 8) (hB : B.val = t.val / 64) :
    (iblk m c 7 t : Vec Ideal S1x4096x128 .f32) (ix3 (0 : Fin 1) r d) = (m ((c : Thread nD τ).loc main_arg2) : FVec Ideal S8x4096x128 .f32) (ix3 B r d) := by
  have hf := idx_facts t
  unfold iblk
  rw [View.read_apply]
  show V m c main_arg2 _ = m (c.tc.loc main_arg2) _
  rw [V_main_arg2]
  congr 1
  funext a
  apply Fin.ext
  match a with
  | ⟨0, _⟩ => show win0_7.index t 0 * 1 + 1 * 0 = B.val; omega
  | ⟨1, _⟩ => show win0_7.index t 1 * 4096 + 1 * r.val = r.val; omega
  | ⟨2, _⟩ => show win0_7.index t 2 * 128 + 1 * d.val = d.val; omega

/-- The λ vectors, whole at every point. -/
theorem blk8 (c : Dev nD) (t : Fin cfg0.N) (i : Fin 4) (d : Fin 64) :
    (iblk m c 8 t : Vec Ideal S4x64 .f32) (ix2 i d) = (m ((c : Thread nD τ).loc main_arg3) : FVec Ideal S4x64 .f32) (ix2 i d) := by
  have hf := idx_facts t
  unfold iblk
  rw [View.read_apply]
  show V m c main_arg3 _ = m (c.tc.loc main_arg3) _
  rw [V_main_arg3]
  congr 1
  funext a
  apply Fin.ext
  match a with
  | ⟨0, _⟩ => show win0_8.index t 0 * 4 + 1 * i.val = i.val; omega
  | ⟨1, _⟩ => show win0_8.index t 1 * 64 + 1 * d.val = d.val; omega

/-- The gain as the host reshapes it. -/
theorem V_gain (c : Dev nD) (d : Fin 128) : (V m c main_v0 : FVec Ideal S1x128 .f32) (ix2 (0 : Fin 1) d) = (m ((c : Thread nD τ).loc main_arg4) : FVec Ideal S128 .f32) (ix1 d) := by
  show StableHlo.after hostOps0 (fun b => m (c, b)) (main_v0 : DevRef τ sig) (ix2 (0 : Fin 1) d) = _
  after_reads_at

/-- The gain's block, whole at every point. -/
theorem blk9 (c : Dev nD) (t : Fin cfg0.N) (d : Fin 128) :
    (iblk m c 9 t : Vec Ideal S1x128 .f32) (ix2 (0 : Fin 1) d) = (m ((c : Thread nD τ).loc main_arg4) : FVec Ideal S128 .f32) (ix1 d) := by
  have hf := idx_facts t
  refine Eq.trans ?_ (V_gain m c d)
  unfold iblk
  rw [View.read_apply]
  show V m c main_v0 _ = V m c main_v0 _
  congr 1
  funext a
  apply Fin.ext
  match a with
  | ⟨0, _⟩ => show win0_9.index t 0 * 1 + 1 * 0 = 0; omega
  | ⟨1, _⟩ => show win0_9.index t 1 * 128 + 1 * d.val = d.val; omega

/-- `G` of the arguments a memory holds. -/
abbrev result (c : Dev nD) : FVec Ideal S32768x1024 .bf16 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The projected entries a memory holds, as reals. -/
abbrev Zm (c : Dev nD) (R : Fin 32768) (N : Fin 15360) : ℝ := ((m ((c : Thread nD τ).loc main_arg0) : FVec Ideal S32768x15360 .bf16) (ix2 R N)).toReal
/-- The cosine table a memory holds, as reals. -/
abbrev Cm (c : Dev nD) (b : Fin 8) (r : Fin 4096) (d : Fin 128) : ℝ := ((m ((c : Thread nD τ).loc main_arg1) : FVec Ideal S8x4096x128 .f32) (ix3 b r d)).toReal
/-- The sine table a memory holds, as reals. -/
abbrev Sm (c : Dev nD) (b : Fin 8) (r : Fin 4096) (d : Fin 128) : ℝ := ((m ((c : Thread nD τ).loc main_arg2) : FVec Ideal S8x4096x128 .f32) (ix3 b r d)).toReal

/-- The projected entries of the queries, keys and values and both tables are real numbers. -/
structure Reals (c : Dev nD) : Prop where
  z : ∀ R N, 2048 ≤ N.val → N.val < 5120 → (m ((c : Thread nD τ).loc main_arg0) : FVec Ideal S32768x15360 .bf16) (ix2 R N) = ((Zm m c R N : ℝ) : EReal)
  ct : ∀ b r d, (m ((c : Thread nD τ).loc main_arg1) : FVec Ideal S8x4096x128 .f32) (ix3 b r d) = ((Cm m c b r d : ℝ) : EReal)
  st : ∀ b r d, (m ((c : Thread nD τ).loc main_arg2) : FVec Ideal S8x4096x128 .f32) (ix3 b r d) = ((Sm m c b r d : ℝ) : EReal)

section
variable {m}

/-- The keys' payload of point `t`'s blocks is the turned keys of its sequence and head. -/
theorem keys_blk {c : Dev nD} (H : Reals m c) (t : Fin cfg0.N) (b h : Fin 8) (hb : b.val = t.val / 64) (hh : h.val = t.val / 8 % 8)
    (key : Fin 4096) (e : Fin 128) :
    k0_pay2 (iblk m c 2 t : Vec Ideal S4096x128 .bf16) (iblk m c 6 t : Vec Ideal S1x4096x128 .f32) (iblk m c 7 t : Vec Ideal S1x4096x128 .f32) (ix2 key e)
      = ((kd (Zm m c) (Cm m c) (Sm m c) b h key e : ℝ) : EReal) := by
  rw [pay2_apply, blk2 m c t key e (row b key) (colK h e) (by show b.val * 4096 + key.val = _; omega) (by show 3072 + h.val * 128 + e.val = _; omega),
    blk2 m c t key (partner e) (row b key) (colK h (partner e)) (by show b.val * 4096 + key.val = _; omega) (by show 3072 + h.val * 128 + (partner e).val = _; omega),
    blk6 m c t key e b hb, blk7 m c t key e b hb, H.z _ _ (colK_lo h _) (colK_hi h _), H.z _ _ (colK_lo h _) (colK_hi h _), H.ct, H.st]
  simp only [← EReal.coe_mul, ← EReal.coe_add]
  rfl

/-- The values of point `t`'s block with ones beside them. -/
theorem vals_blk {c : Dev nD} (H : Reals m c) (t : Fin cfg0.N) (b h : Fin 8) (hb : b.val = t.val / 64) (hh : h.val = t.val / 8 % 8)
    (key : Fin 4096) (e : Fin 256) :
    vOnes (iblk m c 3 t : Vec Ideal S4096x128 .bf16) (ix2 key e) = ((vd (Zm m c) b h key e : ℝ) : EReal) := by
  show (if he : e.val < 128 then (iblk m c 3 t : Vec Ideal S4096x128 .bf16) (ix2 key ⟨e.val, he⟩) else (1 : EReal)) = _
  unfold vd
  by_cases he : e.val < 128
  · rw [dif_pos he, dif_pos he, blk3 m c t key ⟨e.val, he⟩ (row b key) (colV h ⟨e.val, he⟩) (by show b.val * 4096 + key.val = _; omega) (by show 4096 + h.val * 128 + e.val = (32 + t.val / 8 % 8) * 128 + e.val; omega), H.z _ _ (colV_lo h _) (colV_hi h _)]
  · rw [dif_neg he, dif_neg he]; rfl

theorem eighth : Ideal.ofBits FTy.f32 1040187392#32 = ((1 / 8 : ℝ) : EReal) := by
  simp [Ideal.ofBits, Ideal.ieee, -EReal.coe_mul]; norm_num

/-- The queries' payload of point `t`'s blocks is the turned queries, scaled. -/
theorem query_blk {c : Dev nD} (H : Reals m c) (t : Fin cfg0.N) (b h : Fin 8) (hb : b.val = t.val / 64) (hh : h.val = t.val / 8 % 8)
    (r : Fin 512) (R : Fin 4096) (hR : R.val = t.val % 8 * 512 + r.val) (e : Fin 128) :
    k0_pay21 (iblk m c 1 t : Vec Ideal S512x128 .bf16) (iblk m c 4 t : Vec Ideal S1x512x128 .f32) (iblk m c 5 t : Vec Ideal S1x512x128 .f32) (ix2 r e)
      = ((qd (Zm m c) (Cm m c) (Sm m c) b h R e * (1 / 8) : ℝ) : EReal) := by
  rw [pay21_apply, blk1 m c t r e (row b R) (colQ h e) (by show b.val * 4096 + R.val = _; omega) (by show 2048 + h.val * 128 + e.val = _; omega),
    blk1 m c t r (partner e) (row b R) (colQ h (partner e)) (by show b.val * 4096 + R.val = _; omega) (by show 2048 + h.val * 128 + (partner e).val = _; omega),
    blk4 m c t r e b R hb hR, blk5 m c t r e b R hb hR, H.z _ _ (colQ_lo h _) (colQ_hi h _), H.z _ _ (colQ_lo h _) (colQ_hi h _), H.ct, H.st, eighth]
  simp only [← EReal.coe_mul, ← EReal.coe_add]
  rfl

/-- The first component's query: its own lanes, zeros elsewhere. -/
theorem query0_blk {c : Dev nD} (H : Reals m c) (t : Fin cfg0.N) (b h : Fin 8) (hb : b.val = t.val / 64) (hh : h.val = t.val / 8 % 8)
    (r : Fin 512) (R : Fin 4096) (hR : R.val = t.val % 8 * 512 + r.val) (e : Fin 128) :
    k0_pay22 (k0_pay21 (iblk m c 1 t : Vec Ideal S512x128 .bf16) (iblk m c 4 t : Vec Ideal S1x512x128 .f32) (iblk m c 5 t : Vec Ideal S1x512x128 .f32)) (ix2 r e)
      = ((qr (Zm m c) (Cm m c) (Sm m c) b h R 0 e : ℝ) : EReal) := by
  rw [pay22_apply, query_blk H t b h hb hh r R hR e]
  unfold qr
  by_cases he : e.val < 64
  · rw [if_pos he, if_pos (show e.val / 64 = (0 : Fin 2).val by show e.val / 64 = 0; omega)]
  · rw [if_neg he, if_neg (show ¬e.val / 64 = (0 : Fin 2).val by show ¬e.val / 64 = 0; omega)]; rfl

/-- The second component's query: its own lanes, zeros elsewhere. -/
theorem query1_blk {c : Dev nD} (H : Reals m c) (t : Fin cfg0.N) (b h : Fin 8) (hb : b.val = t.val / 64) (hh : h.val = t.val / 8 % 8)
    (r : Fin 512) (R : Fin 4096) (hR : R.val = t.val % 8 * 512 + r.val) (e : Fin 128) :
    k0_pay23 (k0_pay21 (iblk m c 1 t : Vec Ideal S512x128 .bf16) (iblk m c 4 t : Vec Ideal S1x512x128 .f32) (iblk m c 5 t : Vec Ideal S1x512x128 .f32)) (ix2 r e)
      = ((qr (Zm m c) (Cm m c) (Sm m c) b h R 1 e : ℝ) : EReal) := by
  rw [pay23_apply, query_blk H t b h hb hh r R hR e]
  unfold qr
  by_cases he : e.val < 64
  · rw [if_pos he, if_neg (show ¬e.val / 64 = (1 : Fin 2).val by show ¬e.val / 64 = 1; omega)]; rfl
  · rw [if_neg he, if_pos (show e.val / 64 = (1 : Fin 2).val by show e.val / 64 = 1; omega)]

/-- After point `n` the two scratches hold the turned keys and the values of the point's sequence and head. -/
theorem scratch_eq {c : Dev nD} (H : Reals m c) : ∀ (n : ℕ) (hn : n < cfg0.N) (b h : Fin 8), b.val = n / 64 → h.val = n / 8 % 8 →
    (∀ (key : Fin 4096) (e : Fin 128), (outsAt0 m c n hn).2.1 (ix2 key e) = ((kd (Zm m c) (Cm m c) (Sm m c) b h key e : ℝ) : EReal))
    ∧ (∀ (key : Fin 4096) (e : Fin 256), (outsAt0 m c n hn).2.2 (ix2 key e) = ((vd (Zm m c) b h key e : ℝ) : EReal)) := by
  intro n
  induction n with
  | zero =>
    intro hn b h hb hh
    rw [outsAt0_A m c ⟨0, hn⟩ rfl]
    dsimp only
    rw [soutA0, soutA1]
    exact ⟨keys_blk H ⟨0, hn⟩ b h hb hh, vals_blk H ⟨0, hn⟩ b h hb hh⟩
  | succ n ih =>
    intro hn b h hb hh
    by_cases h0 : (n + 1) % 8 = 0
    · rw [outsAt0_A m c ⟨n + 1, hn⟩ h0]
      dsimp only
      rw [soutA0, soutA1]
      exact ⟨keys_blk H ⟨n + 1, hn⟩ b h hb hh, vals_blk H ⟨n + 1, hn⟩ b h hb hh⟩
    · rw [outsAt0_B m c ⟨n + 1, hn⟩ h0]
      dsimp only
      unfold sout0_B_0 sout0_B_1
      exact ih (Nat.lt_of_succ_lt hn) b h (by omega) (by omega)

theorem vd_one (Z : Fin 32768 → Fin 15360 → ℝ) (b h : Fin 8) (key : Fin 4096) : vd Z b h key 128 = 1 := by
  unfold vd
  rw [dif_neg (by decide)]

/-- What point `t` leaves in the output's staging buffer, at an element. -/
theorem out_eq {c : Dev nD} (H : Reals m c) (t : Fin cfg0.N) (r : Fin 512) (d : Fin 128) (b h : Fin 8) (hb : b.val = t.val / 64) (hh : h.val = t.val / 8 % 8)
    (R : Fin 4096) (hR : R.val = t.val % 8 * 512 + r.val) :
    (outsAt0 m c t.val t.isLt).1 (ix2 r d)
      = attnVal (Zm m c) (Cm m c) (Sm m c) (m ((c : Thread nD τ).loc main_arg5)) (m ((c : Thread nD τ).loc main_arg3)) (m ((c : Thread nD τ).loc main_arg4)) b h R d := by
  have hi : (grid0.coords t 2).val = (⟨t.val % 8, by omega⟩ : Fin 8).val := (idx_facts t).2.2.2.2.2.2.2.2.2.2.2.2.2.2.2.2.2.2.2.2.2.2.2.2.2
  have e8 : (iblk m c 8 t : Vec Ideal S4x64 .f32) = m ((c : Thread nD τ).loc main_arg3) := by
    funext q
    rw [show q = ix2 (q 0) (q 1) from eq_ix2 q]
    exact blk8 m c t (q 0) (q 1)
  have e9 : (iblk m c 9 t : Vec Ideal S1x128 .f32) = fun q => (m ((c : Thread nD τ).loc main_arg4) : FVec Ideal S128 .f32) (ix1 (q 1)) := by
    funext q
    have h1 : q = ix2 (0 : Fin 1) (q 1) := by
      funext a
      match a with
      | ⟨0, _⟩ => exact Fin.ext (by show (q 0).val = 0; have := (q 0).isLt; change (q 0).val < 1 at this; omega)
      | ⟨1, _⟩ => rfl
    rw [h1]
    exact blk9 m c t (q 1)
  unfold attnVal
  rw [hR]
  by_cases h0 : t.val % 8 = 0
  · rw [outsAt0_A m c t h0]
    dsimp only
    refine (outA c (grid0.coords t) _ _ _ _ _ _ _ _ _ _ _ _ _ _ _ _ _ _ _ _ _ _ _ _ _ _ _ _ _ _ _ _ _ _ _ _ _ _ _ _ ((hcond0_0 t).2 h0) ⟨t.val % 8, by omega⟩ hi r d
      (qr (Zm m c) (Cm m c) (Sm m c) b h R) (kd (Zm m c) (Cm m c) (Sm m c) b h) (vd (Zm m c) b h)
      (query0_blk H t b h hb hh r R hR) (query1_blk H t b h hb hh r R hR) (keys_blk H t b h hb hh) (vals_blk H t b h hb hh) (vd_one _ b h)).trans ?_
    rw [e8, e9, blk0 m c t]
    rfl
  · rw [outsAt0_B m c t h0]
    dsimp only
    have hs := scratch_eq H (t.val - 1) (by omega) b h (by omega) (by omega)
    refine (outB c (grid0.coords t) _ _ _ _ _ _ _ _ _ _ _ _ _ _ _ _ _ _ _ _ _ _ _ _ _ _ _ _ _ _ _ _ _ _ _ _ _ _ _ _ (fun hc => h0 ((hcond0_0 t).1 hc)) _ _ ⟨t.val % 8, by omega⟩ hi r d
      (qr (Zm m c) (Cm m c) (Sm m c) b h R) (kd (Zm m c) (Cm m c) (Sm m c) b h) (vd (Zm m c) b h)
      (query0_blk H t b h hb hh r R hR) (query1_blk H t b h hb hh r R hR) hs.1 hs.2 (vd_one _ b h)).trans ?_
    rw [e8, e9, blk0 m c t]
    rfl

/-- What point `t` writes back is block `t` of `G`. -/
theorem flushed_eq {c : Dev nD} (H : Reals m c) (t : Fin cfg0.N) :
    (dats m 0 c).flushed 10 t = ((cfg0.win 10).blk t).view.read (Elt Ideal) (result m c) := by
  rw [Value.flushed10]
  funext j
  obtain ⟨r, n, rfl⟩ : ∃ (r : Fin 512) (n : Fin 128), j = ix2 r n := ⟨j 0, j 1, eq_ix2 j⟩
  show (outsAt0 m c t.val t.isLt).1 (ix2 r n) = _
  have hf := idx_facts t
  have ht : t.val < 512 := t.isLt
  have hr : r.val < 512 := r.isLt
  have hn : n.val < 128 := n.isLt
  obtain ⟨R, hR⟩ : ∃ R : Fin 32768, R.val = (t.val / 64 * 8 + t.val % 8) * 512 + r.val := ⟨⟨_, by omega⟩, rfl⟩
  obtain ⟨N, hN⟩ : ∃ N : Fin 1024, N.val = t.val / 8 % 8 * 128 + n.val := ⟨⟨_, by omega⟩, rfl⟩
  have e : ((cfg0.win 10).blk t).view.read (Elt Ideal) (result m c) (ix2 r n) = result m c (ix2 R N) := by
    rw [View.read_apply]
    show result m c _ = _
    congr 1
    funext a
    apply Fin.ext
    match a with
    | ⟨0, _⟩ => show win0_10.index t 0 * 512 + 1 * r.val = R.val; omega
    | ⟨1, _⟩ => show win0_10.index t 1 * 128 + 1 * n.val = N.val; omega
  rw [e, out_eq H t r n ⟨R.val / 4096, by omega⟩ ⟨N.val / 128, by omega⟩ (by show R.val / 4096 = _; omega) (by show N.val / 128 = _; omega)
    ⟨R.val % 4096, by omega⟩ (by show R.val % 4096 = _; omega)]
  have hn2 : n = ⟨N.val % 128, by omega⟩ := Fin.ext (by show n.val = N.val % 128; omega)
  rw [hn2]
  rfl

/-- The result array holds `G` of the arguments: the blocks tile it. -/
theorem final {c : Dev nD} (H : Reals m c) : (dats m 0 c).arrAt 10 cfg0.N = result m c :=
  (dats m 0 c).arrAt_eq_of_cover 10 (result m c) (fun t _ => flushed_eq H t) fun i => by
    have h0 : (i 0 : Nat) < 32768 := (i 0).isLt
    have h1 : (i 1 : Nat) < 1024 := (i 1).isLt
    refine ⟨⟨((i 0).val / 4096 * 8 + (i 1).val / 128) * 8 + (i 0).val / 512 % 8, by show _ < 512; omega⟩, flush0_10 _, ?_⟩
    generalize ht : (⟨((i 0).val / 4096 * 8 + (i 1).val / 128) * 8 + (i 0).val / 512 % 8, _⟩ : Fin cfg0.N) = t
    have htv : t.val = ((i 0).val / 4096 * 8 + (i 1).val / 128) * 8 + (i 0).val / 512 % 8 := by rw [← ht]
    obtain ⟨-, -, -, -, -, -, -, -, -, -, -, -, -, -, -, -, -, -, -, -, -, -, -, hi0, hi1, -⟩ := idx_facts t
    show i ∈ ((View.whole main_v1).slice (win0_10.rect t)).set
    rw [View.set_slice_whole, Rect.mem_set_unit]
    intro a
    match a with
    | ⟨0, _⟩ => show win0_10.index t 0 * 512 ≤ (i 0 : Nat) ∧ (i 0 : Nat) < win0_10.index t 0 * 512 + 512; omega
    | ⟨1, _⟩ => show win0_10.index t 1 * 128 ≤ (i 1 : Nat) ∧ (i 1 : Nat) < win0_10.index t 1 * 128 + 128; omega
end

end Cert.Proof.Attn
-- ==== Proof.AttnRefScore.lean ====
module

public import proofs.«01_k».proof.Defs
public import proofs.«01_k».proof.Proof.Gen.AttnRefIdeal.Read
public import Idealize.ShloMosaic.Lib.Pointwise
public import proofs.«01_k».proof.Proof.AttnSpec

@[expose] public section

set_option maxRecDepth 16384

noncomputable section

namespace Cert.Proof.Attn

open Idealize.ShloMosaic Idealize.ShloMosaic.TcCoe Idealize.ShloMosaic.Tactic Idealize.SL.Sem
open Cert.AttnRefIdeal Cert.AttnRefIdeal.Gen Cert.AttnRefIdeal.Read
open Cert.Proof.AttnMath

/-- Lane `d` of component `c` among a head's 128 lanes. -/
abbrev lane (c : Fin 2) (d : Fin 64) : Fin 128 := ⟨c.val * 64 + d.val, by omega⟩
/-- Lane `d` of a head's first 8. -/
abbrev lo (d : ℕ) (h : d < 8) : Fin 128 := ⟨d, by omega⟩
/-- Lane `8 + d`. -/
abbrev hi (d : ℕ) (h : d < 8) : Fin 128 := ⟨8 + d, by omega⟩

/-- The tables' layout: on each component's 64 lanes 8 cosines, the same 8 and ones; 8 sines negated, the same 8 and zeros. -/
structure Layout (C S : Fin 8 → Fin 4096 → Fin 128 → ℝ) : Prop where
  c0 : ∀ b r (c : Fin 2) (d : ℕ) (h : d < 8), C b r (lane c ⟨d, by omega⟩) = C b r (lo d h)
  c1 : ∀ b r (c : Fin 2) (d : ℕ) (h : d < 8), C b r (lane c ⟨8 + d, by omega⟩) = C b r (lo d h)
  c2 : ∀ b r (c : Fin 2) (d : ℕ) (h : d < 48), C b r (lane c ⟨16 + d, by omega⟩) = 1
  s0 : ∀ b r (c : Fin 2) (d : ℕ) (h : d < 8), S b r (lane c ⟨d, by omega⟩) = -S b r (hi d h)
  s1 : ∀ b r (c : Fin 2) (d : ℕ) (h : d < 8), S b r (lane c ⟨8 + d, by omega⟩) = S b r (hi d h)
  s2 : ∀ b r (c : Fin 2) (d : ℕ) (h : d < 48), S b r (lane c ⟨16 + d, by omega⟩) = 0

theorem partner_lo (c : Fin 2) (d : ℕ) (h : d < 8) : partner (lane c ⟨d, by omega⟩) = lane c ⟨8 + d, by omega⟩ := by
  unfold partner
  apply Fin.ext
  rw [if_pos (by show (c.val * 64 + d) % 64 < 8; omega)]
  show (c.val * 64 + d + 8) % 128 = c.val * 64 + (8 + d)
  omega

theorem partner_hi (c : Fin 2) (d : ℕ) (h : d < 8) : partner (lane c ⟨8 + d, by omega⟩) = lane c ⟨d, by omega⟩ := by
  unfold partner
  apply Fin.ext
  rw [if_neg (by show ¬(c.val * 64 + (8 + d)) % 64 < 8; omega)]
  show (c.val * 64 + (8 + d) + 120) % 128 = c.val * 64 + d
  omega

section
variable (a0 : FVec Ideal S32768x15360 .bf16) (a1 a2 : FVec Ideal S8x4096x128 .f32)
variable (Z : Fin 32768 → Fin 15360 → ℝ) (C S : Fin 8 → Fin 4096 → Fin 128 → ℝ)

/-- The reference's query entries, before the turn. -/
theorem ref_query_raw (hz : ∀ R N, 2048 ≤ N.val → N.val < 5120 → a0 (ix2 R N) = ((Z R N : ℝ) : EReal)) (b : Fin 8) (s : Fin 4096) (h : Fin 8) (c : Fin 2) (d : Fin 64) :
    val_main_v6 (F := Ideal) a0 (ix5 b s h c d) = ((Z (row b s) (colQ h (lane c d)) : ℝ) : EReal) := by
  rw [val_main_v6_apply, val_main_v3_apply, val_main_v2_apply, ← hz (row b s) (colQ h (lane c d)) (colQ_lo h _) (colQ_hi h _)]
  refine congrArg a0 ?_
  have hb := b.isLt; have hs := s.isLt; have hh := h.isLt; have hc := c.isLt; have hd := d.isLt
  funext a
  apply Fin.ext
  match a with
  | ⟨0, _⟩ => show ((((b.val * 4096 + s.val) * 8 + h.val) * 2 + c.val) * 64 + d.val) / 1024 = b.val * 4096 + s.val; omega
  | ⟨1, _⟩ => show 2048 + ((((b.val * 4096 + s.val) * 8 + h.val) * 2 + c.val) * 64 + d.val) % 1024 = 2048 + h.val * 128 + (c.val * 64 + d.val); omega

/-- The reference's turned query on the first 8 lanes of a component. -/
theorem ref_query_lo (hz : ∀ R N, 2048 ≤ N.val → N.val < 5120 → a0 (ix2 R N) = ((Z R N : ℝ) : EReal)) (hC : ∀ b r d, a1 (ix3 b r d) = ((C b r d : ℝ) : EReal))
    (hS : ∀ b r d, a2 (ix3 b r d) = ((S b r d : ℝ) : EReal)) (L : Layout C S) (b : Fin 8) (s : Fin 4096) (h : Fin 8) (c : Fin 2) (d : ℕ) (hd : d < 8) :
    val_main_v15 (F := Ideal) a0 a1 a2 (ix5 b s h c (⟨d, hd⟩ : Fin 8)) = ((qd Z C S b h s (lane c ⟨d, by omega⟩) : ℝ) : EReal) := by
  have e9 : idx_main_v9 (ix5 b s h c (⟨d, hd⟩ : Fin 8)) = ix5 b s h c (⟨d, by omega⟩ : Fin 64) := by
    funext a; match a with | ⟨0, _⟩ => rfl | ⟨1, _⟩ => rfl | ⟨2, _⟩ => rfl | ⟨3, _⟩ => rfl | ⟨4, _⟩ => rfl
  have e10 : idx_main_v10 (ix5 b s h c (⟨d, hd⟩ : Fin 8)) = ix5 b s h c (⟨8 + d, by omega⟩ : Fin 64) := by
    funext a; match a with | ⟨0, _⟩ => rfl | ⟨1, _⟩ => rfl | ⟨2, _⟩ => rfl | ⟨3, _⟩ => rfl | ⟨4, _⟩ => rfl
  have e11 : idx_main_v0 (idx_main_v7 (idx_main_v11 (ix5 b s h c (⟨d, hd⟩ : Fin 8)))) = ix3 b s (lo d hd) := by
    funext a; match a with | ⟨0, _⟩ => rfl | ⟨1, _⟩ => rfl | ⟨2, _⟩ => rfl
  have e13 : idx_main_v1 (idx_main_v8 (idx_main_v13 (ix5 b s h c (⟨d, hd⟩ : Fin 8)))) = ix3 b s (hi d hd) := by
    funext a; match a with | ⟨0, _⟩ => rfl | ⟨1, _⟩ => rfl | ⟨2, _⟩ => rfl
  rw [val_main_v15_apply, val_main_v12_apply, val_main_v14_apply, val_main_v9_apply, val_main_v10_apply, val_main_v11_apply, val_main_v13_apply, val_main_v7_apply, val_main_v8_apply,
    val_main_v0_apply, val_main_v1_apply, e9, e10, e11, e13, hC, hS, ref_query_raw a0 Z hz, ref_query_raw a0 Z hz]
  show ((_ : ℝ) : EReal) * ((_ : ℝ) : EReal) - ((_ : ℝ) : EReal) * ((_ : ℝ) : EReal) = _
  rw [← EReal.coe_mul, ← EReal.coe_mul, ← EReal.coe_sub]
  congr 1
  unfold qd rope
  rw [partner_lo c d hd, L.c0 b s c d hd, L.s0 b s c d hd]
  ring

/-- The reference's turned query on the next 8 lanes. -/
theorem ref_query_hi (hz : ∀ R N, 2048 ≤ N.val → N.val < 5120 → a0 (ix2 R N) = ((Z R N : ℝ) : EReal)) (hC : ∀ b r d, a1 (ix3 b r d) = ((C b r d : ℝ) : EReal))
    (hS : ∀ b r d, a2 (ix3 b r d) = ((S b r d : ℝ) : EReal)) (L : Layout C S) (b : Fin 8) (s : Fin 4096) (h : Fin 8) (c : Fin 2) (d : ℕ) (hd : d < 8) :
    val_main_v20 (F := Ideal) a0 a1 a2 (ix5 b s h c (⟨d, hd⟩ : Fin 8)) = ((qd Z C S b h s (lane c ⟨8 + d, by omega⟩) : ℝ) : EReal) := by
  have e9 : idx_main_v9 (ix5 b s h c (⟨d, hd⟩ : Fin 8)) = ix5 b s h c (⟨d, by omega⟩ : Fin 64) := by
    funext a; match a with | ⟨0, _⟩ => rfl | ⟨1, _⟩ => rfl | ⟨2, _⟩ => rfl | ⟨3, _⟩ => rfl | ⟨4, _⟩ => rfl
  have e10 : idx_main_v10 (ix5 b s h c (⟨d, hd⟩ : Fin 8)) = ix5 b s h c (⟨8 + d, by omega⟩ : Fin 64) := by
    funext a; match a with | ⟨0, _⟩ => rfl | ⟨1, _⟩ => rfl | ⟨2, _⟩ => rfl | ⟨3, _⟩ => rfl | ⟨4, _⟩ => rfl
  have e16 : idx_main_v0 (idx_main_v7 (idx_main_v16 (ix5 b s h c (⟨d, hd⟩ : Fin 8)))) = ix3 b s (lo d hd) := by
    funext a; match a with | ⟨0, _⟩ => rfl | ⟨1, _⟩ => rfl | ⟨2, _⟩ => rfl
  have e18 : idx_main_v1 (idx_main_v8 (idx_main_v18 (ix5 b s h c (⟨d, hd⟩ : Fin 8)))) = ix3 b s (hi d hd) := by
    funext a; match a with | ⟨0, _⟩ => rfl | ⟨1, _⟩ => rfl | ⟨2, _⟩ => rfl
  rw [val_main_v20_apply, val_main_v17_apply, val_main_v19_apply, val_main_v9_apply, val_main_v10_apply, val_main_v16_apply, val_main_v18_apply, val_main_v7_apply, val_main_v8_apply,
    val_main_v0_apply, val_main_v1_apply, e9, e10, e16, e18, hC, hS, ref_query_raw a0 Z hz, ref_query_raw a0 Z hz]
  show ((_ : ℝ) : EReal) * ((_ : ℝ) : EReal) + ((_ : ℝ) : EReal) * ((_ : ℝ) : EReal) = _
  rw [← EReal.coe_mul, ← EReal.coe_mul, ← EReal.coe_add]
  congr 1
  unfold qd rope
  rw [partner_hi c d hd, L.c1 b s c d hd, L.s1 b s c d hd]

/-- The reference's turned query is the kernel's, lane by lane. -/
theorem ref_query (hz : ∀ R N, 2048 ≤ N.val → N.val < 5120 → a0 (ix2 R N) = ((Z R N : ℝ) : EReal)) (hC : ∀ b r d, a1 (ix3 b r d) = ((C b r d : ℝ) : EReal))
    (hS : ∀ b r d, a2 (ix3 b r d) = ((S b r d : ℝ) : EReal)) (L : Layout C S) (b : Fin 8) (s : Fin 4096) (h : Fin 8) (c : Fin 2) (d : Fin 64) :
    val_main_v23 (F := Ideal) a0 a1 a2 (ix5 b s h c d) = ((qd Z C S b h s (lane c d) : ℝ) : EReal) := by
  obtain ⟨d, hd64⟩ := d
  unfold val_main_v23
  by_cases h16 : d < 16
  · refine (concatenate_pair_apply_left (s₁ := S8x4096x8x2x16) (s₂ := S8x4096x8x2x48) _ _ _ _ (ix5 b s h c (⟨d, hd64⟩ : Fin 64)) rfl (ix5 b s h c (⟨d, h16⟩ : Fin 16)) (fun a => match a with | ⟨0, _⟩ => rfl | ⟨1, _⟩ => rfl | ⟨2, _⟩ => rfl | ⟨3, _⟩ => rfl | ⟨4, _⟩ => rfl)).trans ?_
    unfold val_main_v21
    by_cases h8 : d < 8
    · refine (concatenate_pair_apply_left (s₁ := S8x4096x8x2x8) (s₂ := S8x4096x8x2x8) _ _ _ _ (ix5 b s h c (⟨d, h16⟩ : Fin 16)) rfl (ix5 b s h c (⟨d, h8⟩ : Fin 8)) (fun a => match a with | ⟨0, _⟩ => rfl | ⟨1, _⟩ => rfl | ⟨2, _⟩ => rfl | ⟨3, _⟩ => rfl | ⟨4, _⟩ => rfl)).trans ?_
      exact ref_query_lo a0 a1 a2 Z C S hz hC hS L b s h c d h8
    · obtain ⟨d', rfl⟩ : ∃ d', d = 8 + d' := ⟨d - 8, by omega⟩
      have hd' : d' < 8 := by omega
      refine (concatenate_pair_apply_right (s₁ := S8x4096x8x2x8) (s₂ := S8x4096x8x2x8) _ _ _ _ (ix5 b s h c (⟨8 + d', h16⟩ : Fin 16)) rfl rfl (ix5 b s h c (⟨d', hd'⟩ : Fin 8))
        (fun a ha => match a, ha with | ⟨0, _⟩, _ => rfl | ⟨1, _⟩, _ => rfl | ⟨2, _⟩, _ => rfl | ⟨3, _⟩, _ => rfl | ⟨4, _⟩, ha => absurd rfl ha) (by show d' + 8 = 8 + d'; omega)).trans ?_
      exact ref_query_hi a0 a1 a2 Z C S hz hC hS L b s h c d' hd'
  · obtain ⟨d', rfl⟩ : ∃ d', d = 16 + d' := ⟨d - 16, by omega⟩
    have hd' : d' < 48 := by omega
    refine (concatenate_pair_apply_right (s₁ := S8x4096x8x2x16) (s₂ := S8x4096x8x2x48) _ _ _ _ (ix5 b s h c (⟨16 + d', hd64⟩ : Fin 64)) rfl rfl (ix5 b s h c (⟨d', hd'⟩ : Fin 48))
      (fun a ha => match a, ha with | ⟨0, _⟩, _ => rfl | ⟨1, _⟩, _ => rfl | ⟨2, _⟩, _ => rfl | ⟨3, _⟩, _ => rfl | ⟨4, _⟩, ha => absurd rfl ha) (by show d' + 16 = 16 + d'; omega)).trans ?_
    rw [val_main_v22_apply, show idx_main_v22 (ix5 b s h c (⟨d', hd'⟩ : Fin 48)) = ix5 b s h c (⟨16 + d', hd64⟩ : Fin 64) from by
      funext a; match a with | ⟨0, _⟩ => rfl | ⟨1, _⟩ => rfl | ⟨2, _⟩ => rfl | ⟨3, _⟩ => rfl | ⟨4, _⟩ => rfl, ref_query_raw a0 Z hz]
    congr 1
    unfold qd rope
    rw [L.c2 b s c d' hd', L.s2 b s c d' hd', mul_one, mul_zero, add_zero]

/-- The reference's key entries, before the turn. -/
theorem ref_key_raw (hz : ∀ R N, 2048 ≤ N.val → N.val < 5120 → a0 (ix2 R N) = ((Z R N : ℝ) : EReal)) (b : Fin 8) (s : Fin 4096) (h : Fin 8) (c : Fin 2) (d : Fin 64) :
    val_main_v24 (F := Ideal) a0 (ix5 b s h c d) = ((Z (row b s) (colK h (lane c d)) : ℝ) : EReal) := by
  rw [val_main_v24_apply, val_main_v4_apply, val_main_v2_apply, ← hz (row b s) (colK h (lane c d)) (colK_lo h _) (colK_hi h _)]
  refine congrArg a0 ?_
  have hb := b.isLt; have hs := s.isLt; have hh := h.isLt; have hc := c.isLt; have hd := d.isLt
  funext a
  apply Fin.ext
  match a with
  | ⟨0, _⟩ => show ((((b.val * 4096 + s.val) * 8 + h.val) * 2 + c.val) * 64 + d.val) / 1024 = b.val * 4096 + s.val; omega
  | ⟨1, _⟩ => show 3072 + ((((b.val * 4096 + s.val) * 8 + h.val) * 2 + c.val) * 64 + d.val) % 1024 = 3072 + h.val * 128 + (c.val * 64 + d.val); omega

/-- The reference's turned key on the first 8 lanes of a component. -/
theorem ref_key_lo (hz : ∀ R N, 2048 ≤ N.val → N.val < 5120 → a0 (ix2 R N) = ((Z R N : ℝ) : EReal)) (hC : ∀ b r d, a1 (ix3 b r d) = ((C b r d : ℝ) : EReal))
    (hS : ∀ b r d, a2 (ix3 b r d) = ((S b r d : ℝ) : EReal)) (L : Layout C S) (b : Fin 8) (s : Fin 4096) (h : Fin 8) (c : Fin 2) (d : ℕ) (hd : d < 8) :
    val_main_v33 (F := Ideal) a0 a1 a2 (ix5 b s h c (⟨d, hd⟩ : Fin 8)) = ((kd Z C S b h s (lane c ⟨d, by omega⟩) : ℝ) : EReal) := by
  have e9 : idx_main_v27 (ix5 b s h c (⟨d, hd⟩ : Fin 8)) = ix5 b s h c (⟨d, by omega⟩ : Fin 64) := by
    funext a; match a with | ⟨0, _⟩ => rfl | ⟨1, _⟩ => rfl | ⟨2, _⟩ => rfl | ⟨3, _⟩ => rfl | ⟨4, _⟩ => rfl
  have e10 : idx_main_v28 (ix5 b s h c (⟨d, hd⟩ : Fin 8)) = ix5 b s h c (⟨8 + d, by omega⟩ : Fin 64) := by
    funext a; match a with | ⟨0, _⟩ => rfl | ⟨1, _⟩ => rfl | ⟨2, _⟩ => rfl | ⟨3, _⟩ => rfl | ⟨4, _⟩ => rfl
  have e11 : idx_main_v0 (idx_main_v25 (idx_main_v29 (ix5 b s h c (⟨d, hd⟩ : Fin 8)))) = ix3 b s (lo d hd) := by
    funext a; match a with | ⟨0, _⟩ => rfl | ⟨1, _⟩ => rfl | ⟨2, _⟩ => rfl
  have e13 : idx_main_v1 (idx_main_v26 (idx_main_v31 (ix5 b s h c (⟨d, hd⟩ : Fin 8)))) = ix3 b s (hi d hd) := by
    funext a; match a with | ⟨0, _⟩ => rfl | ⟨1, _⟩ => rfl | ⟨2, _⟩ => rfl
  rw [val_main_v33_apply, val_main_v30_apply, val_main_v32_apply, val_main_v27_apply, val_main_v28_apply, val_main_v29_apply, val_main_v31_apply, val_main_v25_apply, val_main_v26_apply,
    val_main_v0_apply, val_main_v1_apply, e9, e10, e11, e13, hC, hS, ref_key_raw a0 Z hz, ref_key_raw a0 Z hz]
  show ((_ : ℝ) : EReal) * ((_ : ℝ) : EReal) - ((_ : ℝ) : EReal) * ((_ : ℝ) : EReal) = _
  rw [← EReal.coe_mul, ← EReal.coe_mul, ← EReal.coe_sub]
  congr 1
  unfold kd rope
  rw [partner_lo c d hd, L.c0 b s c d hd, L.s0 b s c d hd]
  ring

/-- The reference's turned key on the next 8 lanes. -/
theorem ref_key_hi (hz : ∀ R N, 2048 ≤ N.val → N.val < 5120 → a0 (ix2 R N) = ((Z R N : ℝ) : EReal)) (hC : ∀ b r d, a1 (ix3 b r d) = ((C b r d : ℝ) : EReal))
    (hS : ∀ b r d, a2 (ix3 b r d) = ((S b r d : ℝ) : EReal)) (L : Layout C S) (b : Fin 8) (s : Fin 4096) (h : Fin 8) (c : Fin 2) (d : ℕ) (hd : d < 8) :
    val_main_v38 (F := Ideal) a0 a1 a2 (ix5 b s h c (⟨d, hd⟩ : Fin 8)) = ((kd Z C S b h s (lane c ⟨8 + d, by omega⟩) : ℝ) : EReal) := by
  have e9 : idx_main_v27 (ix5 b s h c (⟨d, hd⟩ : Fin 8)) = ix5 b s h c (⟨d, by omega⟩ : Fin 64) := by
    funext a; match a with | ⟨0, _⟩ => rfl | ⟨1, _⟩ => rfl | ⟨2, _⟩ => rfl | ⟨3, _⟩ => rfl | ⟨4, _⟩ => rfl
  have e10 : idx_main_v28 (ix5 b s h c (⟨d, hd⟩ : Fin 8)) = ix5 b s h c (⟨8 + d, by omega⟩ : Fin 64) := by
    funext a; match a with | ⟨0, _⟩ => rfl | ⟨1, _⟩ => rfl | ⟨2, _⟩ => rfl | ⟨3, _⟩ => rfl | ⟨4, _⟩ => rfl
  have e16 : idx_main_v0 (idx_main_v25 (idx_main_v34 (ix5 b s h c (⟨d, hd⟩ : Fin 8)))) = ix3 b s (lo d hd) := by
    funext a; match a with | ⟨0, _⟩ => rfl | ⟨1, _⟩ => rfl | ⟨2, _⟩ => rfl
  have e18 : idx_main_v1 (idx_main_v26 (idx_main_v36 (ix5 b s h c (⟨d, hd⟩ : Fin 8)))) = ix3 b s (hi d hd) := by
    funext a; match a with | ⟨0, _⟩ => rfl | ⟨1, _⟩ => rfl | ⟨2, _⟩ => rfl
  rw [val_main_v38_apply, val_main_v35_apply, val_main_v37_apply, val_main_v27_apply, val_main_v28_apply, val_main_v34_apply, val_main_v36_apply, val_main_v25_apply, val_main_v26_apply,
    val_main_v0_apply, val_main_v1_apply, e9, e10, e16, e18, hC, hS, ref_key_raw a0 Z hz, ref_key_raw a0 Z hz]
  show ((_ : ℝ) : EReal) * ((_ : ℝ) : EReal) + ((_ : ℝ) : EReal) * ((_ : ℝ) : EReal) = _
  rw [← EReal.coe_mul, ← EReal.coe_mul, ← EReal.coe_add]
  congr 1
  unfold kd rope
  rw [partner_hi c d hd, L.c1 b s c d hd, L.s1 b s c d hd]

/-- The reference's turned key is the kernel's, lane by lane. -/
theorem ref_key (hz : ∀ R N, 2048 ≤ N.val → N.val < 5120 → a0 (ix2 R N) = ((Z R N : ℝ) : EReal)) (hC : ∀ b r d, a1 (ix3 b r d) = ((C b r d : ℝ) : EReal))
    (hS : ∀ b r d, a2 (ix3 b r d) = ((S b r d : ℝ) : EReal)) (L : Layout C S) (b : Fin 8) (s : Fin 4096) (h : Fin 8) (c : Fin 2) (d : Fin 64) :
    val_main_v41 (F := Ideal) a0 a1 a2 (ix5 b s h c d) = ((kd Z C S b h s (lane c d) : ℝ) : EReal) := by
  obtain ⟨d, hd64⟩ := d
  unfold val_main_v41
  by_cases h16 : d < 16
  · refine (concatenate_pair_apply_left (s₁ := S8x4096x8x2x16) (s₂ := S8x4096x8x2x48) _ _ _ _ (ix5 b s h c (⟨d, hd64⟩ : Fin 64)) rfl (ix5 b s h c (⟨d, h16⟩ : Fin 16)) (fun a => match a with | ⟨0, _⟩ => rfl | ⟨1, _⟩ => rfl | ⟨2, _⟩ => rfl | ⟨3, _⟩ => rfl | ⟨4, _⟩ => rfl)).trans ?_
    unfold val_main_v39
    by_cases h8 : d < 8
    · refine (concatenate_pair_apply_left (s₁ := S8x4096x8x2x8) (s₂ := S8x4096x8x2x8) _ _ _ _ (ix5 b s h c (⟨d, h16⟩ : Fin 16)) rfl (ix5 b s h c (⟨d, h8⟩ : Fin 8)) (fun a => match a with | ⟨0, _⟩ => rfl | ⟨1, _⟩ => rfl | ⟨2, _⟩ => rfl | ⟨3, _⟩ => rfl | ⟨4, _⟩ => rfl)).trans ?_
      exact ref_key_lo a0 a1 a2 Z C S hz hC hS L b s h c d h8
    · obtain ⟨d', rfl⟩ : ∃ d', d = 8 + d' := ⟨d - 8, by omega⟩
      have hd' : d' < 8 := by omega
      refine (concatenate_pair_apply_right (s₁ := S8x4096x8x2x8) (s₂ := S8x4096x8x2x8) _ _ _ _ (ix5 b s h c (⟨8 + d', h16⟩ : Fin 16)) rfl rfl (ix5 b s h c (⟨d', hd'⟩ : Fin 8))
        (fun a ha => match a, ha with | ⟨0, _⟩, _ => rfl | ⟨1, _⟩, _ => rfl | ⟨2, _⟩, _ => rfl | ⟨3, _⟩, _ => rfl | ⟨4, _⟩, ha => absurd rfl ha) (by show d' + 8 = 8 + d'; omega)).trans ?_
      exact ref_key_hi a0 a1 a2 Z C S hz hC hS L b s h c d' hd'
  · obtain ⟨d', rfl⟩ : ∃ d', d = 16 + d' := ⟨d - 16, by omega⟩
    have hd' : d' < 48 := by omega
    refine (concatenate_pair_apply_right (s₁ := S8x4096x8x2x16) (s₂ := S8x4096x8x2x48) _ _ _ _ (ix5 b s h c (⟨16 + d', hd64⟩ : Fin 64)) rfl rfl (ix5 b s h c (⟨d', hd'⟩ : Fin 48))
      (fun a ha => match a, ha with | ⟨0, _⟩, _ => rfl | ⟨1, _⟩, _ => rfl | ⟨2, _⟩, _ => rfl | ⟨3, _⟩, _ => rfl | ⟨4, _⟩, ha => absurd rfl ha) (by show d' + 16 = 16 + d'; omega)).trans ?_
    rw [val_main_v40_apply, show idx_main_v40 (ix5 b s h c (⟨d', hd'⟩ : Fin 48)) = ix5 b s h c (⟨16 + d', hd64⟩ : Fin 64) from by
      funext a; match a with | ⟨0, _⟩ => rfl | ⟨1, _⟩ => rfl | ⟨2, _⟩ => rfl | ⟨3, _⟩ => rfl | ⟨4, _⟩ => rfl, ref_key_raw a0 Z hz]
    congr 1
    unfold kd rope
    rw [L.c2 b s c d' hd', L.s2 b s c d' hd', mul_one, mul_zero, add_zero]

/-- The reference's values. -/
theorem ref_value (hz : ∀ R N, 2048 ≤ N.val → N.val < 5120 → a0 (ix2 R N) = ((Z R N : ℝ) : EReal)) (b : Fin 8) (s : Fin 4096) (h : Fin 8) (e : Fin 128) :
    val_main_v42 (F := Ideal) a0 (ix4 b s h e) = ((Z (row b s) (colV h e) : ℝ) : EReal) := by
  rw [val_main_v42_apply, val_main_v5_apply, val_main_v2_apply, ← hz (row b s) (colV h e) (colV_lo h _) (colV_hi h _)]
  refine congrArg a0 ?_
  have hb := b.isLt; have hs := s.isLt; have hh := h.isLt; have he := e.isLt
  funext a
  apply Fin.ext
  match a with
  | ⟨0, _⟩ => show (((b.val * 4096 + s.val) * 8 + h.val) * 128 + e.val) / 1024 = b.val * 4096 + s.val; omega
  | ⟨1, _⟩ => show 4096 + (((b.val * 4096 + s.val) * 8 + h.val) * 128 + e.val) % 1024 = 4096 + h.val * 128 + e.val; omega

/-- The score of a query and a key as a real number. -/
def sc (b h : Fin 8) (c : Fin 2) (q key : Fin 4096) : ℝ := ∑ x : Fin 128, qr Z C S b h q c x * kd Z C S b h key x

/-- The sum over a head's lanes with the other component's lanes zero is the sum over the component's lanes. -/
theorem sc_eq (b h : Fin 8) (c : Fin 2) (q key : Fin 4096) :
    sc Z C S b h c q key = (∑ d : Fin 64, qd Z C S b h q (lane c d) * kd Z C S b h key (lane c d)) * (1 / 8) := by
  have h2 : ∀ f : Fin 128 → ℝ, ∑ x, f x = ∑ d : Fin 64, f (lane 0 d) + ∑ d : Fin 64, f (lane 1 d) := fun f => by
    refine (Fin.sum_univ_add (a := 64) (b := 64) f).trans ?_
    refine congrArg₂ (· + ·) (Finset.sum_congr rfl fun d _ => congrArg f (Fin.ext ?_)) (Finset.sum_congr rfl fun d _ => congrArg f (Fin.ext ?_))
    · show d.val = 0 * 64 + d.val; omega
    · show 64 + d.val = 1 * 64 + d.val; omega
  have hl : ∀ (c' : Fin 2) (d : Fin 64), (lane c' d).val / 64 = c'.val := fun c' d => by
    have := d.isLt; show (c'.val * 64 + d.val) / 64 = c'.val; omega
  unfold sc
  rw [h2, Finset.sum_mul]
  have hq : ∀ c' d, qr Z C S b h q c (lane c' d) = if c' = c then qd Z C S b h q (lane c' d) * (1 / 8) else 0 := fun c' d => by
    unfold qr; rw [hl]; exact if_congr Fin.ext_iff.symm rfl rfl
  fin_cases c
  · simp only [hq]
    simp only [Fin.zero_eta, Fin.isValue, if_true, one_ne_zero, if_false, zero_mul, Finset.sum_const_zero, add_zero]
    exact Finset.sum_congr rfl fun d _ => by ring
  · simp only [hq]
    simp only [Fin.mk_one, Fin.isValue, if_true, zero_ne_one, if_false, zero_mul, Finset.sum_const_zero, zero_add]
    exact Finset.sum_congr rfl fun d _ => by ring

theorem eighth' : Ideal.ofBits FTy.f32 0x3E000000#32 = ((1 / 8 : ℝ) : EReal) := by
  simp [Ideal.ofBits, Ideal.ieee, -EReal.coe_mul]; norm_num

/-- The reference's scores. -/
theorem ref_score (hz : ∀ R N, 2048 ≤ N.val → N.val < 5120 → a0 (ix2 R N) = ((Z R N : ℝ) : EReal)) (hC : ∀ b r d, a1 (ix3 b r d) = ((C b r d : ℝ) : EReal))
    (hS : ∀ b r d, a2 (ix3 b r d) = ((S b r d : ℝ) : EReal)) (L : Layout C S) (b h : Fin 8) (c : Fin 2) (q key : Fin 4096) :
    val_main_v62 (F := Ideal) a0 a1 a2 (ix5 b h c q key) = ((sc Z C S b h c q key : ℝ) : EReal) := by
  have el : ∀ d, lidx_main_v60 (ix5 b h c q key) d = ix5 b q h c d := fun d => by
    funext a; match a with | ⟨0, _⟩ => rfl | ⟨1, _⟩ => rfl | ⟨2, _⟩ => rfl | ⟨3, _⟩ => rfl | ⟨4, _⟩ => rfl
  have er : ∀ d, ridx_main_v60 (ix5 b h c q key) d = ix5 b key h c d := fun d => by
    funext a; match a with | ⟨0, _⟩ => rfl | ⟨1, _⟩ => rfl | ⟨2, _⟩ => rfl | ⟨3, _⟩ => rfl | ⟨4, _⟩ => rfl
  rw [val_main_v62_apply, val_main_v60_apply, val_main_v61_apply, val_main_cst_1_apply, sc_eq]
  simp only [el, er, ref_query a0 a1 a2 Z C S hz hC hS L, ref_key a0 a1 a2 Z C S hz hC hS L, ← EReal.coe_mul, coe_sum]
  show _ * Ideal.ofBits FTy.f32 0x3E000000#32 = _
  rw [eighth']
  exact (EReal.coe_mul _ _).symm

end

end Cert.Proof.Attn

end
-- ==== Proof.AttnRefSoft.lean ====
module

public import proofs.«01_k».proof.Defs
public import proofs.«01_k».proof.Proof.Gen.AttnRefIdeal.Read
public import Idealize.ShloMosaic.Lib.Pointwise
public import Idealize.ShloMosaic.Lib.IdealHost
public import proofs.«01_k».proof.Proof.AttnRefScore

@[expose] public section

set_option maxRecDepth 16384

noncomputable section

namespace Cert.Proof.Attn

open Idealize.ShloMosaic Idealize.ShloMosaic.TcCoe Idealize.ShloMosaic.Tactic Idealize.SL.Sem
open Cert.AttnRefIdeal Cert.AttnRefIdeal.Gen Cert.AttnRefIdeal.Read
open Cert.Proof.AttnMath

theorem chunk_eq (k : Fin 4096) : val_main_v64 (F := Ideal) (ix1 k) = BitVec.ofNat 32 (k.val / 64) := by
  have h : ∀ k : Fin 4096, Scalar.select
      (IntOp.andi (IntOp.cmpi .ne (if BitVec.ofNat 32 k.val = 0 then (0 : BitVec 32) else if (BitVec.ofNat 32 k.val).msb then -1 else 1) 1#32)
        (IntOp.cmpi .ne (IntOp.remsi .host (BitVec.ofNat 32 k.val) 64#32) 0#32))
      (IntOp.subi (IntOp.divsi .host (BitVec.ofNat 32 k.val) 64#32) 1#32) (IntOp.divsi .host (BitVec.ofNat 32 k.val) 64#32)
      = BitVec.ofNat 32 (k.val / 64) := by decide +kernel
  have h4 : ∀ i, val_main_call0_v4 (F := Ideal) i = 1#32 := fun i => by
    show (if (64#32 : BitVec 32) = 0 then (0 : BitVec 32) else if (64#32 : BitVec 32).msb then -1 else 1) = 1#32
    decide
  have h3 : val_main_call0_v3 (F := Ideal) (ix1 k) = (if BitVec.ofNat 32 k.val = 0 then (0 : BitVec 32) else if (BitVec.ofNat 32 k.val).msb then -1 else 1) := rfl
  have h63 : val_main_v63 (F := Ideal) (ix1 k) = BitVec.ofNat 32 k.val := rfl
  refine Eq.trans ?_ (h k)
  rw [val_main_v64_apply, val_main_call0_v11_apply, val_main_call0_v6_apply, val_main_call0_v5_apply, h4, h3, val_main_call0_v10_apply,
    val_main_call0_v9_apply, val_main_call0_c_apply, val_main_call0_v8_apply, val_main_call0_v7_apply, val_main_call0_v13_apply,
    val_main_call0_v12_apply, val_main_call0_c_0_apply, val_main_call0_v2_apply, val_main_call0_v1_apply, val_main_call0_v0_apply,
    val_main_c_apply, h63]

theorem sle_eq (a b : ℕ) (ha : a < 64) (hb : b < 64) :
    IntOp.cmpi .sle (BitVec.ofNat 32 a) (BitVec.ofNat 32 b) = if a ≤ b then 1#1 else 0#1 :=
  (by decide +kernel : ∀ a b : Fin 64, IntOp.cmpi .sle (BitVec.ofNat 32 a.val) (BitVec.ofNat 32 b.val) = if a.val ≤ b.val then 1#1 else 0#1) ⟨a, ha⟩ ⟨b, hb⟩

/-- The reference's mask: a query sees the keys of its chunk and the chunks before it. -/
theorem ref_mask (q key : Fin 4096) : val_main_v69 (F := Ideal) (ix2 q key) = if key.val / 64 ≤ q.val / 64 then 1#1 else 0#1 := by
  have h1 : idx_main_v65 (idx_main_v67 (ix2 q key)) = ix1 key := by funext a; match a with | ⟨0, _⟩ => rfl
  have h2 : idx_main_v66 (idx_main_v68 (ix2 q key)) = ix1 q := by funext a; match a with | ⟨0, _⟩ => rfl
  rw [val_main_v69_apply, val_main_v67_apply, val_main_v68_apply, val_main_v65_apply, val_main_v66_apply, h1, h2, chunk_eq, chunk_eq]
  exact sle_eq _ _ (by omega) (by omega)

section
variable (a0 : FVec Ideal S32768x15360 .bf16) (a1 a2 : FVec Ideal S8x4096x128 .f32) (a3 : FVec Ideal S4x64 .f32) (a4 : FVec Ideal S128 .f32) (a5 : FVec Ideal S1 .f32)
variable (Z : Fin 32768 → Fin 15360 → ℝ) (C S : Fin 8 → Fin 4096 → Fin 128 → ℝ)

/-- What the arguments are asked for: real entries and the tables' layout. -/
structure Good : Prop where
  z : ∀ R N, 2048 ≤ N.val → N.val < 5120 → a0 (ix2 R N) = ((Z R N : ℝ) : EReal)
  ct : ∀ b r d, a1 (ix3 b r d) = ((C b r d : ℝ) : EReal)
  st : ∀ b r d, a2 (ix3 b r d) = ((S b r d : ℝ) : EReal)
  layout : Layout C S

variable {a0 a1 a2 Z C S} (H : Good a0 a1 a2 Z C S)
include H

/-- The reference's masked scores. -/
theorem ref_masked (b h : Fin 8) (c : Fin 2) (q key : Fin 4096) :
    val_main_v70 (F := Ideal) a0 a1 a2 (ix5 b h c q key) = keyScore (sc Z C S b h c q) q.val key := by
  have h1 : idx_main_call1_v1 (ix5 b h c q key) = ix2 q key := by funext a; match a with | ⟨0, _⟩ => rfl | ⟨1, _⟩ => rfl
  rw [val_main_v70_apply, val_main_call1_v1_apply, h1, ref_mask, ref_score a0 a1 a2 Z C S H.z H.ct H.st H.layout]
  unfold keyScore
  by_cases hk : key.val / 64 ≤ q.val / 64
  · rw [if_pos hk, if_pos hk]; rfl
  · rw [if_neg hk, if_neg hk]
    show Ideal.ofBits .f32 4286578688#32 = ⊥
    exact neg_inf_word

/-- The reference's row maximum is a real number. -/
theorem ref_max (b h : Fin 8) (c : Fin 2) (q : Fin 4096) : ∃ ρ : ℝ, val_main_v73 (F := Ideal) a0 a1 a2 (ix4 b h c q) = (ρ : EReal) := by
  have h1 : val_main_v71 (F := Ideal) a0 a1 a2 (ix4 b h c q) = mx (fun key => keyScore (sc Z C S b h c q) q.val key) := by
    unfold mx
    simp only [← ref_masked H]
    generalize hy : val_main_v70 (F := Ideal) a0 a1 a2 = y
    unfold val_main_v71
    rw [hy]
    pointwise [val_main_cst_3]
  obtain ⟨ρ, hρ⟩ := mx_real (fun key => keyScore (sc Z C S b h c q) q.val key)
    (fun j => by unfold keyScore; split_ifs; exacts [EReal.coe_ne_top _, bot_ne_top])
    ⟨q, by show keyScore _ _ q ≠ ⊥; unfold keyScore; rw [if_pos le_rfl]; exact EReal.coe_ne_bot _⟩
  refine ⟨ρ, ?_⟩
  rw [val_main_v73_apply, h1, hρ]
  show max (Ideal.ofBits .f32 4286578688#32) _ = _
  rw [neg_inf_word]
  exact max_eq_right bot_le

/-- The reference's softmax: each weight over the sum of the weights. -/
theorem ref_soft (b h : Fin 8) (c : Fin 2) (q key : Fin 4096) :
    val_main_v81 (F := Ideal) a0 a1 a2 (ix5 b h c q key)
      = ((ew (keyScore (sc Z C S b h c q) q.val key) / wsum (sc Z C S b h c q) (fun _ => 1) q.val : ℝ) : EReal) := by
  obtain ⟨ρ, hρ⟩ := ref_max H b h c q
  have h75 : ∀ key, idx_main_v74 (idx_main_v75 (ix5 b h c q key)) = ix4 b h c q := fun key => by
    funext a; match a with | ⟨0, _⟩ => rfl | ⟨1, _⟩ => rfl | ⟨2, _⟩ => rfl | ⟨3, _⟩ => rfl
  have h79 : idx_main_v79 (idx_main_v80 (ix5 b h c q key)) = ix4 b h c q := by
    funext a; match a with | ⟨0, _⟩ => rfl | ⟨1, _⟩ => rfl | ⟨2, _⟩ => rfl | ⟨3, _⟩ => rfl
  have h78 : ∀ k, idx_main_v78 (ix4 b h c q) k = ix5 b h c q k := fun k => by
    funext a; match a with | ⟨0, _⟩ => rfl | ⟨1, _⟩ => rfl | ⟨2, _⟩ => rfl | ⟨3, _⟩ => rfl | ⟨4, _⟩ => rfl
  have h77 : ∀ key, val_main_v77 (F := Ideal) a0 a1 a2 (ix5 b h c q key) = ((Real.exp (-ρ) * ew (keyScore (sc Z C S b h c q) q.val key) : ℝ) : EReal) := fun key => by
    rw [val_main_v77_apply, val_main_v76_apply, val_main_v75_apply, val_main_v74_apply, h75, hρ, ref_masked H]
    exact exp_sub_coe (by unfold keyScore; split_ifs; exacts [EReal.coe_ne_top _, bot_ne_top]) ρ
  rw [val_main_v81_apply, val_main_v80_apply, val_main_v79_apply, h79, val_main_v78_apply, val_main_cst_5_apply]
  simp only [h78, h77]
  rw [coe_sum, ← Finset.mul_sum]
  show Ideal.div _ (Ideal.ofBits .f32 0#32 + _) = _
  rw [Ideal.ofBits_zero_f32, zero_add]
  have hw : (∑ k, ew (keyScore (sc Z C S b h c q) q.val k)) = wsum (sc Z C S b h c q) (fun _ => 1) q.val := by
    unfold wsum; exact Finset.sum_congr rfl fun k _ => (mul_one _).symm
  rw [hw]
  exact div_shift ρ (wsum_pos _ _ (fun _ => rfl) _ q.isLt)

omit H in
/-- The reference's λ is the kernel's. -/
theorem ref_lam (i : S_.Idx) : val_main_v59 (F := Ideal) a3 a5 i = lamOf a3 (a5 (ix1 (0 : Fin 1))) := by
  have s1 : ∀ f : S64.Idx → EReal, ∑ j : S64.Idx, f j = ∑ d : Fin 64, f (ix1 d) := fun f =>
    Fintype.sum_equiv (Equiv.mk (fun j : S64.Idx => (j 0 : Fin 64)) (fun d => ix1 d) (fun j => (eq_ix1 j).symm) (fun d => rfl)) _ _ (fun j => congrArg f (eq_ix1 j))
  have e0 : ∀ d : Fin 64, idx_main_v43 (idx_main_v44 (ix1 d)) = ix2 (0 : Fin 4) d := fun d => by
    have hd := d.isLt
    funext a; apply Fin.ext; match a with | ⟨0, _⟩ => rfl | ⟨1, _⟩ => show d.val % 64 = d.val; omega
  have e1 : ∀ d : Fin 64, idx_main_v45 (idx_main_v46 (ix1 d)) = ix2 (1 : Fin 4) d := fun d => by
    have hd := d.isLt
    funext a; apply Fin.ext; match a with | ⟨0, _⟩ => rfl | ⟨1, _⟩ => show d.val % 64 = d.val; omega
  have e2 : ∀ d : Fin 64, idx_main_v50 (idx_main_v51 (ix1 d)) = ix2 (2 : Fin 4) d := fun d => by
    have hd := d.isLt
    funext a; apply Fin.ext; match a with | ⟨0, _⟩ => rfl | ⟨1, _⟩ => show d.val % 64 = d.val; omega
  have e3 : ∀ d : Fin 64, idx_main_v52 (idx_main_v53 (ix1 d)) = ix2 (3 : Fin 4) d := fun d => by
    have hd := d.isLt
    funext a; apply Fin.ext; match a with | ⟨0, _⟩ => rfl | ⟨1, _⟩ => show d.val % 64 = d.val; omega
  have h58 : val_main_v58 (F := Ideal) a5 i = a5 (ix1 (0 : Fin 1)) := by
    unfold val_main_v58
    pointwise []
  rw [val_main_v59_apply, val_main_v57_apply, val_main_v49_apply, val_main_v56_apply, val_main_v48_apply, val_main_v55_apply, h58, s1, s1,
    val_main_cst_apply, val_main_cst_0_apply]
  simp only [val_main_v47_apply, val_main_v54_apply, val_main_v44_apply, val_main_v46_apply, val_main_v51_apply, val_main_v53_apply,
    val_main_v43_apply, val_main_v45_apply, val_main_v50_apply, val_main_v52_apply, e0, e1, e2, e3]
  show Ideal.exp (Ideal.ofBits .f32 0#32 + _) - Ideal.exp (Ideal.ofBits .f32 0#32 + _) + _ = _
  rw [Ideal.ofBits_zero_f32, zero_add, zero_add]
  rfl

/-- One lane of the reference's attention output, before the norm. -/
theorem ref_out {l : ℝ} (hl : lamOf a3 (a5 (ix1 (0 : Fin 1))) = (l : EReal)) (b h : Fin 8) (q : Fin 4096) (e : Fin 128) :
    val_main_v90 (F := Ideal) a0 a1 a2 a3 a5 (ix4 b q h e)
      = ((wsum (sc Z C S b h 0 q) (fun key => vd Z b h key ⟨e.val, by omega⟩) q.val / wsum (sc Z C S b h 0 q) (fun key => vd Z b h key 128) q.val : ℝ) : EReal)
        - lamOf a3 (a5 (ix1 (0 : Fin 1))) * ((wsum (sc Z C S b h 1 q) (fun key => vd Z b h key ⟨e.val, by omega⟩) q.val / wsum (sc Z C S b h 1 q) (fun key => vd Z b h key 128) q.val : ℝ) : EReal) := by
  have e90 : idx_main_v90 (ix4 b q h e) = ix4 b h e q := by
    funext a; match a with | ⟨0, _⟩ => rfl | ⟨1, _⟩ => rfl | ⟨2, _⟩ => rfl | ⟨3, _⟩ => rfl
  have el : ∀ k, lidx_main_v89 (ix4 b h e q) k = ix4 b k h e := fun k => by
    funext a; match a with | ⟨0, _⟩ => rfl | ⟨1, _⟩ => rfl | ⟨2, _⟩ => rfl | ⟨3, _⟩ => rfl
  have er : ∀ k, ridx_main_v89 (ix4 b h e q) k = ix4 b h q k := fun k => by
    funext a; match a with | ⟨0, _⟩ => rfl | ⟨1, _⟩ => rfl | ⟨2, _⟩ => rfl | ⟨3, _⟩ => rfl
  have hb := b.isLt; have hh := h.isLt; have hq := q.isLt
  have e83 : ∀ k : Fin 4096, idx_main_v82 (idx_main_v83 (ix4 b h q k)) = ix5 b h (0 : Fin 2) q k := fun k => by
    have hk := k.isLt
    funext a; apply Fin.ext
    match a with
    | ⟨0, _⟩ => show (((b.val * 8 + h.val) * 4096 + q.val) * 4096 + k.val) / 134217728 = b.val; omega
    | ⟨1, _⟩ => show (((b.val * 8 + h.val) * 4096 + q.val) * 4096 + k.val) / 16777216 % 8 = h.val; omega
    | ⟨2, _⟩ => rfl
    | ⟨3, _⟩ => show (((b.val * 8 + h.val) * 4096 + q.val) * 4096 + k.val) / 4096 % 4096 = q.val; omega
    | ⟨4, _⟩ => show (((b.val * 8 + h.val) * 4096 + q.val) * 4096 + k.val) % 4096 = k.val; omega
  have e85 : ∀ k : Fin 4096, idx_main_v84 (idx_main_v85 (ix4 b h q k)) = ix5 b h (1 : Fin 2) q k := fun k => by
    have hk := k.isLt
    funext a; apply Fin.ext
    match a with
    | ⟨0, _⟩ => show (((b.val * 8 + h.val) * 4096 + q.val) * 4096 + k.val) / 134217728 = b.val; omega
    | ⟨1, _⟩ => show (((b.val * 8 + h.val) * 4096 + q.val) * 4096 + k.val) / 16777216 % 8 = h.val; omega
    | ⟨2, _⟩ => rfl
    | ⟨3, _⟩ => show (((b.val * 8 + h.val) * 4096 + q.val) * 4096 + k.val) / 4096 % 4096 = q.val; omega
    | ⟨4, _⟩ => show (((b.val * 8 + h.val) * 4096 + q.val) * 4096 + k.val) % 4096 = k.val; omega
  have h88 : ∀ k : Fin 4096, val_main_v88 (F := Ideal) a0 a1 a2 a3 a5 (ix4 b h q k)
      = ((ew (keyScore (sc Z C S b h 0 q) q.val k) / wsum (sc Z C S b h 0 q) (fun _ => 1) q.val
          - l * (ew (keyScore (sc Z C S b h 1 q) q.val k) / wsum (sc Z C S b h 1 q) (fun _ => 1) q.val) : ℝ) : EReal) := fun k => by
    rw [val_main_v88_apply, val_main_v87_apply, val_main_v86_apply, val_main_v83_apply, val_main_v85_apply, val_main_v82_apply, val_main_v84_apply,
      e83, e85, ref_lam, hl, ref_soft H, ref_soft H, EReal.coe_sub, EReal.coe_mul]
    rfl
  have hv1 : ∀ c, wsum (sc Z C S b h c q) (fun key => vd Z b h key 128) q.val = wsum (sc Z C S b h c q) (fun _ => 1) q.val := fun c => by
    refine congrArg (fun f => wsum (sc Z C S b h c q) f q.val) (funext fun key => ?_)
    unfold vd; rw [dif_neg (by decide)]
  have hve : ∀ key, vd Z b h key ⟨e.val, by omega⟩ = Z (row b key) (colV h e) := fun key => by
    unfold vd; rw [dif_pos e.isLt]
  rw [val_main_v90_apply, e90, val_main_v89_apply, hv1, hv1, hl, ← EReal.coe_mul, ← EReal.coe_sub]
  simp only [el, er, ref_value a0 Z H.z, h88, ← EReal.coe_mul, coe_sum, hve]
  congr 1
  unfold wsum
  generalize (∑ key, ew (keyScore (sc Z C S b h 0 q) q.val key) * 1) = W0
  generalize (∑ key, ew (keyScore (sc Z C S b h 1 q) q.val key) * 1) = W1
  rw [Finset.sum_div, Finset.sum_div, Finset.mul_sum, ← Finset.sum_sub_distrib]
  exact Finset.sum_congr rfl fun k _ => by ring

/-- The reference's composed term is `G` of the arguments, at an element. -/
theorem ref_val {l : ℝ} (hl : lamOf a3 (a5 (ix1 (0 : Fin 1))) = (l : EReal)) (b h : Fin 8) (q : Fin 4096) (d : Fin 128) :
    val_main_v107 (F := Ideal) a0 a1 a2 a3 a4 a5 (ix4 b q h d) = attnVal Z C S a5 a3 a4 b h q d := by
  have e93 : idx_main_v93 (idx_main_v99 (ix4 b q h d)) = ix3 b q h := by
    funext a; match a with | ⟨0, _⟩ => rfl | ⟨1, _⟩ => rfl | ⟨2, _⟩ => rfl
  have e92 : ∀ k, idx_main_v92 (ix3 b q h) k = ix4 b q h k := fun k => by
    funext a; match a with | ⟨0, _⟩ => rfl | ⟨1, _⟩ => rfl | ⟨2, _⟩ => rfl | ⟨3, _⟩ => rfl
  have e101 : idx_main_v101 (idx_main_v102 (ix4 b q h d)) = ix1 d := by
    funext a; match a with | ⟨0, _⟩ => rfl
  have h104 : ∀ i, val_main_v104 (F := Ideal) a5 i = a5 (ix1 (0 : Fin 1)) := fun i => by
    unfold val_main_v104
    pointwise []
  rw [val_main_v107_apply, val_main_v103_apply, val_main_v100_apply, val_main_v99_apply, val_main_v98_apply, val_main_v97_apply, val_main_v95_apply,
    val_main_v93_apply, val_main_v92_apply, val_main_v94_apply, val_main_v96_apply, val_main_v102_apply, val_main_v101_apply, val_main_v106_apply,
    val_main_v105_apply, e93, e101, h104, val_main_cst_6_apply, val_main_cst_7_apply, val_main_cst_8_apply, val_main_cst_9_apply]
  simp only [e92, val_main_v91_apply]
  simp only [ref_out a3 a5 H hl]
  unfold attnVal outVal normed
  show _ * Ideal.rsqrt (Ideal.div (Ideal.ofBits .f32 0#32 + _) _ + _) * _ * (Ideal.ofBits .f32 0x3F800000#32 - _) = _
  rw [Ideal.ofBits_zero_f32, zero_add, Ideal.ofBits_one_f32]
  rfl
end

end Cert.Proof.Attn

end
-- ==== Proof.AttnPre.lean ====
module

public import proofs.«01_k».proof.Proof.AttnKernel
public import proofs.«01_k».proof.Proof.AttnRefSoft

@[expose] public section

set_option maxRecDepth 16384

noncomputable section

namespace Cert.Proof.Attn

open Idealize.ShloMosaic Idealize.ShloMosaic.TcCoe Idealize.SL.Sem
open Cert.Proof.AttnMath
open Cert.Pre_attention_inputs (S32768x15360 S8x4096x128 S4x64 S128 S1 fn)

/-- The precondition's shape conditions. -/
instance preFacts : Cert.Pre_attention_inputs.Facts where
  slices_S8x4096x128_S8x4096x8_0_0_0 := by decide
  slices_S8x4096x128_S8x4096x8_0_0_8 := by decide
  bcast_S_S8x4096x48 := by decide
  bitsLt_bf16_f32 := by decide
  slices_S32768x15360_S32768x3072_0_2048 := by decide
  bcast_S_S32768x3072 := by decide
  bcast_S_S8x4096x128 := by decide
  bcast_S_S4x64 := by decide
  bcast_S_S1 := by decide
  concatenates_S8x4096x8_S8x4096x8_S8x4096x48_S8x4096x8_S8x4096x8_S8x4096x48_S8x4096x128_d2 := by decide

section
variable (a0 : FVec Ideal S32768x15360 .bf16) (a1 a2 : FVec Ideal S8x4096x128 .f32) (a3 : FVec Ideal S4x64 .f32) (a4 : FVec Ideal S128 .f32) (a5 : FVec Ideal S1 .f32)

/-- A number whose absolute value is below infinity is a real one. -/
theorem real_of_abs_lt (x : EReal) (h : Ideal.cmp .olt (max x (-x)) (Ideal.ofBits .f32 0x7F800000#32) = 1#1) : x = ((x.toReal : ℝ) : EReal) := by
  have ht : Ideal.ofBits .f32 0x7F800000#32 = (⊤ : EReal) := by simp [Ideal.ofBits, Ideal.ieee]
  rw [ht] at h
  unfold Ideal.cmp at h
  have h2 : max x (-x) < ⊤ := by
    by_contra hn
    simp [hn] at h
  have hx : x ≠ ⊤ := fun e => by rw [e] at h2; simp at h2
  have hb : x ≠ ⊥ := fun e => by rw [e] at h2; simp at h2
  exact (EReal.coe_toReal hx hb).symm

theorem eq_of_oeq (x y : EReal) (h : Ideal.cmp .oeq x y = 1#1) : x = y := by
  unfold Ideal.cmp at h
  by_contra hn
  simp [hn] at h

abbrev T8 : Shape := ⟨3, ![8, 4096, 8]⟩
abbrev T48 : Shape := ⟨3, ![8, 4096, 48]⟩

/-- A table of the two components' lanes: `x`, `y` and `o` of each. -/
def tab (h : Shape.Concatenates [T8, T8, T48, T8, T8, T48] S8x4096x128 2) (x y : FVec Ideal T8 .f32) (o : FVec Ideal T48 .f32) : FVec Ideal S8x4096x128 .f32 :=
  concatenate S8x4096x128 2 [⟨T8, x⟩, ⟨T8, y⟩, ⟨T48, o⟩, ⟨T8, x⟩, ⟨T8, y⟩, ⟨T48, o⟩] h

theorem tab_x (h : Shape.Concatenates [T8, T8, T48, T8, T8, T48] S8x4096x128 2) (x y : FVec Ideal T8 .f32) (o : FVec Ideal T48 .f32)
    (b : Fin 8) (r : Fin 4096) (c : Fin 2) (d : ℕ) (hd : d < 8) :
    tab h x y o (ix3 b r (lane c ⟨d, by omega⟩)) = x (ix3 b r (⟨d, hd⟩ : Fin 8)) := by
  unfold tab
  match c with
  | ⟨0, _⟩ =>
    refine concatenate_apply_piece 2 [⟨T8, x⟩, ⟨T8, y⟩, ⟨T48, o⟩, ⟨T8, x⟩, ⟨T8, y⟩, ⟨T48, o⟩] h _ 0 (by simp) T8 x rfl rfl 0 rfl (ix3 b r (⟨d, hd⟩ : Fin 8)) ?_ ?_
    · intro a ha
      match a with
      | ⟨0, _⟩ => rfl
      | ⟨1, _⟩ => rfl
      | ⟨2, _⟩ => exact absurd rfl ha
    · show 0 + d = 0 * 64 + d
      omega
  | ⟨1, _⟩ =>
    refine concatenate_apply_piece 2 [⟨T8, x⟩, ⟨T8, y⟩, ⟨T48, o⟩, ⟨T8, x⟩, ⟨T8, y⟩, ⟨T48, o⟩] h _ 3 (by simp) T8 x rfl rfl 64 rfl (ix3 b r (⟨d, hd⟩ : Fin 8)) ?_ ?_
    · intro a ha
      match a with
      | ⟨0, _⟩ => rfl
      | ⟨1, _⟩ => rfl
      | ⟨2, _⟩ => exact absurd rfl ha
    · show 64 + d = 1 * 64 + d
      omega

theorem tab_y (h : Shape.Concatenates [T8, T8, T48, T8, T8, T48] S8x4096x128 2) (x y : FVec Ideal T8 .f32) (o : FVec Ideal T48 .f32)
    (b : Fin 8) (r : Fin 4096) (c : Fin 2) (d : ℕ) (hd : d < 8) :
    tab h x y o (ix3 b r (lane c ⟨8 + d, by omega⟩)) = y (ix3 b r (⟨d, hd⟩ : Fin 8)) := by
  unfold tab
  match c with
  | ⟨0, _⟩ =>
    refine concatenate_apply_piece 2 [⟨T8, x⟩, ⟨T8, y⟩, ⟨T48, o⟩, ⟨T8, x⟩, ⟨T8, y⟩, ⟨T48, o⟩] h _ 1 (by simp) T8 y rfl rfl 8 rfl (ix3 b r (⟨d, hd⟩ : Fin 8)) ?_ ?_
    · intro a ha
      match a with
      | ⟨0, _⟩ => rfl
      | ⟨1, _⟩ => rfl
      | ⟨2, _⟩ => exact absurd rfl ha
    · show 8 + d = 0 * 64 + (8 + d)
      omega
  | ⟨1, _⟩ =>
    refine concatenate_apply_piece 2 [⟨T8, x⟩, ⟨T8, y⟩, ⟨T48, o⟩, ⟨T8, x⟩, ⟨T8, y⟩, ⟨T48, o⟩] h _ 4 (by simp) T8 y rfl rfl 72 rfl (ix3 b r (⟨d, hd⟩ : Fin 8)) ?_ ?_
    · intro a ha
      match a with
      | ⟨0, _⟩ => rfl
      | ⟨1, _⟩ => rfl
      | ⟨2, _⟩ => exact absurd rfl ha
    · show 72 + d = 1 * 64 + (8 + d)
      omega

theorem tab_o (h : Shape.Concatenates [T8, T8, T48, T8, T8, T48] S8x4096x128 2) (x y : FVec Ideal T8 .f32) (o : FVec Ideal T48 .f32)
    (b : Fin 8) (r : Fin 4096) (c : Fin 2) (d : ℕ) (hd : d < 48) :
    tab h x y o (ix3 b r (lane c ⟨16 + d, by omega⟩)) = o (ix3 b r (⟨d, hd⟩ : Fin 48)) := by
  unfold tab
  match c with
  | ⟨0, _⟩ =>
    refine concatenate_apply_piece 2 [⟨T8, x⟩, ⟨T8, y⟩, ⟨T48, o⟩, ⟨T8, x⟩, ⟨T8, y⟩, ⟨T48, o⟩] h _ 2 (by simp) T48 o rfl rfl 16 rfl (ix3 b r (⟨d, hd⟩ : Fin 48)) ?_ ?_
    · intro a ha
      match a with
      | ⟨0, _⟩ => rfl
      | ⟨1, _⟩ => rfl
      | ⟨2, _⟩ => exact absurd rfl ha
    · show 16 + d = 0 * 64 + (16 + d)
      omega
  | ⟨1, _⟩ =>
    refine concatenate_apply_piece 2 [⟨T8, x⟩, ⟨T8, y⟩, ⟨T48, o⟩, ⟨T8, x⟩, ⟨T8, y⟩, ⟨T48, o⟩] h _ 5 (by simp) T48 o rfl rfl 80 rfl (ix3 b r (⟨d, hd⟩ : Fin 48)) ?_ ?_
    · intro a ha
      match a with
      | ⟨0, _⟩ => rfl
      | ⟨1, _⟩ => rfl
      | ⟨2, _⟩ => exact absurd rfl ha
    · show 80 + d = 1 * 64 + (16 + d)
      omega

theorem neg_toReal (x : EReal) : (-x).toReal = -x.toReal := by
  induction x <;> simp [← EReal.coe_neg]

/-- The cosine table has the layout the precondition names. -/
theorem cos_tab (h : (fn (F := Ideal) a0 a1 a2 a3 a4 a5).2.2.2.2.2.1 = fun _ => 1#1) :
    a1 = tab preFacts.concatenates_S8x4096x8_S8x4096x8_S8x4096x48_S8x4096x8_S8x4096x8_S8x4096x48_S8x4096x128_d2
      (extractStridedSlice T8 ![0, 0, 0] a1 preFacts.slices_S8x4096x128_S8x4096x8_0_0_0)
      (extractStridedSlice T8 ![0, 0, 0] a1 preFacts.slices_S8x4096x128_S8x4096x8_0_0_0) (fun _ => Ideal.ofBits .f32 0x3F800000#32) :=
  funext fun i => eq_of_oeq _ _ (congrFun h i)

/-- The sine table has the layout the precondition names. -/
theorem sin_tab (h : (fn (F := Ideal) a0 a1 a2 a3 a4 a5).2.2.2.2.2.2 = fun _ => 1#1) :
    a2 = tab preFacts.concatenates_S8x4096x8_S8x4096x8_S8x4096x48_S8x4096x8_S8x4096x8_S8x4096x48_S8x4096x128_d2
      (fun i => -(extractStridedSlice T8 ![0, 0, 8] a2 preFacts.slices_S8x4096x128_S8x4096x8_0_0_8 i))
      (extractStridedSlice T8 ![0, 0, 8] a2 preFacts.slices_S8x4096x128_S8x4096x8_0_0_8) (fun _ => Ideal.ofBits .f32 0x00000000#32) :=
  funext fun i => eq_of_oeq _ _ (congrFun h i)

/-- The precondition's entries are real numbers and its tables have the layout. -/
theorem good (h0 : (fn (F := Ideal) a0 a1 a2 a3 a4 a5).1 = fun _ => 1#1)
    (h1 : (fn (F := Ideal) a0 a1 a2 a3 a4 a5).2.1 = fun _ => 1#1)
    (h2 : (fn (F := Ideal) a0 a1 a2 a3 a4 a5).2.2.1 = fun _ => 1#1)
    (h5 : (fn (F := Ideal) a0 a1 a2 a3 a4 a5).2.2.2.2.2.1 = fun _ => 1#1)
    (h6 : (fn (F := Ideal) a0 a1 a2 a3 a4 a5).2.2.2.2.2.2 = fun _ => 1#1) :
    Good a0 a1 a2 (fun R N => (a0 (ix2 R N)).toReal) (fun b r d => (a1 (ix3 b r d)).toReal) (fun b r d => (a2 (ix3 b r d)).toReal) := by
  have hc := cos_tab a0 a1 a2 a3 a4 a5 h5
  have hs := sin_tab a0 a1 a2 a3 a4 a5 h6
  have ec : ∀ b r (d : Fin 8), extractStridedSlice T8 ![0, 0, 0] a1 preFacts.slices_S8x4096x128_S8x4096x8_0_0_0 (ix3 b r d) = a1 (ix3 b r (lo d.val d.isLt)) := fun b r d => by
    pointwise []
  have es : ∀ b r (d : Fin 8), extractStridedSlice T8 ![0, 0, 8] a2 preFacts.slices_S8x4096x128_S8x4096x8_0_0_8 (ix3 b r d) = a2 (ix3 b r (hi d.val d.isLt)) := fun b r d => by
    pointwise []
  have ez : ∀ (R : Fin 32768) (k : Fin 3072) (h : 2048 + k.val < 15360),
      extractStridedSlice Cert.Pre_attention_inputs.S32768x3072 ![0, 2048] a0 preFacts.slices_S32768x15360_S32768x3072_0_2048 (ix2 R k) = a0 (ix2 R ⟨2048 + k.val, h⟩) := fun R k h => by
    pointwise []
  refine ⟨fun R N hl hh => ?_, fun b r d => real_of_abs_lt _ (congrFun h1 _), fun b r d => real_of_abs_lt _ (congrFun h2 _), ?_⟩
  · have h := congrFun h0 (ix2 R (⟨N.val - 2048, by omega⟩ : Fin 3072))
    refine real_of_abs_lt _ ?_
    have e := ez R (⟨N.val - 2048, by omega⟩ : Fin 3072) (by show 2048 + (N.val - 2048) < 15360; omega)
    rw [show (⟨2048 + (N.val - 2048), by omega⟩ : Fin 15360) = N from Fin.ext (by show 2048 + (N.val - 2048) = N.val; omega)] at e
    rw [← e]
    exact h
  refine ⟨fun b r c d hd => ?_, fun b r c d hd => ?_, fun b r c d hd => ?_, fun b r c d hd => ?_, fun b r c d hd => ?_, fun b r c d hd => ?_⟩
  · exact congrArg EReal.toReal (((congrFun hc _).trans (tab_x _ _ _ _ b r c d hd)).trans (ec b r ⟨d, hd⟩))
  · exact congrArg EReal.toReal (((congrFun hc _).trans (tab_y _ _ _ _ b r c d hd)).trans (ec b r ⟨d, hd⟩))
  · exact congrArg EReal.toReal (((congrFun hc _).trans (tab_o _ _ _ _ b r c d hd)).trans Ideal.ofBits_one_f32)
  · refine (congrArg EReal.toReal ((congrFun hs _).trans (tab_x _ _ _ _ b r c d hd))).trans ?_
    rw [es b r ⟨d, hd⟩]
    exact neg_toReal _
  · exact congrArg EReal.toReal (((congrFun hs _).trans (tab_y _ _ _ _ b r c d hd)).trans (es b r ⟨d, hd⟩))
  · exact congrArg EReal.toReal (((congrFun hs _).trans (tab_o _ _ _ _ b r c d hd)).trans Ideal.ofBits_zero_f32)

/-- λ is a real number. -/
theorem lam_real (h3 : (fn (F := Ideal) a0 a1 a2 a3 a4 a5).2.2.2.1 = fun _ => 1#1)
    (h4 : (fn (F := Ideal) a0 a1 a2 a3 a4 a5).2.2.2.2.1 = fun _ => 1#1) :
    ∃ l : ℝ, lamOf a3 (a5 (ix1 (0 : Fin 1))) = (l : EReal) := by
  have e3 : ∀ i j, a3 (ix2 i j) = (((a3 (ix2 i j)).toReal : ℝ) : EReal) := fun i j => real_of_abs_lt _ (congrFun h3 _)
  have e5 : a5 (ix1 (0 : Fin 1)) = (((a5 (ix1 (0 : Fin 1))).toReal : ℝ) : EReal) := real_of_abs_lt _ (congrFun h4 _)
  have es : ∀ i j : Fin 4, (∑ k : Fin 64, a3 (ix2 i k) * a3 (ix2 j k)) = ((∑ k : Fin 64, (a3 (ix2 i k)).toReal * (a3 (ix2 j k)).toReal : ℝ) : EReal) := fun i j => by
    rw [← coe_sum]
    refine Finset.sum_congr rfl fun k _ => ?_
    rw [EReal.coe_mul, ← e3, ← e3]
  refine ⟨Real.exp (∑ k : Fin 64, (a3 (ix2 0 k)).toReal * (a3 (ix2 1 k)).toReal) - Real.exp (∑ k : Fin 64, (a3 (ix2 2 k)).toReal * (a3 (ix2 3 k)).toReal)
    + (a5 (ix1 (0 : Fin 1))).toReal, (congrArg (lamOf a3) e5).trans ?_⟩
  unfold lamOf
  rw [es, es, Ideal.exp_coe, Ideal.exp_coe, EReal.coe_add, EReal.coe_sub]

/-- The reference's composed term is `G` of the arguments. -/
theorem ref_eq (h : (fn (F := Ideal) a0 a1 a2 a3 a4 a5).1 = (fun _ => 1#1)
      ∧ (fn (F := Ideal) a0 a1 a2 a3 a4 a5).2.1 = (fun _ => 1#1)
      ∧ (fn (F := Ideal) a0 a1 a2 a3 a4 a5).2.2.1 = (fun _ => 1#1)
      ∧ (fn (F := Ideal) a0 a1 a2 a3 a4 a5).2.2.2.1 = (fun _ => 1#1)
      ∧ (fn (F := Ideal) a0 a1 a2 a3 a4 a5).2.2.2.2.1 = (fun _ => 1#1)
      ∧ (fn (F := Ideal) a0 a1 a2 a3 a4 a5).2.2.2.2.2.1 = (fun _ => 1#1)
      ∧ (fn (F := Ideal) a0 a1 a2 a3 a4 a5).2.2.2.2.2.2 = (fun _ => 1#1)) :
    Cert.AttnRefIdeal.Read.val_main_v109 (F := Ideal) a0 a1 a2 a3 a4 a5 = G a0 a1 a2 a3 a4 a5 := by
  obtain ⟨h0, h1, h2, h3, h4, h5, h6⟩ := h
  obtain ⟨l, hl⟩ := lam_real a0 a1 a2 a3 a4 a5 h3 h4
  have H := good a0 a1 a2 a3 a4 a5 h0 h1 h2 h5 h6
  funext i
  have hr : (i 0).val < 32768 := (i 0).isLt
  have hn : (i 1).val < 1024 := (i 1).isLt
  rw [Cert.AttnRefIdeal.Read.val_main_v109_apply, Cert.AttnRefIdeal.Read.val_main_v108_apply]
  have e : Cert.AttnRefIdeal.Read.idx_main_v108 i = ix4 (⟨(i 0).val / 4096, by omega⟩ : Fin 8) (⟨(i 0).val % 4096, by omega⟩ : Fin 4096)
      (⟨(i 1).val / 128, by omega⟩ : Fin 8) (⟨(i 1).val % 128, by omega⟩ : Fin 128) := by
    funext a
    apply Fin.ext
    match a with
    | ⟨0, _⟩ => show ((i 0).val * 1024 + (i 1).val) / 4194304 = (i 0).val / 4096; omega
    | ⟨1, _⟩ => show ((i 0).val * 1024 + (i 1).val) / 1024 % 4096 = (i 0).val % 4096; omega
    | ⟨2, _⟩ => show ((i 0).val * 1024 + (i 1).val) / 128 % 8 = (i 1).val / 128; omega
    | ⟨3, _⟩ => show ((i 0).val * 1024 + (i 1).val) % 128 = (i 1).val % 128; omega
  rw [e]
  exact ref_val a3 a4 a5 H hl _ _ _ _
end

end Cert.Proof.Attn

end
-- ==== Proof.Attn.lean ====
module

public import proofs.«01_k».proof.Proof.AttnPre
public import Idealize.ShloMosaic.Lib.Claim

@[expose] public section

set_option maxRecDepth 16384

noncomputable section

namespace Cert.Proof.Attn

open Idealize.ShloMosaic Idealize.ShloMosaic.TcCoe Idealize.SL.Sem
open Cert.AttnIdeal Cert.AttnIdeal.Gen

/-- The attention's kernel and its reference, over the extended reals, on real entries and rotation tables of the layout
    the precondition names: both end with `G` of the arguments. -/
theorem algebraic : Cert.algebraic_AttnIdeal_AttnRefIdeal_pre_attention_inputs (hAttnIdeal := Cert.AttnIdeal.Gen.facts)
    (hAttnRefIdeal := Cert.AttnRefIdeal.Gen.facts) (hPre_attention_inputs := preFacts) := by
  intro m g m' g' hp hm
  refine ⟨result m, ?_, ?_⟩
  · refine (θ_run _ _ _).mono (fun r h c => ⟨(h c).1.trans (final ?_), (h c).2⟩) (Value.run_blocks m g)
    obtain ⟨h0, h1, h2, h3, h4, h5, h6⟩ := hp c
    have H := good _ _ _ _ _ _ h0 h1 h2 h5 h6
    exact ⟨H.z, H.ct, H.st⟩
  · refine (θ_run _ _ _).mono (fun r h c => ⟨(h c).1.trans ?_, (h c).2⟩) (Cert.AttnRefIdeal.Value.run (F := Ideal) m' g')
    obtain ⟨h0, h1, h2, h3, h4, h5⟩ := hm c
    refine Eq.trans ?_ (ref_eq _ _ _ _ _ _ (hp c))
    refine (Cert.AttnRefIdeal.Read.val_main_v109_eq (F := Ideal) (StableHlo.launchContents m' c)).trans ?_
    have e0 : StableHlo.launchContents m' c (Proc.devRef .tc Cert.AttnRefIdeal.main_arg0) = m ((c.tc : Thread nD τ).loc main_arg0) := h0
    have e1 : StableHlo.launchContents m' c (Proc.devRef .tc Cert.AttnRefIdeal.main_arg1) = m ((c.tc : Thread nD τ).loc main_arg1) := h1
    have e2 : StableHlo.launchContents m' c (Proc.devRef .tc Cert.AttnRefIdeal.main_arg2) = m ((c.tc : Thread nD τ).loc main_arg2) := h2
    have e3 : StableHlo.launchContents m' c (Proc.devRef .tc Cert.AttnRefIdeal.main_arg3) = m ((c.tc : Thread nD τ).loc main_arg3) := h3
    have e4 : StableHlo.launchContents m' c (Proc.devRef .tc Cert.AttnRefIdeal.main_arg4) = m ((c.tc : Thread nD τ).loc main_arg4) := h4
    have e5 : StableHlo.launchContents m' c (Proc.devRef .tc Cert.AttnRefIdeal.main_arg5) = m ((c.tc : Thread nD τ).loc main_arg5) := h5
    rw [e0, e1, e2, e3, e4, e5]

end Cert.Proof.Attn

end
-- ==== Proof.InProj.lean ====
module

public import proofs.«01_k».proof.Defs
public import proofs.«01_k».proof.Proof.Gen.InProjIdeal.Value
public import proofs.«01_k».proof.Proof.Gen.InProjRefIdeal.Read
public import Idealize.ShloMosaic.Lib.Pointwise
public import Idealize.ShloMosaic.Lib.Claim

@[expose] public section

set_option maxRecDepth 16384

noncomputable section

namespace Cert.Proof.InProj

open Idealize.ShloMosaic Idealize.ShloMosaic.TcCoe Idealize.SL.Sem
open Idealize.ShloMosaic.Pipeline (Dat)
open Cert.InProjIdeal Cert.InProjIdeal.Gen

variable (m : (ℓ : Loc nD τ sig) → Buf (Elt Ideal) ℓ) (ρ : Dev nD → PrngReg)

/-- The row index of the sequence a row of the flattened tokens belongs to. -/
abbrev seqOf (R : Fin 32768) : Fin 8 := ⟨R.val / 4096, by have h := R.isLt; omega⟩

/-- One normalized and modulated entry: `x / sqrt(mean x^2 + eps) * gain * (1 + scale) + shift` at row `R`, column `k`. -/
def hrow (a0 : FVec Ideal S32768x2048 .f32) (a1 : FVec Ideal S1x2048 .f32) (a2 a3 : FVec Ideal S8x1x2048 .f32)
    (R : Fin 32768) (k : Fin 2048) : EReal :=
  a0 (ix2 R k) * Ideal.rsqrt (Ideal.div (∑ q : Fin 2048, a0 (ix2 R q) * a0 (ix2 R q)) (Ideal.ofBits .f32 0x45000000#32) + Ideal.ofBits .f32 0x358637BD#32)
    * a1 (ix2 (0 : Fin 1) k) * (Ideal.ofBits .f32 0x3F800000#32 + a3 (ix3 (seqOf R) (0 : Fin 1) k)) + a2 (ix3 (seqOf R) (0 : Fin 1) k)

/-- The input projection as one function of the arguments: the normalized rows times the weight. -/
def G (a0 : FVec Ideal S32768x2048 .f32) (a1 : FVec Ideal S1x2048 .f32) (a2 a3 : FVec Ideal S8x1x2048 .f32)
    (a4 : FVec Ideal S2048x15360 .bf16) : FVec Ideal S32768x15360 .bf16 := fun i =>
  ∑ k : Fin 2048, hrow a0 a1 a2 a3 (i 0) k * a4 (ix2 k (i 1))

/-- The block index of each window at grid point `t`, by the point's row block `t / 15` and column block `t % 15`. -/
theorem idx_facts : ∀ t : Fin cfg0.N,
    win0_0.index t 0 = t.val / 15 ∧ win0_0.index t 1 = 0
    ∧ win0_1.index t 0 = 0 ∧ win0_1.index t 1 = 0
    ∧ win0_2.index t 0 = t.val / 60 ∧ win0_2.index t 1 = 0 ∧ win0_2.index t 2 = 0
    ∧ win0_3.index t 0 = t.val / 60 ∧ win0_3.index t 1 = 0 ∧ win0_3.index t 2 = 0
    ∧ win0_4.index t 0 = 0 ∧ win0_4.index t 1 = t.val % 15
    ∧ win0_5.index t 0 = t.val / 15 ∧ win0_5.index t 1 = t.val % 15 :=
  (by decide +kernel : ∀ t : Fin grid0.N,
    win0_0.index t 0 = t.val / 15 ∧ win0_0.index t 1 = 0
    ∧ win0_1.index t 0 = 0 ∧ win0_1.index t 1 = 0
    ∧ win0_2.index t 0 = t.val / 60 ∧ win0_2.index t 1 = 0 ∧ win0_2.index t 2 = 0
    ∧ win0_3.index t 0 = t.val / 60 ∧ win0_3.index t 1 = 0 ∧ win0_3.index t 2 = 0
    ∧ win0_4.index t 0 = 0 ∧ win0_4.index t 1 = t.val % 15
    ∧ win0_5.index t 0 = t.val / 15 ∧ win0_5.index t 1 = t.val % 15)

theorem hz2 : (![0, 0] : Fin 2 → Nat) = fun _ => 0 := funext fun a => by fin_cases a <;> rfl
theorem hz3 : (![0, 0, 0] : Fin 3 → Nat) = fun _ => 0 := funext fun a => by fin_cases a <;> rfl

/-- The normalization's payload read at an element. -/
theorem pay1_apply (x0 : Vec Ideal S1024x2048 .f32) (x1 : Vec Ideal S1x2048 .f32) (x2 x3 : Vec Ideal S1x1x2048 .f32)
    (r : Fin 1024) (k : Fin 2048) :
    k0_pay1 x0 x1 x2 x3 (ix2 r k)
      = x0 (ix2 r k) * Ideal.rsqrt (Ideal.div (∑ q : Fin 2048, x0 (ix2 r q) * x0 (ix2 r q)) (Ideal.ofBits .f32 0x45000000#32) + Ideal.ofBits .f32 0x358637BD#32)
        * x1 (ix2 (0 : Fin 1) k) * (Ideal.ofBits .f32 0x3F800000#32 + x3 (ix3 (0 : Fin 1) (0 : Fin 1) k)) + x2 (ix3 (0 : Fin 1) (0 : Fin 1) k) := by
  pointwise [k0_pay1]

/-- The product's payload read at an element. -/
theorem pay2_apply (h : Vec Ideal S1024x2048 .bf16) (w : Vec Ideal S2048x1024 .bf16) (r n : Fin 1024) :
    k0_pay2 h w (ix2 r n) = ∑ k : Fin 2048, h (ix2 r k) * w (ix2 k n) := by
  pointwise [k0_pay2]

section Cases
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x1x2048 .f32) (harg4 : arg4.IsWhole) (arg5 : Memref sig .tc .vmem S1x1x2048 .f32) (harg5 : arg5.IsWhole) (arg6 : Memref sig .tc .vmem S2048x1024 .bf16) (harg6 : arg6.IsWhole) (arg7 : Memref sig .tc .vmem S1024x1024 .bf16) (harg7 : arg7.IsWhole) (arg8 : Memref sig .tc .vmem S1024x2048 .bf16) (harg8 : arg8.IsWhole)
    (x0 : Vec Ideal S1024x2048 .f32) (x1 : Vec Ideal S1x2048 .f32) (x2 : Vec Ideal S1x1x2048 .f32) (x3 : Vec Ideal S1x1x2048 .f32) (x4 : Vec Ideal S2048x1024 .bf16)

/-- At the first column block of a row block the scratch is left holding the normalized rows. -/
theorem sout_A (hc0 : cond0_0 i) :
    sout0_A_0 c i arg2 harg2 arg3 harg3 arg4 harg4 arg5 harg5 arg6 harg6 arg7 harg7 arg8 harg8 hc0 x0 x1 x2 x3 x4 = k0_pay1 x0 x1 x2 x3 := by
  unfold sout0_A_0
  rw [View.read_writes_eq_canon _ _ _ (scover0_A_0 c i arg2 harg2 arg3 harg3 arg4 harg4 arg5 harg5 arg6 harg6 arg7 harg7 arg8 harg8 hc0 x0 x1 x2 x3 x4)]
  unfold kernelRun0_A; dsimp only
  sl_unfold_words
  rw [View.canon_unit_zero hz2]
  simp only [View.readAt_eq_ld, harg2.read_unread, harg3.read_unread, harg4.read_unread, harg5.read_unread,
    View.ld_unit_zero (S := S1024x2048) hz2, View.ld_unit_zero (S := S1x2048) hz2, View.ld_unit_zero (S := S1x1x2048) hz3]

/-- At that point the block written back is the product with the rows just normalized. -/
theorem out_A (hc0 : cond0_0 i) :
    out0_A_5 c i arg2 harg2 arg3 harg3 arg4 harg4 arg5 harg5 arg6 harg6 arg7 harg7 arg8 harg8 hc0 x0 x1 x2 x3 x4 = k0_pay2 (k0_pay1 x0 x1 x2 x3) x4 := by
  unfold out0_A_5
  rw [View.read_writes_eq_canon _ _ _ (cover0_A_5 c i arg2 harg2 arg3 harg3 arg4 harg4 arg5 harg5 arg6 harg6 arg7 harg7 arg8 harg8 hc0 x0 x1 x2 x3 x4)]
  unfold kernelRun0_A; dsimp only
  sl_unfold_words
  rw [View.canon_unit_zero hz2, View.readCov_unit_zero (S := S1024x2048) _ hz2]
  simp only [View.readAt_eq_ld, harg2.read_unread, harg3.read_unread, harg4.read_unread, harg5.read_unread, harg6.read_unread,
    View.ld_unit_zero (S := S1024x2048) hz2, View.ld_unit_zero (S := S1x2048) hz2, View.ld_unit_zero (S := S1x1x2048) hz3,
    View.ld_unit_zero (S := S2048x1024) hz2]

/-- At any other point the block written back is the product with the rows the scratch holds. -/
theorem out_B (hc0 : ¬cond0_0 i) (xs0 : Vec Ideal S1024x2048 .bf16) :
    out0_B_5 c i arg2 harg2 arg3 harg3 arg4 harg4 arg5 harg5 arg6 harg6 arg7 harg7 arg8 harg8 hc0 x0 x1 x2 x3 x4 xs0 = k0_pay2 xs0 x4 := by
  unfold out0_B_5
  rw [View.read_writes_eq_canon _ _ _ (cover0_B_5 c i arg2 harg2 arg3 harg3 arg4 harg4 arg5 harg5 arg6 harg6 arg7 harg7 arg8 harg8 hc0 x0 x1 x2 x3 x4 xs0)]
  unfold kernelRun0_B; dsimp only
  sl_unfold_words
  rw [View.canon_unit_zero hz2]
  simp only [View.readAt_eq_ld, harg8.read_unread, harg6.read_unread,
    View.ld_unit_zero (S := S1024x2048) hz2, View.ld_unit_zero (S := S2048x1024) hz2]

end Cases

/-- Block `t` of the rows: rows `1024 (t / 15) + r`, every column. -/
theorem blk0 (c : Dev nD) (t : Fin cfg0.N) (r : Fin 1024) (k : Fin 2048) (R : Fin 32768) (hR : R.val = t.val / 15 * 1024 + r.val) :
    (iblk m c 0 t : Vec Ideal S1024x2048 .f32) (ix2 r k) = (m ((c : Thread nD τ).loc main_arg0) : FVec Ideal S32768x2048 .f32) (ix2 R k) := by
  have hf := idx_facts t
  unfold iblk
  rw [View.read_apply]
  show V m c main_arg0 _ = m (c.tc.loc main_arg0) _
  unfold V
  congr 1
  funext a
  apply Fin.ext
  match a with
  | ⟨0, _⟩ => show win0_0.index t 0 * 1024 + 1 * r.val = R.val; omega
  | ⟨1, _⟩ => show win0_0.index t 1 * 2048 + 1 * k.val = k.val; omega

/-- The gain, whole at every point. -/
theorem blk1 (c : Dev nD) (t : Fin cfg0.N) (k : Fin 2048) :
    (iblk m c 1 t : Vec Ideal S1x2048 .f32) (ix2 (0 : Fin 1) k) = (m ((c : Thread nD τ).loc main_arg1) : FVec Ideal S1x2048 .f32) (ix2 (0 : Fin 1) k) := by
  have hf := idx_facts t
  unfold iblk
  rw [View.read_apply]
  show V m c main_arg1 _ = m (c.tc.loc main_arg1) _
  unfold V
  congr 1
  funext a
  apply Fin.ext
  match a with
  | ⟨0, _⟩ => show win0_1.index t 0 * 1 + 1 * 0 = 0; omega
  | ⟨1, _⟩ => show win0_1.index t 1 * 2048 + 1 * k.val = k.val; omega

/-- Block `t` of the shift: the sequence the rows are of. -/
theorem blk2 (c : Dev nD) (t : Fin cfg0.N) (k : Fin 2048) (B : Fin 8) (hB : B.val = t.val / 60) :
    (iblk m c 2 t : Vec Ideal S1x1x2048 .f32) (ix3 (0 : Fin 1) (0 : Fin 1) k) = (m ((c : Thread nD τ).loc main_arg2) : FVec Ideal S8x1x2048 .f32) (ix3 B (0 : Fin 1) k) := by
  have hf := idx_facts t
  unfold iblk
  rw [View.read_apply]
  show V m c main_arg2 _ = m (c.tc.loc main_arg2) _
  unfold V
  congr 1
  funext a
  apply Fin.ext
  match a with
  | ⟨0, _⟩ => show win0_2.index t 0 * 1 + 1 * 0 = B.val; omega
  | ⟨1, _⟩ => show win0_2.index t 1 * 1 + 1 * 0 = 0; omega
  | ⟨2, _⟩ => show win0_2.index t 2 * 2048 + 1 * k.val = k.val; omega

/-- Block `t` of the scale: the sequence the rows are of. -/
theorem blk3 (c : Dev nD) (t : Fin cfg0.N) (k : Fin 2048) (B : Fin 8) (hB : B.val = t.val / 60) :
    (iblk m c 3 t : Vec Ideal S1x1x2048 .f32) (ix3 (0 : Fin 1) (0 : Fin 1) k) = (m ((c : Thread nD τ).loc main_arg3) : FVec Ideal S8x1x2048 .f32) (ix3 B (0 : Fin 1) k) := by
  have hf := idx_facts t
  unfold iblk
  rw [View.read_apply]
  show V m c main_arg3 _ = m (c.tc.loc main_arg3) _
  unfold V
  congr 1
  funext a
  apply Fin.ext
  match a with
  | ⟨0, _⟩ => show win0_3.index t 0 * 1 + 1 * 0 = B.val; omega
  | ⟨1, _⟩ => show win0_3.index t 1 * 1 + 1 * 0 = 0; omega
  | ⟨2, _⟩ => show win0_3.index t 2 * 2048 + 1 * k.val = k.val; omega

/-- Block `t` of the weight: every row, columns `1024 (t % 15) + n`. -/
theorem blk4 (c : Dev nD) (t : Fin cfg0.N) (k : Fin 2048) (n : Fin 1024) (N : Fin 15360) (hN : N.val = t.val % 15 * 1024 + n.val) :
    (iblk m c 4 t : Vec Ideal S2048x1024 .bf16) (ix2 k n) = (m ((c : Thread nD τ).loc main_arg4) : FVec Ideal S2048x15360 .bf16) (ix2 k N) := by
  have hf := idx_facts t
  unfold iblk
  rw [View.read_apply]
  show V m c main_arg4 _ = m (c.tc.loc main_arg4) _
  unfold V
  congr 1
  funext a
  apply Fin.ext
  match a with
  | ⟨0, _⟩ => show win0_4.index t 0 * 2048 + 1 * k.val = k.val; omega
  | ⟨1, _⟩ => show win0_4.index t 1 * 1024 + 1 * n.val = N.val; omega

/-- `hrow` of the arguments a memory holds. -/
abbrev hm (c : Dev nD) (R : Fin 32768) (k : Fin 2048) : EReal :=
  hrow (m ((c : Thread nD τ).loc main_arg0)) (m ((c : Thread nD τ).loc main_arg1)) (m ((c : Thread nD τ).loc main_arg2))
    (m ((c : Thread nD τ).loc main_arg3)) R k

/-- `G` of the arguments a memory holds. -/
abbrev result (c : Dev nD) : FVec Ideal S32768x15360 .bf16 :=
  G (m ((c : Thread nD τ).loc main_arg0)) (m ((c : Thread nD τ).loc main_arg1)) (m ((c : Thread nD τ).loc main_arg2))
    (m ((c : Thread nD τ).loc main_arg3)) (m ((c : Thread nD τ).loc main_arg4))

/-- The normalization's payload of point `t`'s blocks is `hrow` at the rows of that block. -/
theorem pay1_blk (c : Dev nD) (t : Fin cfg0.N) (r : Fin 1024) (k : Fin 2048) (R : Fin 32768) (hR : R.val = t.val / 15 * 1024 + r.val) :
    k0_pay1 (iblk m c 0 t : Vec Ideal S1024x2048 .f32) (iblk m c 1 t : Vec Ideal S1x2048 .f32) (iblk m c 2 t : Vec Ideal S1x1x2048 .f32) (iblk m c 3 t : Vec Ideal S1x1x2048 .f32) (ix2 r k)
      = hm m c R k := by
  have hB : (seqOf R).val = t.val / 60 := by
    have hr : r.val < 1024 := r.isLt
    show R.val / 4096 = t.val / 60
    omega
  rw [pay1_apply, blk1 m c t k, blk2 m c t k (seqOf R) hB, blk3 m c t k (seqOf R) hB]
  simp only [blk0 m c t r _ R hR]
  rfl

/-- After point `n` the scratch holds the normalized rows of the point's row block. -/
theorem scratch_eq (c : Dev nD) : ∀ (n : ℕ) (hn : n < cfg0.N) (r : Fin 1024) (k : Fin 2048) (R : Fin 32768),
    R.val = n / 15 * 1024 + r.val → (outsAt0 m c n hn).2 (ix2 r k) = hm m c R k := by
  intro n
  induction n with
  | zero =>
    intro hn r k R hR
    rw [outsAt0_A m c ⟨0, hn⟩ rfl]
    dsimp only
    rw [sout_A]
    exact pay1_blk m c ⟨0, hn⟩ r k R hR
  | succ n ih =>
    intro hn r k R hR
    by_cases h0 : (n + 1) % 15 = 0
    · rw [outsAt0_A m c ⟨n + 1, hn⟩ h0]
      dsimp only
      rw [sout_A]
      exact pay1_blk m c ⟨n + 1, hn⟩ r k R hR
    · rw [outsAt0_B m c ⟨n + 1, hn⟩ h0]
      dsimp only
      unfold sout0_B_0
      exact ih (Nat.lt_of_succ_lt hn) r k R (by omega)

/-- What point `t` leaves in the output's staging buffer, at an element. -/
theorem out_eq (c : Dev nD) (t : Fin cfg0.N) (r n : Fin 1024) (R : Fin 32768) (hR : R.val = t.val / 15 * 1024 + r.val)
    (N : Fin 15360) (hN : N.val = t.val % 15 * 1024 + n.val) :
    (outsAt0 m c t.val t.isLt).1 (ix2 r n)
      = ∑ k : Fin 2048, hm m c R k * (m ((c : Thread nD τ).loc main_arg4) : FVec Ideal S2048x15360 .bf16) (ix2 k N) := by
  by_cases h0 : t.val % 15 = 0
  · rw [outsAt0_A m c t h0]
    dsimp only
    rw [out_A, pay2_apply]
    refine Finset.sum_congr rfl fun k _ => ?_
    rw [pay1_blk m c t r k R hR, blk4 m c t k n N hN]
  · rw [outsAt0_B m c t h0]
    dsimp only
    rw [out_B, pay2_apply]
    refine Finset.sum_congr rfl fun k _ => ?_
    rw [scratch_eq m c (t.val - 1) _ r k R (by omega), blk4 m c t k n N hN]

/-- What point `t` writes back is block `t` of `G`. -/
theorem flushed_eq (c : Dev nD) (t : Fin cfg0.N) :
    (dats m 0 c).flushed 5 t = ((cfg0.win 5).blk t).view.read (Elt Ideal) (result m c) := by
  rw [Value.flushed5]
  funext j
  obtain ⟨r, n, rfl⟩ : ∃ (r : Fin 1024) (n : Fin 1024), j = ix2 r n := ⟨j 0, j 1, eq_ix2 j⟩
  show (outsAt0 m c t.val t.isLt).1 (ix2 r n) = _
  have hf := idx_facts t
  have ht : t.val < 480 := t.isLt
  have hr : r.val < 1024 := r.isLt
  have hn : n.val < 1024 := n.isLt
  obtain ⟨R, hR⟩ : ∃ R : Fin 32768, R.val = t.val / 15 * 1024 + r.val := ⟨⟨_, by omega⟩, rfl⟩
  obtain ⟨N, hN⟩ : ∃ N : Fin 15360, N.val = t.val % 15 * 1024 + n.val := ⟨⟨_, by omega⟩, rfl⟩
  have e : ((cfg0.win 5).blk t).view.read (Elt Ideal) (result m c) (ix2 r n) = result m c (ix2 R N) := by
    rw [View.read_apply]
    show result m c _ = _
    congr 1
    funext a
    apply Fin.ext
    match a with
    | ⟨0, _⟩ => show win0_5.index t 0 * 1024 + 1 * r.val = R.val; omega
    | ⟨1, _⟩ => show win0_5.index t 1 * 1024 + 1 * n.val = N.val; omega
  rw [e, out_eq m c t r n R hR N hN]
  rfl

/-- The result array holds `G` of the arguments: the blocks tile it. -/
theorem final (c : Dev nD) : (dats m 0 c).arrAt 5 cfg0.N = result m c :=
  (dats m 0 c).arrAt_eq_of_cover 5 (result m c) (fun t _ => flushed_eq m c t) fun i => by
    have h0 : (i 0 : Nat) < 32768 := (i 0).isLt
    have h1 : (i 1 : Nat) < 15360 := (i 1).isLt
    refine ⟨⟨(i 0).val / 1024 * 15 + (i 1).val / 1024, by show _ < 480; omega⟩, flush0_5 _, ?_⟩
    generalize ht : (⟨(i 0).val / 1024 * 15 + (i 1).val / 1024, _⟩ : Fin cfg0.N) = t
    have htv : t.val = (i 0).val / 1024 * 15 + (i 1).val / 1024 := by rw [← ht]
    have hf := idx_facts t
    show i ∈ ((View.whole main_v0).slice (win0_5.rect t)).set
    rw [View.set_slice_whole, Rect.mem_set_unit]
    intro a
    match a with
    | ⟨0, _⟩ => show win0_5.index t 0 * 1024 ≤ (i 0 : Nat) ∧ (i 0 : Nat) < win0_5.index t 0 * 1024 + 1024; omega
    | ⟨1, _⟩ => show win0_5.index t 1 * 1024 ≤ (i 1 : Nat) ∧ (i 1 : Nat) < win0_5.index t 1 * 1024 + 1024; omega

open Cert.InProjRefIdeal.Read in
/-- The reference's normalized rows are `hrow`. -/
theorem ref_h (a0 : FVec Ideal S32768x2048 .f32) (a1 : FVec Ideal S1x2048 .f32) (a2 a3 : FVec Ideal S8x1x2048 .f32)
    (b : Fin 8) (s : Fin 4096) (k : Fin 2048) (R : Fin 32768) (hR : R.val = b.val * 4096 + s.val) :
    val_main_v20 (F := Ideal) a0 a1 a2 a3 (ix3 b s k) = hrow a0 a1 a2 a3 R k := by
  have hb : b.val < 8 := b.isLt
  have hs : s.val < 4096 := s.isLt
  have e0 : ∀ q : Fin 2048, idx_main_v0 (ix3 b s q) = ix2 R q := fun q => by
    have hq : q.val < 2048 := q.isLt
    funext a
    apply Fin.ext
    match a with
    | ⟨0, _⟩ => show ((b.val * 4096 + s.val) * 2048 + q.val) / 2048 = R.val; omega
    | ⟨1, _⟩ => show ((b.val * 4096 + s.val) * 2048 + q.val) % 2048 = q.val; omega
  have e3 : ∀ q : Fin 2048, idx_main_v3 (idx_main_v4 (idx_main_v10 (ix3 b s k))) q = ix3 b s q := fun q => by
    funext a
    match a with
    | ⟨0, _⟩ => rfl
    | ⟨1, _⟩ => rfl
    | ⟨2, _⟩ => rfl
  have e1 : idx_main_v1 (idx_main_v12 (idx_main_v13 (ix3 b s k))) = ix2 (0 : Fin 1) k := by
    have hk : k.val < 2048 := k.isLt
    funext a
    apply Fin.ext
    match a with
    | ⟨0, _⟩ => rfl
    | ⟨1, _⟩ => show k.val % 2048 = k.val; omega
  have eb : seqOf R = b := Fin.ext (by show R.val / 4096 = b.val; omega)
  have e17 : idx_main_v17 (ix3 b s k) = ix3 b (0 : Fin 1) k := by
    funext a
    match a with
    | ⟨0, _⟩ => rfl
    | ⟨1, _⟩ => rfl
    | ⟨2, _⟩ => rfl
  have e19 : idx_main_v19 (ix3 b s k) = ix3 b (0 : Fin 1) k := e17
  rw [val_main_v20_apply, val_main_v18_apply, val_main_v14_apply, val_main_v11_apply, val_main_v0_apply, val_main_v10_apply,
    val_main_v9_apply, val_main_v8_apply, val_main_v6_apply, val_main_v4_apply, val_main_v3_apply, val_main_v5_apply,
    val_main_v7_apply, val_main_v13_apply, val_main_v12_apply, val_main_v1_apply, val_main_v17_apply, val_main_v16_apply,
    val_main_v15_apply, val_main_v19_apply]
  simp only [e3, val_main_v2_apply, val_main_v0_apply, e0, e1, e17, e19]
  unfold hrow
  rw [eb]
  have hz : ∀ q, (val_main_cst (F := Ideal)) q = (0 : EReal) := by
    intro q
    unfold val_main_cst
    exact Ideal.ofBits_zero_f32
  rw [hz, zero_add]
  rfl

open Cert.InProjRefIdeal.Read in
/-- The reference's composed term is `G` of the arguments. -/
theorem ref_eq (a0 : FVec Ideal S32768x2048 .f32) (a1 : FVec Ideal S1x2048 .f32) (a2 a3 : FVec Ideal S8x1x2048 .f32)
    (a4 : FVec Ideal S2048x15360 .bf16) :
    val_main_v24 (F := Ideal) a0 a1 a2 a3 a4 = G a0 a1 a2 a3 a4 := by
  funext i
  obtain ⟨r, n, rfl⟩ : ∃ (r : Fin 32768) (n : Fin 15360), i = ix2 r n := ⟨i 0, i 1, eq_ix2 i⟩
  have hr : r.val < 32768 := r.isLt
  have hn : n.val < 15360 := n.isLt
  rw [val_main_v24_apply, val_main_v23_apply]
  have e : idx_main_v23 (ix2 r n) = ix3 (⟨r.val / 4096, by omega⟩ : Fin 8) (⟨r.val % 4096, by omega⟩ : Fin 4096) n := by
    funext a
    apply Fin.ext
    match a with
    | ⟨0, _⟩ => show (r.val * 15360 + n.val) / 62914560 = r.val / 4096; omega
    | ⟨1, _⟩ => show (r.val * 15360 + n.val) / 15360 % 4096 = r.val % 4096; omega
    | ⟨2, _⟩ => show (r.val * 15360 + n.val) % 15360 = n.val; omega
  rw [e, val_main_v22_apply]
  unfold G
  show (∑ k : Fin 2048, _) = _
  refine Finset.sum_congr rfl fun k _ => ?_
  refine congrArg₂ (· * ·) ?_ ?_
  · refine Eq.trans (congrArg _ ?_) (ref_h a0 a1 a2 a3 (⟨r.val / 4096, by omega⟩ : Fin 8) (⟨r.val % 4096, by omega⟩ : Fin 4096) k r
      (by show r.val = r.val / 4096 * 4096 + r.val % 4096; omega))
    funext a
    match a with
    | ⟨0, _⟩ => rfl
    | ⟨1, _⟩ => rfl
    | ⟨2, _⟩ => rfl
  · rw [val_main_v21_apply]
    refine congrArg a4 ?_
    funext a
    match a with
    | ⟨0, _⟩ => rfl
    | ⟨1, _⟩ => rfl

/-- The input projection's kernel and its reference, over the extended reals: both end with `G` of the arguments. -/
theorem algebraic : Cert.algebraic_InProjIdeal_InProjRefIdeal (hInProjIdeal := Cert.InProjIdeal.Gen.facts)
    (hInProjRefIdeal := Cert.InProjRefIdeal.Gen.facts) := by
  intro m g m' g' _ hm
  refine ⟨result m, ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.InProjRefIdeal.Value.run (F := Ideal) m' g')
    obtain ⟨h0, h1, h2, h3, h4⟩ := hm c
    refine Eq.trans ?_ (ref_eq _ _ _ _ _)
    rw [← Cert.InProjRefIdeal.Read.val_main_v24_eq]
    rw [← h0, ← h1, ← h2, ← h3, ← h4]

end Cert.Proof.InProj

end
-- ==== Proof.Merge.lean ====
module

public import proofs.«01_k».proof.Defs
public import proofs.«01_k».proof.Proof.Gen.MergeIdeal.Value
public import proofs.«01_k».proof.Proof.Gen.MergeRefIdeal.Read
public import Idealize.ShloMosaic.Lib.Pointwise
public import Idealize.ShloMosaic.Lib.Claim

@[expose] public section

set_option maxRecDepth 16384

noncomputable section

namespace Cert.Proof.Merge

open Idealize.ShloMosaic Idealize.ShloMosaic.TcCoe Idealize.SL.Sem
open Idealize.ShloMosaic.Pipeline (Dat)
open Cert.MergeIdeal Cert.MergeIdeal.Gen

variable (m : (ℓ : Loc nD τ sig) → Buf (Elt Ideal) ℓ) (ρ : Dev nD → PrngReg)

/-- The sigmoid as the programs spell it: `1 / (1 + exp (-x))`. -/
def gateOf (x : EReal) : EReal :=
  Ideal.div (Ideal.ofBits .f32 0x3F800000#32) (Ideal.ofBits .f32 0x3F800000#32 + Ideal.exp (-x))

/-- Column `n` of gate `k`'s 2048 columns, the last 6144 of the projection's 15360. -/
abbrev gcol (k : Fin 3) (n : Fin 2048) : Fin 15360 := ⟨9216 + k.val * 2048 + n.val, by have h := n.isLt; have h' := k.isLt; omega⟩

/-- The gated merge as one function of the arguments: at row `r` and column `n` the sum over the three branches of
    the branch's gate times the branch's product with its weight. -/
def G (a0 a1 a2 : FVec Ideal S32768x1024 .bf16) (a3 : FVec Ideal S32768x15360 .bf16) (a4 a5 a6 : FVec Ideal S1024x2048 .bf16) :
    FVec Ideal S32768x2048 .bf16 := fun i =>
  gateOf (a3 (ix2 (i 0) (gcol 0 (i 1)))) * (∑ k : Fin 1024, a0 (ix2 (i 0) k) * a4 (ix2 k (i 1)))
    + gateOf (a3 (ix2 (i 0) (gcol 1 (i 1)))) * (∑ k : Fin 1024, a1 (ix2 (i 0) k) * a5 (ix2 k (i 1)))
    + gateOf (a3 (ix2 (i 0) (gcol 2 (i 1)))) * (∑ k : Fin 1024, a2 (ix2 (i 0) k) * a6 (ix2 k (i 1)))

/-- The block index of each window at grid point `t`, by the point's row block `t / 4` and column block `t % 4`. -/
theorem idx_facts : ∀ t : Fin cfg0.N,
    win0_0.index t 0 = t.val / 4 ∧ win0_0.index t 1 = 0
    ∧ win0_1.index t 0 = t.val / 4 ∧ win0_1.index t 1 = 0
    ∧ win0_2.index t 0 = t.val / 4 ∧ win0_2.index t 1 = 0
    ∧ win0_3.index t 0 = t.val / 4 ∧ win0_3.index t 1 = 18 + t.val % 4
    ∧ win0_4.index t 0 = t.val / 4 ∧ win0_4.index t 1 = 22 + t.val % 4
    ∧ win0_5.index t 0 = t.val / 4 ∧ win0_5.index t 1 = 26 + t.val % 4
    ∧ win0_6.index t 0 = 0 ∧ win0_6.index t 1 = t.val % 4
    ∧ win0_7.index t 0 = 0 ∧ win0_7.index t 1 = t.val % 4
    ∧ win0_8.index t 0 = 0 ∧ win0_8.index t 1 = t.val % 4
    ∧ win0_9.index t 0 = t.val / 4 ∧ win0_9.index t 1 = t.val % 4 :=
  (by decide +kernel : ∀ t : Fin grid0.N,
    win0_0.index t 0 = t.val / 4 ∧ win0_0.index t 1 = 0
    ∧ win0_1.index t 0 = t.val / 4 ∧ win0_1.index t 1 = 0
    ∧ win0_2.index t 0 = t.val / 4 ∧ win0_2.index t 1 = 0
    ∧ win0_3.index t 0 = t.val / 4 ∧ win0_3.index t 1 = 18 + t.val % 4
    ∧ win0_4.index t 0 = t.val / 4 ∧ win0_4.index t 1 = 22 + t.val % 4
    ∧ win0_5.index t 0 = t.val / 4 ∧ win0_5.index t 1 = 26 + t.val % 4
    ∧ win0_6.index t 0 = 0 ∧ win0_6.index t 1 = t.val % 4
    ∧ win0_7.index t 0 = 0 ∧ win0_7.index t 1 = t.val % 4
    ∧ win0_8.index t 0 = 0 ∧ win0_8.index t 1 = t.val % 4
    ∧ win0_9.index t 0 = t.val / 4 ∧ win0_9.index t 1 = t.val % 4)

theorem hz2 : (![0, 0] : Fin 2 → Nat) = fun _ => 0 := funext fun a => by fin_cases a <;> rfl

/-- The body's payloads read at an element of the block. -/
theorem out_apply (x0 x1 x2 : Vec Ideal S1024x1024 .bf16) (x3 x4 x5 x6 x7 x8 : Vec Ideal S1024x512 .bf16) (r : Fin 1024) (n : Fin 512) :
    out0_9 x0 x1 x2 x3 x4 x5 x6 x7 x8 (ix2 r n)
      = gateOf (x3 (ix2 r n)) * (∑ k : Fin 1024, x0 (ix2 r k) * x6 (ix2 k n))
        + gateOf (x4 (ix2 r n)) * (∑ k : Fin 1024, x1 (ix2 r k) * x7 (ix2 k n))
        + gateOf (x5 (ix2 r n)) * (∑ k : Fin 1024, x2 (ix2 r k) * x8 (ix2 k n)) := by
  unfold out0_9
  rw [View.canon_unit_zero hz2]
  simp only [View.ld_unit_zero (S := S1024x1024) hz2, View.ld_unit_zero (S := S1024x512) hz2]
  unfold gateOf
  pointwise [k0_pay1, k0_pay2, k0_pay3]
  simp only [Ideal.ofBits_zero_f32, zero_sub]

/-- Block `t` of branch 0's rows: rows `1024 (t / 4) + r`, every column. -/
theorem blk0 (c : Dev nD) (t : Fin cfg0.N) (r k : Fin 1024) (R : Fin 32768) (hR : R.val = t.val / 4 * 1024 + r.val) :
    (iblk m c 0 t : Vec Ideal S1024x1024 .bf16) (ix2 r k) = (m ((c : Thread nD τ).loc main_arg0) : FVec Ideal S32768x1024 .bf16) (ix2 R k) := by
  have hf := idx_facts t
  unfold iblk
  rw [View.read_apply]
  show V m c main_arg0 _ = m (c.tc.loc main_arg0) _
  unfold V
  congr 1
  funext a
  apply Fin.ext
  match a with
  | ⟨0, _⟩ => show win0_0.index t 0 * 1024 + 1 * r.val = R.val; omega
  | ⟨1, _⟩ => show win0_0.index t 1 * 1024 + 1 * k.val = k.val; omega

/-- Block `t` of branch 1's rows: rows `1024 (t / 4) + r`, every column. -/
theorem blk1 (c : Dev nD) (t : Fin cfg0.N) (r k : Fin 1024) (R : Fin 32768) (hR : R.val = t.val / 4 * 1024 + r.val) :
    (iblk m c 1 t : Vec Ideal S1024x1024 .bf16) (ix2 r k) = (m ((c : Thread nD τ).loc main_arg1) : FVec Ideal S32768x1024 .bf16) (ix2 R k) := by
  have hf := idx_facts t
  unfold iblk
  rw [View.read_apply]
  show V m c main_arg1 _ = m (c.tc.loc main_arg1) _
  unfold V
  congr 1
  funext a
  apply Fin.ext
  match a with
  | ⟨0, _⟩ => show win0_1.index t 0 * 1024 + 1 * r.val = R.val; omega
  | ⟨1, _⟩ => show win0_1.index t 1 * 1024 + 1 * k.val = k.val; omega

/-- Block `t` of branch 2's rows: rows `1024 (t / 4) + r`, every column. -/
theorem blk2 (c : Dev nD) (t : Fin cfg0.N) (r k : Fin 1024) (R : Fin 32768) (hR : R.val = t.val / 4 * 1024 + r.val) :
    (iblk m c 2 t : Vec Ideal S1024x1024 .bf16) (ix2 r k) = (m ((c : Thread nD τ).loc main_arg2) : FVec Ideal S32768x1024 .bf16) (ix2 R k) := by
  have hf := idx_facts t
  unfold iblk
  rw [View.read_apply]
  show V m c main_arg2 _ = m (c.tc.loc main_arg2) _
  unfold V
  congr 1
  funext a
  apply Fin.ext
  match a with
  | ⟨0, _⟩ => show win0_2.index t 0 * 1024 + 1 * r.val = R.val; omega
  | ⟨1, _⟩ => show win0_2.index t 1 * 1024 + 1 * k.val = k.val; omega

/-- Block `t` of gate 0's columns. -/
theorem blk3 (c : Dev nD) (t : Fin cfg0.N) (r : Fin 1024) (n : Fin 512) (R : Fin 32768) (hR : R.val = t.val / 4 * 1024 + r.val) (N : Fin 15360) (hN : N.val = 9216 + (t.val % 4 * 512 + n.val)) :
    (iblk m c 3 t : Vec Ideal S1024x512 .bf16) (ix2 r n) = (m ((c : Thread nD τ).loc main_arg3) : FVec Ideal S32768x15360 .bf16) (ix2 R N) := by
  have hf := idx_facts t
  unfold iblk
  rw [View.read_apply]
  show V m c main_arg3 _ = m (c.tc.loc main_arg3) _
  unfold V
  congr 1
  funext a
  apply Fin.ext
  match a with
  | ⟨0, _⟩ => show win0_3.index t 0 * 1024 + 1 * r.val = R.val; omega
  | ⟨1, _⟩ => show win0_3.index t 1 * 512 + 1 * n.val = N.val; omega

/-- Block `t` of gate 1's columns. -/
theorem blk4 (c : Dev nD) (t : Fin cfg0.N) (r : Fin 1024) (n : Fin 512) (R : Fin 32768) (hR : R.val = t.val / 4 * 1024 + r.val) (N : Fin 15360) (hN : N.val = 11264 + (t.val % 4 * 512 + n.val)) :
    (iblk m c 4 t : Vec Ideal S1024x512 .bf16) (ix2 r n) = (m ((c : Thread nD τ).loc main_arg3) : FVec Ideal S32768x15360 .bf16) (ix2 R N) := by
  have hf := idx_facts t
  unfold iblk
  rw [View.read_apply]
  show V m c main_arg3 _ = m (c.tc.loc main_arg3) _
  unfold V
  congr 1
  funext a
  apply Fin.ext
  match a with
  | ⟨0, _⟩ => show win0_4.index t 0 * 1024 + 1 * r.val = R.val; omega
  | ⟨1, _⟩ => show win0_4.index t 1 * 512 + 1 * n.val = N.val; omega

/-- Block `t` of gate 2's columns. -/
theorem blk5 (c : Dev nD) (t : Fin cfg0.N) (r : Fin 1024) (n : Fin 512) (R : Fin 32768) (hR : R.val = t.val / 4 * 1024 + r.val) (N : Fin 15360) (hN : N.val = 13312 + (t.val % 4 * 512 + n.val)) :
    (iblk m c 5 t : Vec Ideal S1024x512 .bf16) (ix2 r n) = (m ((c : Thread nD τ).loc main_arg3) : FVec Ideal S32768x15360 .bf16) (ix2 R N) := by
  have hf := idx_facts t
  unfold iblk
  rw [View.read_apply]
  show V m c main_arg3 _ = m (c.tc.loc main_arg3) _
  unfold V
  congr 1
  funext a
  apply Fin.ext
  match a with
  | ⟨0, _⟩ => show win0_5.index t 0 * 1024 + 1 * r.val = R.val; omega
  | ⟨1, _⟩ => show win0_5.index t 1 * 512 + 1 * n.val = N.val; omega

/-- Block `t` of branch 0's weight: every row, columns `512 (t % 4) + n`. -/
theorem blk6 (c : Dev nD) (t : Fin cfg0.N) (k : Fin 1024) (n : Fin 512) (N : Fin 2048) (hN : N.val = t.val % 4 * 512 + n.val) :
    (iblk m c 6 t : Vec Ideal S1024x512 .bf16) (ix2 k n) = (m ((c : Thread nD τ).loc main_arg4) : FVec Ideal S1024x2048 .bf16) (ix2 k N) := by
  have hf := idx_facts t
  unfold iblk
  rw [View.read_apply]
  show V m c main_arg4 _ = m (c.tc.loc main_arg4) _
  unfold V
  congr 1
  funext a
  apply Fin.ext
  match a with
  | ⟨0, _⟩ => show win0_6.index t 0 * 1024 + 1 * k.val = k.val; omega
  | ⟨1, _⟩ => show win0_6.index t 1 * 512 + 1 * n.val = N.val; omega

/-- Block `t` of branch 1's weight: every row, columns `512 (t % 4) + n`. -/
theorem blk7 (c : Dev nD) (t : Fin cfg0.N) (k : Fin 1024) (n : Fin 512) (N : Fin 2048) (hN : N.val = t.val % 4 * 512 + n.val) :
    (iblk m c 7 t : Vec Ideal S1024x512 .bf16) (ix2 k n) = (m ((c : Thread nD τ).loc main_arg5) : FVec Ideal S1024x2048 .bf16) (ix2 k N) := by
  have hf := idx_facts t
  unfold iblk
  rw [View.read_apply]
  show V m c main_arg5 _ = m (c.tc.loc main_arg5) _
  unfold V
  congr 1
  funext a
  apply Fin.ext
  match a with
  | ⟨0, _⟩ => show win0_7.index t 0 * 1024 + 1 * k.val = k.val; omega
  | ⟨1, _⟩ => show win0_7.index t 1 * 512 + 1 * n.val = N.val; omega

/-- Block `t` of branch 2's weight: every row, columns `512 (t % 4) + n`. -/
theorem blk8 (c : Dev nD) (t : Fin cfg0.N) (k : Fin 1024) (n : Fin 512) (N : Fin 2048) (hN : N.val = t.val % 4 * 512 + n.val) :
    (iblk m c 8 t : Vec Ideal S1024x512 .bf16) (ix2 k n) = (m ((c : Thread nD τ).loc main_arg6) : FVec Ideal S1024x2048 .bf16) (ix2 k N) := by
  have hf := idx_facts t
  unfold iblk
  rw [View.read_apply]
  show V m c main_arg6 _ = m (c.tc.loc main_arg6) _
  unfold V
  congr 1
  funext a
  apply Fin.ext
  match a with
  | ⟨0, _⟩ => show win0_8.index t 0 * 1024 + 1 * k.val = k.val; omega
  | ⟨1, _⟩ => show win0_8.index t 1 * 512 + 1 * n.val = N.val; omega

/-- `G` of the arguments a memory holds. -/
abbrev result (c : Dev nD) : FVec Ideal S32768x2048 .bf16 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6))

/-- What point `t` writes back is block `t` of `G`. -/
theorem flushed_eq (c : Dev nD) (t : Fin cfg0.N) :
    (dats m 0 c).flushed 9 t = ((cfg0.win 9).blk t).view.read (Elt Ideal) (result m c) := by
  rw [Value.flushed9]
  funext j
  obtain ⟨r, n, rfl⟩ : ∃ (r : Fin 1024) (n : Fin 512), j = ix2 r n := ⟨j 0, j 1, eq_ix2 j⟩
  show out0_9 _ _ _ _ _ _ _ _ _ (ix2 r n) = _
  have hf := idx_facts t
  have ht : t.val < 128 := t.isLt
  have hr : r.val < 1024 := r.isLt
  have hn : n.val < 512 := n.isLt
  obtain ⟨R, hR⟩ : ∃ R : Fin 32768, R.val = t.val / 4 * 1024 + r.val := ⟨⟨_, by omega⟩, rfl⟩
  obtain ⟨N, hN⟩ : ∃ N : Fin 2048, N.val = t.val % 4 * 512 + n.val := ⟨⟨_, by omega⟩, rfl⟩
  have e : ((cfg0.win 9).blk t).view.read (Elt Ideal) (result m c) (ix2 r n) = result m c (ix2 R N) := by
    rw [View.read_apply]
    show result m c _ = _
    congr 1
    funext a
    apply Fin.ext
    match a with
    | ⟨0, _⟩ => show win0_9.index t 0 * 1024 + 1 * r.val = R.val; omega
    | ⟨1, _⟩ => show win0_9.index t 1 * 512 + 1 * n.val = N.val; omega
  rw [e, out_apply, blk3 m c t r n R hR (gcol 0 N) (by show 9216 + 0 * 2048 + N.val = _; omega),
    blk4 m c t r n R hR (gcol 1 N) (by show 9216 + 1 * 2048 + N.val = _; omega),
    blk5 m c t r n R hR (gcol 2 N) (by show 9216 + 2 * 2048 + N.val = _; omega)]
  simp only [blk0 m c t r _ R hR, blk1 m c t r _ R hR, blk2 m c t r _ R hR, blk6 m c t _ n N hN, blk7 m c t _ n N hN, blk8 m c t _ n N hN]
  rfl

/-- The result array holds `G` of the arguments: the blocks tile it. -/
theorem final (c : Dev nD) : (dats m 0 c).arrAt 9 cfg0.N = result m c :=
  (dats m 0 c).arrAt_eq_of_cover 9 (result m c) (fun t _ => flushed_eq m c t) fun i => by
    have h0 : (i 0 : Nat) < 32768 := (i 0).isLt
    have h1 : (i 1 : Nat) < 2048 := (i 1).isLt
    refine ⟨⟨(i 0).val / 1024 * 4 + (i 1).val / 512, by show _ < 128; omega⟩, flush0_9 _, ?_⟩
    generalize ht : (⟨(i 0).val / 1024 * 4 + (i 1).val / 512, _⟩ : Fin cfg0.N) = t
    have htv : t.val = (i 0).val / 1024 * 4 + (i 1).val / 512 := by rw [← ht]
    have hf := idx_facts t
    show i ∈ ((View.whole main_v0).slice (win0_9.rect t)).set
    rw [View.set_slice_whole, Rect.mem_set_unit]
    intro a
    match a with
    | ⟨0, _⟩ => show win0_9.index t 0 * 1024 ≤ (i 0 : Nat) ∧ (i 0 : Nat) < win0_9.index t 0 * 1024 + 1024; omega
    | ⟨1, _⟩ => show win0_9.index t 1 * 512 ≤ (i 1 : Nat) ∧ (i 1 : Nat) < win0_9.index t 1 * 512 + 512; omega

open Cert.MergeRefIdeal.Read in
/-- The reference's gate `g` at row `r` and column `n`. -/
theorem ref_gate (a3 : FVec Ideal S32768x15360 .bf16) (r : Fin 32768) (g : Fin 3) (n : Fin 2048) :
    val_main_v8 (F := Ideal) a3 (ix3 r g n) = gateOf (a3 (ix2 r (gcol g n))) := by
  have hr : r.val < 32768 := r.isLt
  have hg : g.val < 3 := g.isLt
  have hn : n.val < 2048 := n.isLt
  have e : idx_main_v0 (idx_main_v2 (ix3 r g n)) = ix2 r (gcol g n) := by
    funext a
    apply Fin.ext
    match a with
    | ⟨0, _⟩ => show ((r.val * 3 + g.val) * 2048 + n.val) / 6144 = r.val; omega
    | ⟨1, _⟩ => show 9216 + ((r.val * 3 + g.val) * 2048 + n.val) % 6144 = 9216 + g.val * 2048 + n.val; omega
  rw [val_main_v8_apply, val_main_v7_apply, val_main_v6_apply, val_main_v5_apply, val_main_v4_apply, val_main_v3_apply,
    val_main_v2_apply, val_main_v1_apply, val_main_v0_apply, e]
  rfl

open Cert.MergeRefIdeal.Read in
/-- The reference's composed term is `G` of the arguments. -/
theorem ref_eq (a0 a1 a2 : FVec Ideal S32768x1024 .bf16) (a3 : FVec Ideal S32768x15360 .bf16) (a4 a5 a6 : FVec Ideal S1024x2048 .bf16) :
    val_main_v29 (F := Ideal) a0 a1 a2 a3 a4 a5 a6 = G a0 a1 a2 a3 a4 a5 a6 := by
  funext i
  obtain ⟨r, n, rfl⟩ : ∃ (r : Fin 32768) (n : Fin 2048), i = ix2 r n := ⟨i 0, i 1, eq_ix2 i⟩
  have hr : r.val < 32768 := r.isLt
  have hn : n.val < 2048 := n.isLt
  have e19 : idx_main_v18 (idx_main_v19 (ix2 r n)) = ix3 r (0 : Fin 3) n := by
    funext a
    apply Fin.ext
    match a with
    | ⟨0, _⟩ => show (r.val * 2048 + n.val) / 2048 = r.val; omega
    | ⟨1, _⟩ => rfl
    | ⟨2, _⟩ => show (r.val * 2048 + n.val) % 2048 = n.val; omega
  have e22 : idx_main_v21 (idx_main_v22 (ix2 r n)) = ix3 r (1 : Fin 3) n := by
    funext a
    apply Fin.ext
    match a with
    | ⟨0, _⟩ => show (r.val * 2048 + n.val) / 2048 = r.val; omega
    | ⟨1, _⟩ => rfl
    | ⟨2, _⟩ => show (r.val * 2048 + n.val) % 2048 = n.val; omega
  have e26 : idx_main_v25 (idx_main_v26 (ix2 r n)) = ix3 r (2 : Fin 3) n := by
    funext a
    apply Fin.ext
    match a with
    | ⟨0, _⟩ => show (r.val * 2048 + n.val) / 2048 = r.val; omega
    | ⟨1, _⟩ => rfl
    | ⟨2, _⟩ => show (r.val * 2048 + n.val) % 2048 = n.val; omega
  rw [val_main_v29_apply, val_main_v28_apply, val_main_v27_apply, val_main_v24_apply, val_main_v23_apply, val_main_v20_apply,
    val_main_v19_apply, val_main_v18_apply, val_main_v22_apply, val_main_v21_apply, val_main_v26_apply, val_main_v25_apply,
    e19, e22, e26, ref_gate, ref_gate, ref_gate, val_main_v11_apply, val_main_v14_apply, val_main_v17_apply]
  unfold G
  refine congrArg₂ (· + ·) (congrArg₂ (· + ·) ?_ ?_) ?_
  all_goals refine congrArg₂ (· * ·) rfl (Finset.sum_congr rfl fun k _ => ?_)
  · refine congrArg₂ (· * ·) (congrArg a0 ?_) (congrArg a4 ?_)
    all_goals (funext a; match a with | ⟨0, _⟩ => rfl | ⟨1, _⟩ => rfl)
  · refine congrArg₂ (· * ·) (congrArg a1 ?_) (congrArg a5 ?_)
    all_goals (funext a; match a with | ⟨0, _⟩ => rfl | ⟨1, _⟩ => rfl)
  · refine congrArg₂ (· * ·) (congrArg a2 ?_) (congrArg a6 ?_)
    all_goals (funext a; match a with | ⟨0, _⟩ => rfl | ⟨1, _⟩ => rfl)

/-- The gated merge's kernel and its reference, over the extended reals: both end with `G` of the arguments. -/
theorem algebraic : Cert.algebraic_MergeIdeal_MergeRefIdeal (hMergeIdeal := Cert.MergeIdeal.Gen.facts)
    (hMergeRefIdeal := Cert.MergeRefIdeal.Gen.facts) := by
  intro m g m' g' _ hm
  refine ⟨result m, ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.MergeRefIdeal.Value.run (F := Ideal) m' g')
    obtain ⟨h0, h1, h2, h3, h4, h5, h6⟩ := hm c
    refine Eq.trans ?_ (ref_eq _ _ _ _ _ _ _)
    rw [← Cert.MergeRefIdeal.Read.val_main_v29_eq]
    rw [← h0, ← h1, ← h2, ← h3, ← h4, ← h5, ← h6]

end Cert.Proof.Merge

end
-- ==== Proof.OutProj.lean ====
module

public import proofs.«01_k».proof.Defs
public import proofs.«01_k».proof.Proof.Gen.OutProjIdeal.Value
public import proofs.«01_k».proof.Proof.Gen.OutProjRefIdeal.Read
public import Idealize.ShloMosaic.Lib.Pointwise
public import Idealize.ShloMosaic.Lib.Claim

@[expose] public section

set_option maxRecDepth 16384

noncomputable section

namespace Cert.Proof.OutProj

open Idealize.ShloMosaic Idealize.ShloMosaic.TcCoe Idealize.SL.Sem
open Idealize.ShloMosaic.Pipeline (Dat)
open Cert.OutProjIdeal Cert.OutProjIdeal.Gen

variable (m : (ℓ : Loc nD τ sig) → Buf (Elt Ideal) ℓ) (ρ : Dev nD → PrngReg)

/-- The output projection with its residual as one function of the arguments: at row `r` and column `n`,
    `x[r, n] + gate[r / 4096, n] * Σ_k merged[r, k] * w[k, n]`. -/
def G (a0 : FVec Ideal S32768x2048 .bf16) (a1 : FVec Ideal S2048x2048 .bf16) (a2 : FVec Ideal S32768x2048 .f32)
    (a3 : FVec Ideal S8x1x2048 .f32) : FVec Ideal S32768x2048 .f32 := fun i =>
  a2 i + a3 (ix3 ⟨(i 0).val / 4096, by have h : (i 0).val < 32768 := (i 0).isLt; omega⟩ (0 : Fin 1) (i 1))
    * ∑ k : Fin 2048, a0 (ix2 (i 0) k) * a1 (ix2 k (i 1))

/-- The block index of each window at grid point `t`, by the point's row block `t / 2` and column block `t % 2`. -/
theorem idx_facts : ∀ t : Fin cfg0.N,
    win0_0.index t 0 = t.val / 2 ∧ win0_0.index t 1 = 0
    ∧ win0_1.index t 0 = 0 ∧ win0_1.index t 1 = t.val % 2
    ∧ win0_2.index t 0 = t.val / 2 ∧ win0_2.index t 1 = t.val % 2
    ∧ win0_3.index t 0 = t.val / 8 ∧ win0_3.index t 1 = 0 ∧ win0_3.index t 2 = t.val % 2
    ∧ win0_4.index t 0 = t.val / 2 ∧ win0_4.index t 1 = t.val % 2 :=
  (by decide +kernel : ∀ t : Fin grid0.N,
    win0_0.index t 0 = t.val / 2 ∧ win0_0.index t 1 = 0
    ∧ win0_1.index t 0 = 0 ∧ win0_1.index t 1 = t.val % 2
    ∧ win0_2.index t 0 = t.val / 2 ∧ win0_2.index t 1 = t.val % 2
    ∧ win0_3.index t 0 = t.val / 8 ∧ win0_3.index t 1 = 0 ∧ win0_3.index t 2 = t.val % 2
    ∧ win0_4.index t 0 = t.val / 2 ∧ win0_4.index t 1 = t.val % 2)

theorem hz2 : (![0, 0] : Fin 2 → Nat) = fun _ => 0 := funext fun a => by fin_cases a <;> rfl
theorem hz3 : (![0, 0, 0] : Fin 3 → Nat) = fun _ => 0 := funext fun a => by fin_cases a <;> rfl

/-- The body's payload read at an element of its block. -/
theorem out_apply (x0 : Vec Ideal S1024x2048 .bf16) (x1 : Vec Ideal S2048x1024 .bf16) (x2 : Vec Ideal S1024x1024 .f32)
    (x3 : Vec Ideal S1x1x1024 .f32) (r : Fin 1024) (n : Fin 1024) :
    out0_4 x0 x1 x2 x3 (ix2 r n)
      = x2 (ix2 r n) + x3 (ix3 (0 : Fin 1) (0 : Fin 1) n) * ∑ k : Fin 2048, x0 (ix2 r k) * x1 (ix2 k n) := by
  unfold out0_4
  rw [View.canon_unit_zero hz2, View.ld_unit_zero hz2, View.ld_unit_zero hz3, View.ld_unit_zero hz2, View.ld_unit_zero hz2]
  pointwise [k0_pay1]

/-- Block `t` of the projected rows: rows `1024 (t / 2) + r`, every column. -/
theorem blk0 (c : Dev nD) (t : Fin cfg0.N) (r : Fin 1024) (k : Fin 2048) (R : Fin 32768) (hR : R.val = t.val / 2 * 1024 + r.val) :
    (iblk m c 0 t : Vec Ideal S1024x2048 .bf16) (ix2 r k) = (m ((c : Thread nD τ).loc main_arg0) : FVec Ideal S32768x2048 .bf16) (ix2 R k) := by
  obtain ⟨h00, h01, -⟩ := idx_facts t
  unfold iblk
  rw [View.read_apply]
  show V m c main_arg0 _ = m (c.tc.loc main_arg0) _
  unfold V
  congr 1
  funext a
  apply Fin.ext
  match a with
  | ⟨0, _⟩ => show win0_0.index t 0 * 1024 + 1 * r.val = R.val; rw [h00, hR]; omega
  | ⟨1, _⟩ => show win0_0.index t 1 * 2048 + 1 * k.val = k.val; rw [h01]; omega

/-- Block `t` of the weight: every row, columns `1024 (t % 2) + n`. -/
theorem blk1 (c : Dev nD) (t : Fin cfg0.N) (k : Fin 2048) (n : Fin 1024) (N : Fin 2048) (hN : N.val = t.val % 2 * 1024 + n.val) :
    (iblk m c 1 t : Vec Ideal S2048x1024 .bf16) (ix2 k n) = (m ((c : Thread nD τ).loc main_arg1) : FVec Ideal S2048x2048 .bf16) (ix2 k N) := by
  obtain ⟨-, -, h10, h11, -⟩ := idx_facts t
  unfold iblk
  rw [View.read_apply]
  show V m c main_arg1 _ = m (c.tc.loc main_arg1) _
  unfold V
  congr 1
  funext a
  apply Fin.ext
  match a with
  | ⟨0, _⟩ => show win0_1.index t 0 * 2048 + 1 * k.val = k.val; rw [h10]; omega
  | ⟨1, _⟩ => show win0_1.index t 1 * 1024 + 1 * n.val = N.val; rw [h11, hN]; omega

/-- Block `t` of the residual rows. -/
theorem blk2 (c : Dev nD) (t : Fin cfg0.N) (r n : Fin 1024) (R : Fin 32768) (hR : R.val = t.val / 2 * 1024 + r.val)
    (N : Fin 2048) (hN : N.val = t.val % 2 * 1024 + n.val) :
    (iblk m c 2 t : Vec Ideal S1024x1024 .f32) (ix2 r n) = (m ((c : Thread nD τ).loc main_arg2) : FVec Ideal S32768x2048 .f32) (ix2 R N) := by
  obtain ⟨-, -, -, -, h20, h21, -⟩ := idx_facts t
  unfold iblk
  rw [View.read_apply]
  show V m c main_arg2 _ = m (c.tc.loc main_arg2) _
  unfold V
  congr 1
  funext a
  apply Fin.ext
  match a with
  | ⟨0, _⟩ => show win0_2.index t 0 * 1024 + 1 * r.val = R.val; rw [h20, hR]; omega
  | ⟨1, _⟩ => show win0_2.index t 1 * 1024 + 1 * n.val = N.val; rw [h21, hN]; omega

/-- Block `t` of the gate: the sequence the rows are of. -/
theorem blk3 (c : Dev nD) (t : Fin cfg0.N) (n : Fin 1024) (B : Fin 8) (hB : B.val = t.val / 8)
    (N : Fin 2048) (hN : N.val = t.val % 2 * 1024 + n.val) :
    (iblk m c 3 t : Vec Ideal S1x1x1024 .f32) (ix3 (0 : Fin 1) (0 : Fin 1) n)
      = (m ((c : Thread nD τ).loc main_arg3) : FVec Ideal S8x1x2048 .f32) (ix3 B (0 : Fin 1) N) := by
  obtain ⟨-, -, -, -, -, -, h30, h31, h32, -⟩ := idx_facts t
  unfold iblk
  rw [View.read_apply]
  show V m c main_arg3 _ = m (c.tc.loc main_arg3) _
  unfold V
  congr 1
  funext a
  apply Fin.ext
  match a with
  | ⟨0, _⟩ => show win0_3.index t 0 * 1 + 1 * 0 = B.val; rw [h30, hB]; omega
  | ⟨1, _⟩ => show win0_3.index t 1 * 1 + 1 * 0 = 0; rw [h31]
  | ⟨2, _⟩ => show win0_3.index t 2 * 1024 + 1 * n.val = N.val; rw [h32, hN]; omega

/-- `G` of the arguments a memory holds. -/
abbrev result (c : Dev nD) : FVec Ideal S32768x2048 .f32 :=
  G (m ((c : Thread nD τ).loc main_arg0)) (m ((c : Thread nD τ).loc main_arg1)) (m ((c : Thread nD τ).loc main_arg2))
    (m ((c : Thread nD τ).loc main_arg3))

/-- What point `t` writes back is block `t` of `G`. -/
theorem flushed_eq (c : Dev nD) (t : Fin cfg0.N) :
    (dats m 0 c).flushed 4 t = ((cfg0.win 4).blk t).view.read (Elt Ideal) (result m c) := by
  rw [Value.flushed4]
  funext j
  obtain ⟨r, n, rfl⟩ : ∃ (r : Fin 1024) (n : Fin 1024), j = ix2 r n := ⟨j 0, j 1, eq_ix2 j⟩
  show out0_4 _ _ _ _ (ix2 r n) = _
  obtain ⟨-, -, -, -, -, -, -, -, -, h40, h41⟩ := idx_facts t
  have ht : t.val < 64 := t.isLt
  have hr : r.val < 1024 := r.isLt
  have hn : n.val < 1024 := n.isLt
  obtain ⟨R, hR⟩ : ∃ R : Fin 32768, R.val = t.val / 2 * 1024 + r.val := ⟨⟨_, by omega⟩, rfl⟩
  obtain ⟨N, hN⟩ : ∃ N : Fin 2048, N.val = t.val % 2 * 1024 + n.val := ⟨⟨_, by omega⟩, rfl⟩
  have e : ((cfg0.win 4).blk t).view.read (Elt Ideal) (result m c) (ix2 r n) = result m c (ix2 R N) := by
    rw [View.read_apply]
    show result m c _ = _
    congr 1
    funext a
    apply Fin.ext
    match a with
    | ⟨0, _⟩ => show win0_4.index t 0 * 1024 + 1 * r.val = R.val; rw [h40, hR]; omega
    | ⟨1, _⟩ => show win0_4.index t 1 * 1024 + 1 * n.val = N.val; rw [h41, hN]; omega
  rw [e, out_apply, blk2 m c t r n R hR N hN, blk3 m c t n ⟨t.val / 8, by omega⟩ rfl N hN]
  unfold result G
  refine congrArg₂ (· + ·) rfl (congrArg₂ (· * ·) ?_ (Finset.sum_congr rfl fun k _ => ?_))
  · congr 1
    refine congrArg (fun b => ix3 b (0 : Fin 1) _) (Fin.ext ?_)
    show t.val / 8 = R.val / 4096
    omega
  · rw [blk0 m c t r k R hR, blk1 m c t k n N hN]
    rfl

/-- The result array holds `G` of the arguments: the blocks tile it. -/
theorem final (c : Dev nD) : (dats m 0 c).arrAt 4 cfg0.N = result m c :=
  (dats m 0 c).arrAt_eq_of_cover 4 (result m c) (fun t _ => flushed_eq m c t) fun i => by
    have h0 : (i 0 : Nat) < 32768 := (i 0).isLt
    have h1 : (i 1 : Nat) < 2048 := (i 1).isLt
    refine ⟨⟨(i 0).val / 1024 * 2 + (i 1).val / 1024, by show _ < 64; omega⟩, flush0_4 _, ?_⟩
    generalize ht : (⟨(i 0).val / 1024 * 2 + (i 1).val / 1024, _⟩ : Fin cfg0.N) = t
    have htv : t.val = (i 0).val / 1024 * 2 + (i 1).val / 1024 := by rw [← ht]
    obtain ⟨-, -, -, -, -, -, -, -, -, h40, h41⟩ := idx_facts t
    show i ∈ ((View.whole main_v0).slice (win0_4.rect t)).set
    rw [View.set_slice_whole, Rect.mem_set_unit]
    intro a
    match a with
    | ⟨0, _⟩ => show win0_4.index t 0 * 1024 ≤ (i 0 : Nat) ∧ (i 0 : Nat) < win0_4.index t 0 * 1024 + 1024; rw [h40]; omega
    | ⟨1, _⟩ => show win0_4.index t 1 * 1024 ≤ (i 1 : Nat) ∧ (i 1 : Nat) < win0_4.index t 1 * 1024 + 1024; rw [h41]; omega

/-- The reference's composed term is `G` of the arguments. -/
theorem ref_eq (a0 : FVec Ideal S32768x2048 .bf16) (a1 : FVec Ideal S2048x2048 .bf16) (a2 : FVec Ideal S32768x2048 .f32)
    (a3 : FVec Ideal S8x1x2048 .f32) :
    Cert.OutProjRefIdeal.Read.val_main_v8 (F := Ideal) a0 a1 a2 a3 = G a0 a1 a2 a3 := by
  funext i
  obtain ⟨r, n, rfl⟩ : ∃ (r : Fin 32768) (n : Fin 2048), i = ix2 r n := ⟨i 0, i 1, eq_ix2 i⟩
  rw [Cert.OutProjRefIdeal.Read.val_main_v8_apply, Cert.OutProjRefIdeal.Read.val_main_v7_apply,
    Cert.OutProjRefIdeal.Read.val_main_v3_apply, Cert.OutProjRefIdeal.Read.val_main_v6_apply,
    Cert.OutProjRefIdeal.Read.val_main_v5_apply, Cert.OutProjRefIdeal.Read.val_main_v4_apply,
    Cert.OutProjRefIdeal.Read.val_main_v2_apply]
  have hr : r.val < 32768 := r.isLt
  have hn : n.val < 2048 := n.isLt
  have e3 : Cert.OutProjRefIdeal.Read.idx_main_v3 (Cert.OutProjRefIdeal.Read.idx_main_v8 (ix2 r n)) = ix2 r n := by
    funext a
    apply Fin.ext
    match a with
    | ⟨0, _⟩ => show (((r.val * 2048 + n.val) / 8388608 * 4096 + (r.val * 2048 + n.val) / 2048 % 4096) * 2048 + (r.val * 2048 + n.val) % 2048) / 2048 = r.val; omega
    | ⟨1, _⟩ => show (((r.val * 2048 + n.val) / 8388608 * 4096 + (r.val * 2048 + n.val) / 2048 % 4096) * 2048 + (r.val * 2048 + n.val) % 2048) % 2048 = n.val; omega
  have e4 : Cert.OutProjRefIdeal.Read.idx_main_v4 (Cert.OutProjRefIdeal.Read.idx_main_v8 (ix2 r n)) = ix2 r n := e3
  have e5 : Cert.OutProjRefIdeal.Read.idx_main_v5 (Cert.OutProjRefIdeal.Read.idx_main_v8 (ix2 r n))
      = ix3 (⟨r.val / 4096, by omega⟩ : Fin 8) (0 : Fin 1) n := by
    funext a
    apply Fin.ext
    match a with
    | ⟨0, _⟩ => show (r.val * 2048 + n.val) / 8388608 = r.val / 4096; omega
    | ⟨1, _⟩ => rfl
    | ⟨2, _⟩ => show (r.val * 2048 + n.val) % 2048 = n.val; omega
  rw [e3, e4, e5]
  unfold G
  refine congrArg₂ (· + ·) rfl (congrArg₂ (· * ·) rfl (Finset.sum_congr rfl fun k _ => ?_))
  refine congrArg₂ (· * ·) (congrArg a0 ?_) (congrArg a1 ?_)
  · funext a
    match a with
    | ⟨0, _⟩ => rfl
    | ⟨1, _⟩ => rfl
  · funext a
    match a with
    | ⟨0, _⟩ => rfl
    | ⟨1, _⟩ => rfl

/-- The output projection's kernel and its reference, over the extended reals: both end with `G` of the arguments. -/
theorem algebraic : Cert.algebraic_OutProjIdeal_OutProjRefIdeal (hOutProjIdeal := Cert.OutProjIdeal.Gen.facts)
    (hOutProjRefIdeal := Cert.OutProjRefIdeal.Gen.facts) := by
  intro m g m' g' _ hm
  refine ⟨result m, ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.OutProjRefIdeal.Value.run (F := Ideal) m' g')
    obtain ⟨h0, h1, h2, h3⟩ := hm c
    refine Eq.trans ?_ (ref_eq _ _ _ _)
    rw [← Cert.OutProjRefIdeal.Read.val_main_v8_eq]
    rw [← h0, ← h1, ← h2, ← h3]

end Cert.Proof.OutProj

end
-- ==== Proof.FinalNorm.lean ====
module

public import proofs.«01_k».proof.Defs
public import proofs.«01_k».proof.Proof.Gen.FinalNormIdeal.Value
public import proofs.«01_k».proof.Proof.Gen.FinalNormRefIdeal.Read
public import Idealize.ShloMosaic.Lib.Pointwise
public import Idealize.ShloMosaic.Lib.StableHlo.ReadAt
public import Idealize.ShloMosaic.Lib.IdealHost
public import Idealize.ShloMosaic.Lib.Claim

@[expose] public section

set_option maxRecDepth 16384

noncomputable section

namespace Cert.Proof.FinalNorm

open Idealize.ShloMosaic Idealize.ShloMosaic.TcCoe Idealize.SL.Sem
open Idealize.ShloMosaic.Pipeline (Dat)
open Cert.FinalNormIdeal Cert.FinalNormIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The last norm as one function of the arguments: `x / sqrt(mean x^2 + eps) * gain` along each row. -/
def G (a0 : FVec Ideal S32768x2048 .f32) (a1 : FVec Ideal S2048 .f32) : FVec Ideal S32768x2048 .f32 := fun i =>
  a0 i * Ideal.rsqrt (Ideal.div (∑ q : Fin 2048, a0 (ix2 (i 0) q) * a0 (ix2 (i 0) q)) (Ideal.ofBits .f32 0x45000000#32) + Ideal.ofBits .f32 0x358637BD#32)
    * a1 (ix1 (i 1))

/-- The block index of each window at grid point `t`. -/
theorem idx_facts : ∀ t : Fin cfg0.N,
    win0_0.index t 0 = t.val ∧ win0_0.index t 1 = 0 ∧ win0_1.index t 0 = 0 ∧ win0_1.index t 1 = 0
    ∧ win0_2.index t 0 = t.val ∧ win0_2.index t 1 = 0 :=
  (by decide +kernel : ∀ t : Fin grid0.N,
    win0_0.index t 0 = t.val ∧ win0_0.index t 1 = 0 ∧ win0_1.index t 0 = 0 ∧ win0_1.index t 1 = 0
    ∧ win0_2.index t 0 = t.val ∧ win0_2.index t 1 = 0)

/-- The body's payload read at an element of its block. -/
theorem out_apply (x0 : Vec Ideal S512x2048 .f32) (x1 : Vec Ideal S1x2048 .f32) (r : Fin 512) (n : Fin 2048) :
    out0_2 x0 x1 (ix2 r n)
      = x0 (ix2 r n) * Ideal.rsqrt (Ideal.div (∑ q : Fin 2048, x0 (ix2 r q) * x0 (ix2 r q)) (Ideal.ofBits .f32 0x45000000#32) + Ideal.ofBits .f32 0x358637BD#32)
        * x1 (ix2 (0 : Fin 1) n) := by
  unfold out0_2
  rw [View.canon_unit_zero hz2]
  simp only [View.ld_unit_zero (S := S512x2048) hz2, View.ld_unit_zero (S := S1x2048) hz2]
  pointwise [k0_pay1]

/-- Block `t` of the rows. -/
theorem blk0 (c : Dev nD) (t : Fin cfg0.N) (r : Fin 512) (k : Fin 2048) (R : Fin 32768) (hR : R.val = t.val * 512 + r.val) :
    (iblk m c 0 t : Vec Ideal S512x2048 .f32) (ix2 r k) = (m ((c : Thread nD τ).loc main_arg0) : FVec Ideal S32768x2048 .f32) (ix2 R k) := by
  have hf := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = R.val; omega
  | ⟨1, _⟩ => show win0_0.index t 1 * 2048 + 1 * k.val = k.val; omega

/-- The gain as the host reshapes it. -/
theorem V_gain (c : Dev nD) (d : Fin 2048) : (V m c main_v0 : FVec Ideal S1x2048 .f32) (ix2 (0 : Fin 1) d) = (m ((c : Thread nD τ).loc main_arg1) : FVec Ideal S2048 .f32) (ix1 d) := by
  show StableHlo.after hostOps0 (fun b => m (c, b)) (main_v0 : DevRef τ sig) (ix2 (0 : Fin 1) d) = _
  after_reads_at

/-- The gain's block, whole at every point. -/
theorem blk1 (c : Dev nD) (t : Fin cfg0.N) (d : Fin 2048) :
    (iblk m c 1 t : Vec Ideal S1x2048 .f32) (ix2 (0 : Fin 1) d) = (m ((c : Thread nD τ).loc main_arg1) : FVec Ideal S2048 .f32) (ix1 d) := by
  have hf := idx_facts t
  refine Eq.trans ?_ (V_gain m c d)
  unfold iblk
  rw [View.read_apply]
  show V m c main_v0 _ = V m c main_v0 _
  congr 1
  funext a
  apply Fin.ext
  match a with
  | ⟨0, _⟩ => show win0_1.index t 0 * 1 + 1 * 0 = 0; omega
  | ⟨1, _⟩ => show win0_1.index t 1 * 2048 + 1 * d.val = d.val; omega

/-- `G` of the arguments a memory holds. -/
abbrev result (c : Dev nD) : FVec Ideal S32768x2048 .f32 :=
  G (m ((c : Thread nD τ).loc main_arg0)) (m ((c : Thread nD τ).loc main_arg1))

/-- What point `t` writes back is block `t` of `G`. -/
theorem flushed_eq (c : Dev nD) (t : Fin cfg0.N) :
    (dats m 0 c).flushed 2 t = ((cfg0.win 2).blk t).view.read (Elt Ideal) (result m c) := by
  rw [Value.flushed2]
  funext j
  obtain ⟨r, n, rfl⟩ : ∃ (r : Fin 512) (n : Fin 2048), j = ix2 r n := ⟨j 0, j 1, eq_ix2 j⟩
  show out0_2 _ _ (ix2 r n) = _
  have hf := idx_facts t
  have ht : t.val < 64 := t.isLt
  have hr : r.val < 512 := r.isLt
  obtain ⟨R, hR⟩ : ∃ R : Fin 32768, R.val = t.val * 512 + r.val := ⟨⟨_, by omega⟩, rfl⟩
  have e : ((cfg0.win 2).blk t).view.read (Elt Ideal) (result m c) (ix2 r n) = result m c (ix2 R n) := by
    rw [View.read_apply]
    show result m c _ = _
    congr 1
    funext a
    apply Fin.ext
    match a with
    | ⟨0, _⟩ => show win0_2.index t 0 * 512 + 1 * r.val = R.val; omega
    | ⟨1, _⟩ => show win0_2.index t 1 * 2048 + 1 * n.val = n.val; omega
  rw [e, out_apply, blk0 m c t r n R hR, blk1 m c t n]
  simp only [blk0 m c t r _ R hR]
  rfl

/-- The result array holds `G` of the arguments: the blocks tile it. -/
theorem final (c : Dev nD) : (dats m 0 c).arrAt 2 cfg0.N = result m c :=
  (dats m 0 c).arrAt_eq_of_cover 2 (result m c) (fun t _ => flushed_eq m c t) fun i => by
    have h0 : (i 0 : Nat) < 32768 := (i 0).isLt
    have h1 : (i 1 : Nat) < 2048 := (i 1).isLt
    refine ⟨⟨(i 0).val / 512, by show _ < 64; omega⟩, flush0_2 _, ?_⟩
    generalize ht : (⟨(i 0).val / 512, _⟩ : Fin cfg0.N) = t
    have htv : t.val = (i 0).val / 512 := by rw [← ht]
    have hf := idx_facts t
    show i ∈ ((View.whole main_v1).slice (win0_2.rect t)).set
    rw [View.set_slice_whole, Rect.mem_set_unit]
    intro a
    match a with
    | ⟨0, _⟩ => show win0_2.index t 0 * 512 ≤ (i 0 : Nat) ∧ (i 0 : Nat) < win0_2.index t 0 * 512 + 512; omega
    | ⟨1, _⟩ => show win0_2.index t 1 * 2048 ≤ (i 1 : Nat) ∧ (i 1 : Nat) < win0_2.index t 1 * 2048 + 2048; omega

open Cert.FinalNormRefIdeal.Read in
/-- The reference's composed term is `G` of the arguments. -/
theorem ref_eq (a0 : FVec Ideal S32768x2048 .f32) (a1 : FVec Ideal S2048 .f32) :
    Cert.FinalNormRefIdeal.Read.val_main_v14 (F := Ideal) a0 a1 = G a0 a1 := by
  funext i
  obtain ⟨r, n, rfl⟩ : ∃ (r : Fin 32768) (n : Fin 2048), i = ix2 r n := ⟨i 0, i 1, eq_ix2 i⟩
  have hr : r.val < 32768 := r.isLt
  have hn : n.val < 2048 := n.isLt
  have e14 : idx_main_v14 (ix2 r n) = ix3 (⟨r.val / 4096, by omega⟩ : Fin 8) (⟨r.val % 4096, by omega⟩ : Fin 4096) n := by
    funext a
    apply Fin.ext
    match a with
    | ⟨0, _⟩ => show (r.val * 2048 + n.val) / 8388608 = r.val / 4096; omega
    | ⟨1, _⟩ => show (r.val * 2048 + n.val) / 2048 % 4096 = r.val % 4096; omega
    | ⟨2, _⟩ => show (r.val * 2048 + n.val) % 2048 = n.val; omega
  have e0 : ∀ k : Fin 2048, idx_main_v0 (ix3 (⟨r.val / 4096, by omega⟩ : Fin 8) (⟨r.val % 4096, by omega⟩ : Fin 4096) k) = ix2 r k := fun k => by
    have hk : k.val < 2048 := k.isLt
    funext a
    apply Fin.ext
    match a with
    | ⟨0, _⟩ => show ((r.val / 4096 * 4096 + r.val % 4096) * 2048 + k.val) / 2048 = r.val; omega
    | ⟨1, _⟩ => show ((r.val / 4096 * 4096 + r.val % 4096) * 2048 + k.val) % 2048 = k.val; omega
  have e2 : ∀ k : Fin 2048, idx_main_v2 (idx_main_v3 (idx_main_v9 (ix3 (⟨r.val / 4096, by omega⟩ : Fin 8) (⟨r.val % 4096, by omega⟩ : Fin 4096) n))) k
      = ix3 (⟨r.val / 4096, by omega⟩ : Fin 8) (⟨r.val % 4096, by omega⟩ : Fin 4096) k := fun k => by
    funext a
    match a with
    | ⟨0, _⟩ => rfl
    | ⟨1, _⟩ => rfl
    | ⟨2, _⟩ => rfl
  have e11 : idx_main_v11 (idx_main_v12 (ix3 (⟨r.val / 4096, by omega⟩ : Fin 8) (⟨r.val % 4096, by omega⟩ : Fin 4096) n)) = ix1 n := by
    funext a
    match a with
    | ⟨0, _⟩ => rfl
  rw [val_main_v14_apply, e14, val_main_v13_apply, val_main_v12_apply, val_main_v11_apply, e11, val_main_v10_apply, val_main_v9_apply,
    val_main_v8_apply, val_main_v7_apply, val_main_v5_apply, val_main_v3_apply, val_main_v2_apply, val_main_v0_apply, e0]
  simp only [val_main_v1_apply, val_main_v0_apply, val_main_v4_apply, val_main_v6_apply, val_main_cst_apply, val_main_cst_0_apply, val_main_cst_1_apply, e2, e0]
  have hz : (FloatOps.ofBits .f32 0x00000000#32 : Ideal .f32) = 0 := Ideal.ofBits_zero_f32
  rw [hz, zero_add]
  rfl

/-- The last norm's kernel and its reference, over the extended reals: both end with `G` of the arguments. -/
theorem algebraic : Cert.algebraic_FinalNormIdeal_FinalNormRefIdeal (hFinalNormIdeal := Cert.FinalNormIdeal.Gen.facts)
    (hFinalNormRefIdeal := Cert.FinalNormRefIdeal.Gen.facts) := by
  intro m g m' g' _ hm
  refine ⟨result m, ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.FinalNormRefIdeal.Value.run (F := Ideal) m' g')
    obtain ⟨h0, h1⟩ := hm c
    refine Eq.trans ?_ (ref_eq _ _)
    rw [← Cert.FinalNormRefIdeal.Read.val_main_v14_eq]
    rw [← h0, ← h1]

end Cert.Proof.FinalNorm

end
-- ==== Proof.Ada.lean ====
module

public import proofs.«01_k».proof.Defs
public import proofs.«01_k».proof.Proof.Gen.AdaIdeal.Value
public import proofs.«01_k».proof.Proof.Gen.AdaRefIdeal.Read
public import Idealize.ShloMosaic.Lib.Pointwise
public import Idealize.ShloMosaic.Lib.StableHlo.ReadAt
public import Idealize.ShloMosaic.Lib.Claim
public import Idealize.ShloMosaic.Lib.IdealHost

@[expose] public section

set_option maxRecDepth 16384

noncomputable section

namespace Cert.Proof.Ada

open Idealize.ShloMosaic Idealize.ShloMosaic.TcCoe Idealize.SL.Sem
open Idealize.ShloMosaic.Pipeline (Dat)
open Cert.AdaIdeal Cert.AdaIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The conditioning projection as one function of the arguments: for layer `l`, sequence `b` and column `n`,
    `Σ_k silu(c[b, k]) * w[l, k, n] + bias[l, n]`. -/
def G (a0 : FVec Ideal S8x2048 .f32) (a1 : FVec Ideal S4x2048x12288 .f32) (a2 : FVec Ideal S4x12288 .f32) : FVec Ideal S4x8x12288 .f32 := fun i =>
  (∑ k : Fin 2048, a0 (ix2 (i 1) k) * Ideal.div (Ideal.ofBits .f32 0x3F800000#32) (Ideal.ofBits .f32 0x3F800000#32 + Ideal.exp (-a0 (ix2 (i 1) k)))
      * a1 (ix3 (i 0) k (i 2))) + a2 (ix2 (i 0) (i 2))

/-- The block index of each window at grid point `t`, by the layer `t / 12` and the column block `t % 12`. -/
theorem idx_facts : ∀ t : Fin cfg0.N,
    win0_0.index t 0 = 0 ∧ win0_0.index t 1 = 0
    ∧ win0_1.index t 0 = t.val / 12 ∧ win0_1.index t 1 = 0 ∧ win0_1.index t 2 = t.val % 12
    ∧ win0_2.index t 0 = t.val / 12 ∧ win0_2.index t 1 = 0 ∧ win0_2.index t 2 = t.val % 12
    ∧ win0_3.index t 0 = t.val / 12 ∧ win0_3.index t 1 = 0 ∧ win0_3.index t 2 = t.val % 12 :=
  (by decide +kernel : ∀ t : Fin grid0.N,
    win0_0.index t 0 = 0 ∧ win0_0.index t 1 = 0
    ∧ win0_1.index t 0 = t.val / 12 ∧ win0_1.index t 1 = 0 ∧ win0_1.index t 2 = t.val % 12
    ∧ win0_2.index t 0 = t.val / 12 ∧ win0_2.index t 1 = 0 ∧ win0_2.index t 2 = t.val % 12
    ∧ win0_3.index t 0 = t.val / 12 ∧ win0_3.index t 1 = 0 ∧ win0_3.index t 2 = t.val % 12)

/-- The body's payload read at an element of its block. -/
theorem out_apply (x0 : Vec Ideal S8x2048 .f32) (x1 : Vec Ideal S1x2048x1024 .f32) (x2 : Vec Ideal S1x1x1024 .f32) (b : Fin 8) (n : Fin 1024) :
    out0_3 x0 x1 x2 (ix3 (0 : Fin 1) b n)
      = (∑ k : Fin 2048, x0 (ix2 b k) * Ideal.div (Ideal.ofBits .f32 0x3F800000#32) (Ideal.ofBits .f32 0x3F800000#32 + Ideal.exp (Ideal.ofBits .f32 0x00000000#32 - x0 (ix2 b k)))
          * x1 (ix3 (0 : Fin 1) k n)) + x2 (ix3 (0 : Fin 1) (0 : Fin 1) n) := by
  unfold out0_3
  rw [View.canon_unit_zero hz3]
  simp only [View.ld_unit_zero (S := S8x2048) hz2, View.ld_unit_zero (S := S1x2048x1024) hz3, View.ld_unit_zero (S := S1x1x1024) hz3]
  pointwise [k0_pay1]

/-- The conditioning vectors, whole at every point. -/
theorem blk0 (c : Dev nD) (t : Fin cfg0.N) (b : Fin 8) (k : Fin 2048) :
    (iblk m c 0 t : Vec Ideal S8x2048 .f32) (ix2 b k) = (m ((c : Thread nD τ).loc main_arg0) : FVec Ideal S8x2048 .f32) (ix2 b k) := by
  have hf := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 8 + 1 * b.val = b.val; omega
  | ⟨1, _⟩ => show win0_0.index t 1 * 2048 + 1 * k.val = k.val; omega

/-- Block `t` of the weight: layer `t / 12`, columns `1024 (t % 12) + n`. -/
theorem blk1 (c : Dev nD) (t : Fin cfg0.N) (k : Fin 2048) (n : Fin 1024) (L : Fin 4) (hL : L.val = t.val / 12) (N : Fin 12288) (hN : N.val = t.val % 12 * 1024 + n.val) :
    (iblk m c 1 t : Vec Ideal S1x2048x1024 .f32) (ix3 (0 : Fin 1) k n) = (m ((c : Thread nD τ).loc main_arg1) : FVec Ideal S4x2048x12288 .f32) (ix3 L k N) := by
  have hf := idx_facts t
  unfold iblk
  rw [View.read_apply]
  show V m c main_arg1 _ = m (c.tc.loc main_arg1) _
  rw [V_main_arg1]
  congr 1
  funext a
  apply Fin.ext
  match a with
  | ⟨0, _⟩ => show win0_1.index t 0 * 1 + 1 * 0 = L.val; omega
  | ⟨1, _⟩ => show win0_1.index t 1 * 2048 + 1 * k.val = k.val; omega
  | ⟨2, _⟩ => show win0_1.index t 2 * 1024 + 1 * n.val = N.val; omega

/-- The bias as the host reshapes it. -/
theorem V_bias (c : Dev nD) (l : Fin 4) (n : Fin 12288) : (V m c main_v0 : FVec Ideal S4x1x12288 .f32) (ix3 l (0 : Fin 1) n) = (m ((c : Thread nD τ).loc main_arg2) : FVec Ideal S4x12288 .f32) (ix2 l n) := by
  show StableHlo.after hostOps0 (fun b => m (c, b)) (main_v0 : DevRef τ sig) (ix3 l (0 : Fin 1) n) = _
  after_reads_at

/-- Block `t` of the bias. -/
theorem blk2 (c : Dev nD) (t : Fin cfg0.N) (n : Fin 1024) (L : Fin 4) (hL : L.val = t.val / 12) (N : Fin 12288) (hN : N.val = t.val % 12 * 1024 + n.val) :
    (iblk m c 2 t : Vec Ideal S1x1x1024 .f32) (ix3 (0 : Fin 1) (0 : Fin 1) n) = (m ((c : Thread nD τ).loc main_arg2) : FVec Ideal S4x12288 .f32) (ix2 L N) := by
  have hf := idx_facts t
  refine Eq.trans ?_ (V_bias m c L N)
  unfold iblk
  rw [View.read_apply]
  show V m c main_v0 _ = V m c main_v0 _
  congr 1
  funext a
  apply Fin.ext
  match a with
  | ⟨0, _⟩ => show win0_2.index t 0 * 1 + 1 * 0 = L.val; omega
  | ⟨1, _⟩ => show win0_2.index t 1 * 1 + 1 * 0 = 0; omega
  | ⟨2, _⟩ => show win0_2.index t 2 * 1024 + 1 * n.val = N.val; omega

/-- `G` of the arguments a memory holds. -/
abbrev result (c : Dev nD) : FVec Ideal S4x8x12288 .f32 :=
  G (m ((c : Thread nD τ).loc main_arg0)) (m ((c : Thread nD τ).loc main_arg1)) (m ((c : Thread nD τ).loc main_arg2))

/-- What point `t` writes back is block `t` of `G`. -/
theorem flushed_eq (c : Dev nD) (t : Fin cfg0.N) :
    (dats m 0 c).flushed 3 t = ((cfg0.win 3).blk t).view.read (Elt Ideal) (result m c) := by
  rw [Value.flushed3]
  funext j
  obtain ⟨z, b, n, rfl⟩ : ∃ (z : Fin 1) (b : Fin 8) (n : Fin 1024), j = ix3 z b n := ⟨j 0, j 1, j 2, eq_ix3 j⟩
  obtain rfl : z = 0 := Subsingleton.elim _ _
  show out0_3 _ _ _ (ix3 (0 : Fin 1) b n) = _
  have hf := idx_facts t
  have ht : t.val < 48 := t.isLt
  have hn : n.val < 1024 := n.isLt
  obtain ⟨L, hL⟩ : ∃ L : Fin 4, L.val = t.val / 12 := ⟨⟨_, by omega⟩, rfl⟩
  obtain ⟨N, hN⟩ : ∃ N : Fin 12288, N.val = t.val % 12 * 1024 + n.val := ⟨⟨_, by omega⟩, rfl⟩
  have e : ((cfg0.win 3).blk t).view.read (Elt Ideal) (result m c) (ix3 (0 : Fin 1) b n) = result m c (ix3 L b N) := by
    rw [View.read_apply]
    show result m c _ = _
    congr 1
    funext a
    apply Fin.ext
    match a with
    | ⟨0, _⟩ => show win0_3.index t 0 * 1 + 1 * 0 = L.val; omega
    | ⟨1, _⟩ => show win0_3.index t 1 * 8 + 1 * b.val = b.val; omega
    | ⟨2, _⟩ => show win0_3.index t 2 * 1024 + 1 * n.val = N.val; omega
  rw [e, out_apply, blk2 m c t n L hL N hN]
  simp only [blk0 m c t, blk1 m c t _ n L hL N hN, Ideal.ofBits_zero_f32, zero_sub]
  rfl

/-- The result array holds `G` of the arguments: the blocks tile it. -/
theorem final (c : Dev nD) : (dats m 0 c).arrAt 3 cfg0.N = result m c :=
  (dats m 0 c).arrAt_eq_of_cover 3 (result m c) (fun t _ => flushed_eq m c t) fun i => by
    have h0 : (i 0 : Nat) < 4 := (i 0).isLt
    have h1 : (i 1 : Nat) < 8 := (i 1).isLt
    have h2 : (i 2 : Nat) < 12288 := (i 2).isLt
    refine ⟨⟨(i 0).val * 12 + (i 2).val / 1024, by show _ < 48; omega⟩, flush0_3 _, ?_⟩
    generalize ht : (⟨(i 0).val * 12 + (i 2).val / 1024, _⟩ : Fin cfg0.N) = t
    have htv : t.val = (i 0).val * 12 + (i 2).val / 1024 := by rw [← ht]
    have hf := idx_facts t
    show i ∈ ((View.whole main_v1).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1; omega
    | ⟨1, _⟩ => show win0_3.index t 1 * 8 ≤ (i 1 : Nat) ∧ (i 1 : Nat) < win0_3.index t 1 * 8 + 8; omega
    | ⟨2, _⟩ => show win0_3.index t 2 * 1024 ≤ (i 2 : Nat) ∧ (i 2 : Nat) < win0_3.index t 2 * 1024 + 1024; omega

open Cert.AdaRefIdeal.Read in
/-- The reference's composed term is `G` of the arguments. -/
theorem ref_eq (a0 : FVec Ideal S8x2048 .f32) (a1 : FVec Ideal S4x2048x12288 .f32) (a2 : FVec Ideal S4x12288 .f32) :
    Cert.AdaRefIdeal.Read.val_main_v5 (F := Ideal) a0 a1 a2 = G a0 a1 a2 := by
  funext i
  obtain ⟨l, b, n, rfl⟩ : ∃ (l : Fin 4) (b : Fin 8) (n : Fin 12288), i = ix3 l b n := ⟨i 0, i 1, i 2, eq_ix3 i⟩
  rw [val_main_v5_apply, val_main_v4_apply, val_main_v3_apply, val_main_v2_apply, val_main_v1_apply]
  have e3 : idx_main_v3 (idx_main_v4 (ix3 l b n)) = ix2 l n := by
    funext a
    match a with
    | ⟨0, _⟩ => rfl
    | ⟨1, _⟩ => rfl
  have el : ∀ k : Fin 2048, lidx_main_v1 (idx_main_v2 (ix3 l b n)) k = ix3 l k n := fun k => by
    funext a
    match a with
    | ⟨0, _⟩ => rfl
    | ⟨1, _⟩ => rfl
    | ⟨2, _⟩ => rfl
  have er : ∀ k : Fin 2048, ridx_main_v1 (idx_main_v2 (ix3 l b n)) k = ix2 b k := fun k => by
    funext a
    match a with
    | ⟨0, _⟩ => rfl
    | ⟨1, _⟩ => rfl
  rw [e3]
  unfold G
  refine congrArg₂ (· + ·) (Finset.sum_congr rfl fun k _ => ?_) rfl
  rw [el, er, val_main_v0_apply]
  simp only [val_main_call0_v5_apply, val_main_call0_v4_apply, val_main_call0_v3_apply, val_main_call0_v2_apply, val_main_call0_v1_apply, val_main_call0_v0_apply,
    val_main_call0_cst_apply, val_main_call0_cst_0_apply]
  exact mul_comm _ _

/-- The conditioning projection's kernel and its reference, over the extended reals: both end with `G` of the arguments. -/
theorem algebraic : Cert.algebraic_AdaIdeal_AdaRefIdeal (hAdaIdeal := Cert.AdaIdeal.Gen.facts)
    (hAdaRefIdeal := Cert.AdaRefIdeal.Gen.facts) := by
  intro m g m' g' _ hm
  refine ⟨result m, ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.AdaRefIdeal.Value.run (F := Ideal) m' g')
    obtain ⟨h0, h1, h2⟩ := hm c
    refine Eq.trans ?_ (ref_eq _ _ _)
    rw [← Cert.AdaRefIdeal.Read.val_main_v5_eq]
    rw [← h0, ← h1, ← h2]

end Cert.Proof.Ada

end
-- ==== Proof.Rope.lean ====
module

public import proofs.«01_k».proof.Defs
public import proofs.«01_k».proof.Proof.Gen.RopeIdeal.Frame
public import proofs.«01_k».proof.Proof.Gen.RopeRefIdeal.Read
public import proofs.«01_k».proof.Proof.AttnPre
public import Idealize.ShloMosaic.Lib.Pipeline.Value
public import Idealize.ShloMosaic.Lib.Pointwise
public import Idealize.ShloMosaic.Lib.StableHlo.ReadAt
public import Idealize.ShloMosaic.Lib.IdealHost
public import Idealize.ShloMosaic.Lib.Claim

@[expose] public section

set_option maxRecDepth 16384

noncomputable section

namespace Cert.Proof.Rope

open Idealize.ShloMosaic Idealize.ShloMosaic.TcCoe Idealize.SL.Sem
open Idealize.ShloMosaic.Pipeline (Dat)
open Cert.RopeIdeal Cert.RopeIdeal.Gen

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The block index of each window at grid point `t`. -/
theorem idx_facts : ∀ t : Fin cfg0.N,
    win0_0.index t 0 = t.val ∧ win0_0.index t 1 = 0 ∧ win0_0.index t 2 = 0
    ∧ win0_1.index t 0 = 0 ∧ win0_1.index t 1 = 0
    ∧ win0_2.index t 0 = 0 ∧ win0_2.index t 1 = 0
    ∧ win0_3.index t 0 = t.val ∧ win0_3.index t 1 = 0 ∧ win0_3.index t 2 = 0
    ∧ win0_4.index t 0 = t.val ∧ win0_4.index t 1 = 0 ∧ win0_4.index t 2 = 0 :=
  (by decide +kernel : ∀ t : Fin grid0.N,
    win0_0.index t 0 = t.val ∧ win0_0.index t 1 = 0 ∧ win0_0.index t 2 = 0
    ∧ win0_1.index t 0 = 0 ∧ win0_1.index t 1 = 0
    ∧ win0_2.index t 0 = 0 ∧ win0_2.index t 1 = 0
    ∧ win0_3.index t 0 = t.val ∧ win0_3.index t 1 = 0 ∧ win0_3.index t 2 = 0
    ∧ win0_4.index t 0 = t.val ∧ win0_4.index t 1 = 0 ∧ win0_4.index t 2 = 0)

/-- The cosine payload read at an element of its block. -/
theorem out3_apply (x0 : Vec Ideal S1x4096x1 .i32) (x1 x2 : Vec Ideal S1x128 .f32) (s : Fin 4096) (n : Fin 128) :
    out0_3 x0 x1 x2 (ix3 (0 : Fin 1) s n)
      = Scalar.select (Ideal.cmp .one (x2 (ix2 (0 : Fin 1) n)) (Ideal.ofBits .f32 0x00000000#32))
          (FloatOps.cos (F := Ideal) (φ := .f32) (FloatOps.sitofp (F := Ideal) .f32 (x0 (ix3 (0 : Fin 1) s (0 : Fin 1))) * x1 (ix2 (0 : Fin 1) n) : EReal)) (Ideal.ofBits .f32 0x3F800000#32) := by
  unfold out0_3
  rw [View.canon_unit_zero hz3]
  simp only [View.ld_unit_zero (S := S1x4096x1) hz3, View.ld_unit_zero (S := S1x128) hz2]
  pointwise [k0_pay2, k0_pay1]

/-- The sine payload read at an element of its block. -/
theorem out4_apply (x0 : Vec Ideal S1x4096x1 .i32) (x1 x2 : Vec Ideal S1x128 .f32) (s : Fin 4096) (n : Fin 128) :
    out0_4 x0 x1 x2 (ix3 (0 : Fin 1) s n)
      = FloatOps.sin (F := Ideal) (φ := .f32) (FloatOps.sitofp (F := Ideal) .f32 (x0 (ix3 (0 : Fin 1) s (0 : Fin 1))) * x1 (ix2 (0 : Fin 1) n) : EReal) * x2 (ix2 (0 : Fin 1) n) := by
  unfold out0_4
  rw [View.canon_unit_zero hz3]
  simp only [View.ld_unit_zero (S := S1x4096x1) hz3, View.ld_unit_zero (S := S1x128) hz2]
  pointwise [k0_pay3, k0_pay1]

/-- The positions as the host reshapes them. -/
theorem V_pos (c : Dev nD) (b : Fin 8) (s : Fin 4096) :
    (V m c main_v17 : Vec Ideal S8x4096x1 .i32) (ix3 b s (0 : Fin 1)) = (m ((c : Thread nD τ).loc main_arg0) : Vec Ideal S8x4096 .i32) (ix2 b s) := by
  unfold V
  after_reads_at

theorem rm1 (n : Fin 128) : S128.rowMajor (ix1 n) = n := by
  apply Fin.ext
  rw [Shape.rowMajor_val_one]
  rfl

theorem rm2 (n : Fin 128) : S1x128.rowMajor (ix2 (0 : Fin 1) n) = n := by
  apply Fin.ext
  rw [Shape.rowMajor_val_two]
  show 0 * 128 + n.val = n.val
  omega

/-- The signs: -1 on a component's lanes 0 to 7, 1 on 8 to 15, 0 on the rest. -/
theorem lit2_eq : ∀ n : Fin 128, lit2 n = if n.val % 64 < 8 then 0xBF800000#32 else if n.val % 64 < 16 then 0x3F800000#32 else 0x00000000#32 := by
  decide +kernel
/-- The lanes that turn: a component's first 16. -/
theorem lit1_eq : ∀ n : Fin 128, lit1 n = if n.val % 64 < 16 then 1#1 else 0#1 := by decide +kernel
/-- The frequency a lane takes. -/
theorem lit0_eq : ∀ n : Fin 128, min (lit0 n).toInt.toNat 7 = n.val % 8 := by decide +kernel

/-- The sign row. -/
theorem V_sign (c : Dev nD) (n : Fin 128) :
    (V m c main_cst : Vec Ideal S1x128 .f32) (ix2 (0 : Fin 1) n)
      = Ideal.ofBits .f32 (if n.val % 64 < 8 then 0xBF800000#32 else if n.val % 64 < 16 then 0x3F800000#32 else 0x00000000#32) := by
  rw [← lit2_eq n]
  refine Eq.trans ?_ (congrArg (fun k => Ideal.ofBits .f32 (lit2 k)) (rm2 n))
  unfold V
  after_reads_at

/-- The frequency `j`: theta to the power of minus `2 j / 16`. -/
def inv (j : Fin 8) : EReal := Cert.RopeRefIdeal.Read.val_main_v9 (F := Ideal) (ix1 j)

/-- A gather of single elements of a list, read at an index: the element at the start index read signed and clamped. -/
theorem gather_at (x : FVec Ideal S8 .f32) (idx : IVec S128x1 32) (n : Fin 128) (w : BitVec 32) (hw : idx (ix2 n (0 : Fin 1)) = w) :
    Host.gather gather_S8_S128x1_S128_n_0_n_n_0_1_1 x idx (ix1 n) = x (ix1 ⟨min w.toInt.toNat 7, by omega⟩) := by
  unfold Host.gather
  congr 1
  funext a
  obtain rfl : a = 0 := Subsingleton.elim _ _
  refine Fin.ext ?_
  show gather_S8_S128x1_S128_n_0_n_n_0_1_1.start (ix1 n) idx 0 + gather_S8_S128x1_S128_n_0_n_n_0_1_1.batchCoord (ix1 n) 0
    + gather_S8_S128x1_S128_n_0_n_n_0_1_1.offCoord (ix1 n) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ gather_S8_S128x1_S128_n_0_n_n_0_1_1.startIndexMap from List.mem_singleton.mpr rfl)]
  have hsi : gather_S8_S128x1_S128_n_0_n_n_0_1_1.siIdx (ix1 n) ⟨List.idxOf (0 : Fin 1) gather_S8_S128x1_S128_n_0_n_n_0_1_1.startIndexMap,
      List.idxOf_lt_length_iff.2 (List.mem_singleton.mpr rfl)⟩ = ix2 n (0 : Fin 1) := by
    funext b
    refine Fin.ext ?_
    match b with
    | ⟨0, _⟩ => rfl
    | ⟨1, _⟩ => rfl
  rw [hsi, hw]
  rfl

/-- The frequency row: a component's first 16 lanes take the 8 frequencies twice, the rest 0. -/
theorem V_freq (c : Dev nD) (n : Fin 128) :
    (V m c main_v16 : Vec Ideal S1x128 .f32) (ix2 (0 : Fin 1) n) = if n.val % 64 < 16 then inv ⟨n.val % 8, by omega⟩ else 0 := by
  have h : (V m c main_v16 : Vec Ideal S1x128 .f32) (ix2 (0 : Fin 1) n)
      = Scalar.select (lit1 (S128.rowMajor (ix1 n)))
          (Host.gather gather_S8_S128x1_S128_n_0_n_n_0_1_1 (Cert.RopeRefIdeal.Read.val_main_v9 (F := Ideal))
            (broadcastInDim S128x1 ![0] bcast_S128_S128x1_0 (select (constantI S128 1 0#1)
              (addi (fun i => lit0 (S128.rowMajor i)) (broadcastInDim S128 ![] bcast_S_S128 (constantI S_ 32 8#32))) fun i => lit0 (S128.rowMajor i))) (ix1 n))
          (0 : EReal) := by
    unfold V
    after_reads_at
    exact congrArg (Scalar.select (lit1 (S128.rowMajor (ix1 n))) _) Ideal.ofBits_zero_f32
  have hi : (broadcastInDim S128x1 ![0] bcast_S128_S128x1_0 (select (constantI S128 1 0#1)
              (addi (fun i => lit0 (S128.rowMajor i)) (broadcastInDim S128 ![] bcast_S_S128 (constantI S_ 32 8#32))) fun i => lit0 (S128.rowMajor i))) (ix2 n (0 : Fin 1))
      = lit0 n := by
    refine Eq.trans ?_ (congrArg lit0 (rm1 n))
    pointwise []
  rw [h, gather_at _ _ n _ hi, rm1, lit1_eq]
  split
  · exact congrArg (fun j => Cert.RopeRefIdeal.Read.val_main_v9 (F := Ideal) (ix1 j)) (Fin.ext (lit0_eq n))
  · rfl

/-- The positions' block: sequence `t`. -/
theorem blk0 (c : Dev nD) (t : Fin cfg0.N) (s : Fin 4096) (b : Fin 8) (hb : b.val = t.val) :
    (iblk m c 0 t : Vec Ideal S1x4096x1 .i32) (ix3 (0 : Fin 1) s (0 : Fin 1)) = (m ((c : Thread nD τ).loc main_arg0) : Vec Ideal S8x4096 .i32) (ix2 b s) := by
  have hf := idx_facts t
  refine Eq.trans ?_ (V_pos m c b s)
  unfold iblk
  rw [View.read_apply]
  show V m c main_v17 _ = V m c main_v17 _
  congr 1
  funext a
  apply Fin.ext
  match a with
  | ⟨0, _⟩ => show win0_0.index t 0 * 1 + 1 * 0 = b.val; omega
  | ⟨1, _⟩ => show win0_0.index t 1 * 4096 + 1 * s.val = s.val; omega
  | ⟨2, _⟩ => show win0_0.index t 2 * 1 + 1 * 0 = 0; omega

/-- The frequency row, whole at every point. -/
theorem blk1 (c : Dev nD) (t : Fin cfg0.N) (n : Fin 128) :
    (iblk m c 1 t : Vec Ideal S1x128 .f32) (ix2 (0 : Fin 1) n) = if n.val % 64 < 16 then inv ⟨n.val % 8, by omega⟩ else 0 := by
  have hf := idx_facts t
  refine Eq.trans ?_ (V_freq m c n)
  unfold iblk
  rw [View.read_apply]
  show V m c main_v16 _ = V m c main_v16 _
  congr 1
  funext a
  apply Fin.ext
  match a with
  | ⟨0, _⟩ => show win0_1.index t 0 * 1 + 1 * 0 = 0; omega
  | ⟨1, _⟩ => show win0_1.index t 1 * 128 + 1 * n.val = n.val; omega

/-- The sign row, whole at every point. -/
theorem blk2 (c : Dev nD) (t : Fin cfg0.N) (n : Fin 128) :
    (iblk m c 2 t : Vec Ideal S1x128 .f32) (ix2 (0 : Fin 1) n)
      = Ideal.ofBits .f32 (if n.val % 64 < 8 then 0xBF800000#32 else if n.val % 64 < 16 then 0x3F800000#32 else 0x00000000#32) := by
  have hf := idx_facts t
  refine Eq.trans ?_ (V_sign m c n)
  unfold iblk
  rw [View.read_apply]
  show V m c main_cst _ = V m c main_cst _
  congr 1
  funext a
  apply Fin.ext
  match a with
  | ⟨0, _⟩ => show win0_2.index t 0 * 1 + 1 * 0 = 0; omega
  | ⟨1, _⟩ => show win0_2.index t 1 * 128 + 1 * n.val = n.val; omega

/-- The angle of position `(b, s)` and frequency `j`. -/
def ang (p : Vec Ideal S8x4096 .i32) (b : Fin 8) (s : Fin 4096) (j : Fin 8) : EReal :=
  (FloatOps.sitofp (F := Ideal) .f32 (p (ix2 b s)) : EReal) * inv j

/-- The cosine table as one function of the positions. -/
def Gc (p : Vec Ideal S8x4096 .i32) : FVec Ideal S8x4096x128 .f32 := fun i =>
  if (i 2).val % 64 < 16 then Ideal.cos (ang p (i 0) (i 1) ⟨(i 2).val % 8, by omega⟩) else 1

/-- The signed sine table as one function of the positions. -/
def Gs (p : Vec Ideal S8x4096 .i32) : FVec Ideal S8x4096x128 .f32 := fun i =>
  if (i 2).val % 64 < 8 then -Ideal.sin (ang p (i 0) (i 1) ⟨(i 2).val % 8, by omega⟩)
  else if (i 2).val % 64 < 16 then Ideal.sin (ang p (i 0) (i 1) ⟨(i 2).val % 8, by omega⟩) else 0

theorem ofBits_neg_one : Ideal.ofBits .f32 0xBF800000#32 = -1 := by
  simp [Ideal.ofBits, Ideal.ieee, -EReal.coe_mul]; norm_num

/-- The cosine table a memory's positions give. -/
abbrev resultC (c : Dev nD) : FVec Ideal S8x4096x128 .f32 := Gc (m ((c : Thread nD τ).loc main_arg0))
/-- The sine table a memory's positions give. -/
abbrev resultS (c : Dev nD) : FVec Ideal S8x4096x128 .f32 := Gs (m ((c : Thread nD τ).loc main_arg0))

theorem flushed3 (c : Dev nD) (t : Fin cfg0.N) :
    (dats m 0 c).flushed 3 t = (cfg0.win 3).cut (grid0.coords t) (out0_3 (iblk m c 0 t) (iblk m c 1 t) (iblk m c 2 t)) := by
  show (cfg0.win 3).cut (grid0.coords t) ((dats m 0 c).after 3 t) = _
  rw [after0_3]

theorem flushed4 (c : Dev nD) (t : Fin cfg0.N) :
    (dats m 0 c).flushed 4 t = (cfg0.win 4).cut (grid0.coords t) (out0_4 (iblk m c 0 t) (iblk m c 1 t) (iblk m c 2 t)) := by
  show (cfg0.win 4).cut (grid0.coords t) ((dats m 0 c).after 4 t) = _
  rw [after0_4]

/-- What point `t` writes back of the cosines is block `t` of the table. -/
theorem flushed3_eq (c : Dev nD) (t : Fin cfg0.N) :
    (dats m 0 c).flushed 3 t = ((cfg0.win 3).blk t).view.read (Elt Ideal) (resultC m c) := by
  rw [flushed3]
  funext j
  obtain ⟨z, s, n, rfl⟩ : ∃ (z : Fin 1) (s : Fin 4096) (n : Fin 128), j = ix3 z s n := ⟨j 0, j 1, j 2, eq_ix3 j⟩
  obtain rfl : z = 0 := Subsingleton.elim _ _
  show out0_3 _ _ _ (ix3 (0 : Fin 1) s n) = _
  have hf := idx_facts t
  have ht : t.val < 8 := t.isLt
  obtain ⟨b, hb⟩ : ∃ b : Fin 8, b.val = t.val := ⟨⟨_, ht⟩, rfl⟩
  have e : ((cfg0.win 3).blk t).view.read (Elt Ideal) (resultC m c) (ix3 (0 : Fin 1) s n) = resultC m c (ix3 b s n) := by
    rw [View.read_apply]
    show resultC m c _ = _
    congr 1
    funext a
    apply Fin.ext
    match a with
    | ⟨0, _⟩ => show win0_3.index t 0 * 1 + 1 * 0 = b.val; omega
    | ⟨1, _⟩ => show win0_3.index t 1 * 4096 + 1 * s.val = s.val; omega
    | ⟨2, _⟩ => show win0_3.index t 2 * 128 + 1 * n.val = n.val; omega
  rw [e, out3_apply, blk0 m c t s b hb, blk1, blk2]
  show _ = if n.val % 64 < 16 then Ideal.cos (ang (m ((c : Thread nD τ).loc main_arg0)) b s ⟨n.val % 8, by omega⟩) else 1
  by_cases h16 : n.val % 64 < 16
  · have hc : Ideal.cmp .one (Ideal.ofBits .f32 (if n.val % 64 < 8 then 0xBF800000#32 else if n.val % 64 < 16 then 0x3F800000#32 else 0x00000000#32)) (Ideal.ofBits .f32 0x00000000#32) = 1#1 := by
      by_cases h8 : n.val % 64 < 8
      · rw [if_pos h8, ofBits_neg_one, Ideal.ofBits_zero_f32]; simp [Ideal.cmp]
      · rw [if_neg h8, if_pos h16, Ideal.ofBits_one_f32, Ideal.ofBits_zero_f32]; simp [Ideal.cmp]
    rw [hc, if_pos h16, if_pos h16]
    rfl
  · have hc : Ideal.cmp .one (Ideal.ofBits .f32 (if n.val % 64 < 8 then 0xBF800000#32 else if n.val % 64 < 16 then 0x3F800000#32 else 0x00000000#32)) (Ideal.ofBits .f32 0x00000000#32) = 0#1 := by
      rw [if_neg (by omega), if_neg h16]; simp [Ideal.cmp]
    rw [hc, if_neg h16, if_neg h16]
    exact Ideal.ofBits_one_f32

/-- What point `t` writes back of the sines is block `t` of the table. -/
theorem flushed4_eq (c : Dev nD) (t : Fin cfg0.N) :
    (dats m 0 c).flushed 4 t = ((cfg0.win 4).blk t).view.read (Elt Ideal) (resultS m c) := by
  rw [flushed4]
  funext j
  obtain ⟨z, s, n, rfl⟩ : ∃ (z : Fin 1) (s : Fin 4096) (n : Fin 128), j = ix3 z s n := ⟨j 0, j 1, j 2, eq_ix3 j⟩
  obtain rfl : z = 0 := Subsingleton.elim _ _
  show out0_4 _ _ _ (ix3 (0 : Fin 1) s n) = _
  have hf := idx_facts t
  have ht : t.val < 8 := t.isLt
  obtain ⟨b, hb⟩ : ∃ b : Fin 8, b.val = t.val := ⟨⟨_, ht⟩, rfl⟩
  have e : ((cfg0.win 4).blk t).view.read (Elt Ideal) (resultS m c) (ix3 (0 : Fin 1) s n) = resultS m c (ix3 b s n) := by
    rw [View.read_apply]
    show resultS m c _ = _
    congr 1
    funext a
    apply Fin.ext
    match a with
    | ⟨0, _⟩ => show win0_4.index t 0 * 1 + 1 * 0 = b.val; omega
    | ⟨1, _⟩ => show win0_4.index t 1 * 4096 + 1 * s.val = s.val; omega
    | ⟨2, _⟩ => show win0_4.index t 2 * 128 + 1 * n.val = n.val; omega
  rw [e, out4_apply, blk0 m c t s b hb, blk1, blk2]
  show _ = if n.val % 64 < 8 then -Ideal.sin (ang (m ((c : Thread nD τ).loc main_arg0)) b s ⟨n.val % 8, by omega⟩)
    else if n.val % 64 < 16 then Ideal.sin (ang (m ((c : Thread nD τ).loc main_arg0)) b s ⟨n.val % 8, by omega⟩) else 0
  by_cases h8 : n.val % 64 < 8
  · rw [if_pos (show n.val % 64 < 16 by omega), if_pos h8, if_pos h8, ofBits_neg_one, mul_neg, mul_one]
    rfl
  · by_cases h16 : n.val % 64 < 16
    · rw [if_neg h8, if_pos h16, if_neg h8, if_pos h16, if_pos h16, Ideal.ofBits_one_f32, mul_one]
      rfl
    · rw [if_neg h8, if_neg h16, if_neg h8, if_neg h16, if_neg h16, Ideal.ofBits_zero_f32, mul_zero]

/-- The cosine array holds the table: the blocks tile it. -/
theorem final3 (c : Dev nD) : (dats m 0 c).arrAt 3 cfg0.N = resultC m c :=
  (dats m 0 c).arrAt_eq_of_cover 3 (resultC m c) (fun t _ => flushed3_eq m c t) fun i => by
    have h0 : (i 0 : Nat) < 8 := (i 0).isLt
    have h1 : (i 1 : Nat) < 4096 := (i 1).isLt
    have h2 : (i 2 : Nat) < 128 := (i 2).isLt
    refine ⟨⟨(i 0).val, by show _ < 8; omega⟩, flush0_3 _, ?_⟩
    generalize ht : (⟨(i 0).val, _⟩ : Fin cfg0.N) = t
    have htv : t.val = (i 0).val := by rw [← ht]
    have hf := idx_facts t
    show i ∈ ((View.whole main_v18_0).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1; omega
    | ⟨1, _⟩ => show win0_3.index t 1 * 4096 ≤ (i 1 : Nat) ∧ (i 1 : Nat) < win0_3.index t 1 * 4096 + 4096; omega
    | ⟨2, _⟩ => show win0_3.index t 2 * 128 ≤ (i 2 : Nat) ∧ (i 2 : Nat) < win0_3.index t 2 * 128 + 128; omega

/-- The sine array holds the table: the blocks tile it. -/
theorem final4 (c : Dev nD) : (dats m 0 c).arrAt 4 cfg0.N = resultS m c :=
  (dats m 0 c).arrAt_eq_of_cover 4 (resultS m c) (fun t _ => flushed4_eq m c t) fun i => by
    have h0 : (i 0 : Nat) < 8 := (i 0).isLt
    have h1 : (i 1 : Nat) < 4096 := (i 1).isLt
    have h2 : (i 2 : Nat) < 128 := (i 2).isLt
    refine ⟨⟨(i 0).val, by show _ < 8; omega⟩, flush0_4 _, ?_⟩
    generalize ht : (⟨(i 0).val, _⟩ : Fin cfg0.N) = t
    have htv : t.val = (i 0).val := by rw [← ht]
    have hf := idx_facts t
    show i ∈ ((View.whole main_v18_1).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1; omega
    | ⟨1, _⟩ => show win0_4.index t 1 * 4096 ≤ (i 1 : Nat) ∧ (i 1 : Nat) < win0_4.index t 1 * 4096 + 4096; omega
    | ⟨2, _⟩ => show win0_4.index t 2 * 128 ≤ (i 2 : Nat) ∧ (i 2 : Nat) < win0_4.index t 2 * 128 + 128; omega

/-- The kernel's run, each table named. -/
theorem run_blocks : θ_run defs (onTc (τ := τ) (main (F := Ideal))) ⟨m, fun _ => 0, ρ⟩ fun r => ∀ c : Dev nD,
      r.2.mem ((c : Thread nD τ).loc main_v18_0) = (dats m 0 c).arrAt 3 cfg0.N
      ∧ r.2.mem ((c : Thread nD τ).loc main_v18_1) = (dats m 0 c).arrAt 4 cfg0.N
      ∧ r.2.mem ((c : Thread nD τ).loc main_arg0) = m ((c : Thread nD τ).loc main_arg0) :=
  (θ_run defs _ _).mono (fun r h c => ⟨(h c).1 3, (h c).1 4,
      ((h c).2 main_arg0 (Pipeline.mem_restRefs_of main_arg0 (by decide) (by decide))).trans (V_main_arg0 m c)⟩)
    (run_main m ρ)

open Cert.Proof.Attn (lane tab tab_x tab_y tab_o)

/-- A lane is one of a component's first 8, next 8 or last 48. -/
theorem lane_cases (n : Fin 128) : ∃ (c : Fin 2) (d : Fin 64), n = lane c d := by
  have h := n.isLt
  exact ⟨⟨n.val / 64, by omega⟩, ⟨n.val % 64, by omega⟩, Fin.ext (by show n.val = n.val / 64 * 64 + n.val % 64; omega)⟩

open Cert.RopeRefIdeal.Read in
theorem ref_ang (p : Vec Ideal S8x4096 .i32) (b : Fin 8) (s : Fin 4096) (j : Fin 8) :
    val_main_v15 (F := Ideal) p (ix3 b s j) = ang p b s j := by
  have e13 : idx_main_v11 (idx_main_v13 (ix3 b s j)) = ix2 b s := by funext a; match a with | ⟨0, _⟩ => rfl | ⟨1, _⟩ => rfl
  have e14 : idx_main_v12 (idx_main_v14 (ix3 b s j)) = ix1 j := by funext a; match a with | ⟨0, _⟩ => rfl
  rw [val_main_v15_apply, val_main_v13_apply, val_main_v11_apply, val_main_v10_apply, val_main_v14_apply, val_main_v12_apply, e13, e14]
  rfl

open Cert.RopeRefIdeal.Read in
/-- The reference's cosine table. -/
theorem ref_cos (p : Vec Ideal S8x4096 .i32) : val_main_v20 (F := Ideal) p = Gc p := by
  have h : val_main_v20 (F := Ideal) p = tab Cert.Proof.Attn.preFacts.concatenates_S8x4096x8_S8x4096x8_S8x4096x48_S8x4096x8_S8x4096x8_S8x4096x48_S8x4096x128_d2
      (val_main_v16 (F := Ideal) p) (val_main_v16 (F := Ideal) p) (val_main_v18 (F := Ideal)) := rfl
  rw [h]
  funext i
  obtain ⟨b, s, n, rfl⟩ : ∃ (b : Fin 8) (s : Fin 4096) (n : Fin 128), i = ix3 b s n := ⟨i 0, i 1, i 2, eq_ix3 i⟩
  obtain ⟨c, ⟨d, hd⟩, rfl⟩ := lane_cases n
  have hm : (lane c ⟨d, hd⟩).val % 64 = d := by show (c.val * 64 + d) % 64 = d; omega
  have hm8 : (lane c ⟨d, hd⟩).val % 8 = d % 8 := by show (c.val * 64 + d) % 8 = d % 8; omega
  show _ = if (lane c ⟨d, hd⟩).val % 64 < 16 then Ideal.cos (ang p b s ⟨(lane c ⟨d, hd⟩).val % 8, by omega⟩) else 1
  by_cases h8 : d < 8
  · rw [if_pos (by omega), tab_x _ _ _ _ b s c d h8, val_main_v16_apply, ref_ang]
    exact congrArg (fun j => Ideal.cos (ang p b s j)) (Fin.ext (by show d = (lane c ⟨d, hd⟩).val % 8; omega))
  · by_cases h16 : d < 16
    · obtain ⟨d', rfl⟩ : ∃ d', d = 8 + d' := ⟨d - 8, by omega⟩
      rw [if_pos (by omega), tab_y _ _ _ _ b s c d' (by omega), val_main_v16_apply, ref_ang]
      exact congrArg (fun j => Ideal.cos (ang p b s j)) (Fin.ext (by show d' = (lane c ⟨8 + d', hd⟩).val % 8; omega))
    · obtain ⟨d', rfl⟩ : ∃ d', d = 16 + d' := ⟨d - 16, by omega⟩
      rw [if_neg (by omega), tab_o _ _ _ _ b s c d' (by omega), val_main_v18_apply, val_main_cst_3_apply]
      exact Ideal.ofBits_one_f32

open Cert.RopeRefIdeal.Read in
/-- The reference's sine table. -/
theorem ref_sin (p : Vec Ideal S8x4096 .i32) : val_main_v23 (F := Ideal) p = Gs p := by
  have h : val_main_v23 (F := Ideal) p = tab Cert.Proof.Attn.preFacts.concatenates_S8x4096x8_S8x4096x8_S8x4096x48_S8x4096x8_S8x4096x8_S8x4096x48_S8x4096x128_d2
      (val_main_v21 (F := Ideal) p) (val_main_v17 (F := Ideal) p) (val_main_v19 (F := Ideal)) := rfl
  rw [h]
  funext i
  obtain ⟨b, s, n, rfl⟩ : ∃ (b : Fin 8) (s : Fin 4096) (n : Fin 128), i = ix3 b s n := ⟨i 0, i 1, i 2, eq_ix3 i⟩
  obtain ⟨c, ⟨d, hd⟩, rfl⟩ := lane_cases n
  have hm : (lane c ⟨d, hd⟩).val % 64 = d := by show (c.val * 64 + d) % 64 = d; omega
  have hm8 : (lane c ⟨d, hd⟩).val % 8 = d % 8 := by show (c.val * 64 + d) % 8 = d % 8; omega
  show _ = if (lane c ⟨d, hd⟩).val % 64 < 8 then -Ideal.sin (ang p b s ⟨(lane c ⟨d, hd⟩).val % 8, by omega⟩)
    else if (lane c ⟨d, hd⟩).val % 64 < 16 then Ideal.sin (ang p b s ⟨(lane c ⟨d, hd⟩).val % 8, by omega⟩) else 0
  by_cases h8 : d < 8
  · rw [if_pos (by omega), tab_x _ _ _ _ b s c d h8, val_main_v21_apply, val_main_v17_apply, ref_ang]
    exact congrArg (fun j => -Ideal.sin (ang p b s j)) (Fin.ext (by show d = (lane c ⟨d, hd⟩).val % 8; omega))
  · by_cases h16 : d < 16
    · obtain ⟨d', rfl⟩ : ∃ d', d = 8 + d' := ⟨d - 8, by omega⟩
      rw [if_neg (by omega), if_pos (by omega), tab_y _ _ _ _ b s c d' (by omega), val_main_v17_apply, ref_ang]
      exact congrArg (fun j => Ideal.sin (ang p b s j)) (Fin.ext (by show d' = (lane c ⟨8 + d', hd⟩).val % 8; omega))
    · obtain ⟨d', rfl⟩ : ∃ d', d = 16 + d' := ⟨d - 16, by omega⟩
      rw [if_neg (by omega), if_neg (by omega), tab_o _ _ _ _ b s c d' (by omega), val_main_v19_apply, val_main_cst_4_apply]
      exact Ideal.ofBits_zero_f32

/-- The tables' kernel and their reference, over the extended reals: both end with the same two tables. -/
theorem algebraic : Cert.algebraic_RopeIdeal_RopeRefIdeal (hRopeIdeal := Cert.RopeIdeal.Gen.facts)
    (hRopeRefIdeal := Cert.RopeRefIdeal.Gen.facts) := by
  intro m g m' g' _ hm
  refine ⟨resultC m, resultS m, ?_, ?_⟩
  · exact (θ_run _ _ _).mono (fun r h c => ⟨(h c).1.trans (final3 m c), (h c).2.1.trans (final4 m c), (h c).2.2⟩) (run_blocks m g)
  · refine (θ_run _ _ _).mono (fun r h c => ⟨(h c).1.trans ?_, (h c).2.1.trans ?_, (h c).2.2⟩) (Cert.RopeRefIdeal.Value.run (F := Ideal) m' g')
    · have h0 := hm c
      refine Eq.trans ?_ (ref_cos _)
      rw [← Cert.RopeRefIdeal.Read.val_main_v20_eq]
      rw [← h0]
    · have h0 := hm c
      refine Eq.trans ?_ (ref_sin _)
      rw [← Cert.RopeRefIdeal.Read.val_main_v23_eq]
      rw [← h0]

end Cert.Proof.Rope

end
-- ==== Proof.ConvPay.lean ====
module

public import proofs.«01_k».proof.Defs
public import proofs.«01_k».proof.Proof.Gen.ConvIdeal.Value
public import Idealize.ShloMosaic.Lib.Pointwise
public import Idealize.ShloMosaic.Lib.Pipeline.ValueKit.Tiles
public import Idealize.ShloMosaic.Lib.StableHlo.ReadAt
public import Idealize.ShloMosaic.Lib.IdealHost
public import Idealize.ShloMosaic.Lib.Claim

@[expose] public section

set_option maxRecDepth 16384

noncomputable section

namespace Cert.Proof.Conv

open Idealize.ShloMosaic Idealize.ShloMosaic.TcCoe Idealize.ShloMosaic.Tactic Idealize.SL.Sem
open Idealize.ShloMosaic.Pipeline (Dat)
open Cert.ConvIdeal Cert.ConvIdeal.Gen

/-- The zero offset as the function it is. -/
theorem hz2 : (![0, 0] : Fin 2 → Nat) = fun _ => 0 := funext fun a => by fin_cases a <;> rfl

/-- A table of extended reals read at two numbers, zero outside. -/
def at2 {a b : ℕ} (f : Fin a → Fin b → EReal) (p q : ℕ) : EReal := if h : p < a ∧ q < b then f ⟨p, h.1⟩ ⟨q, h.2⟩ else 0

/-- Inside, the table is the function. -/
theorem at2_lt {a b : ℕ} (f : Fin a → Fin b → EReal) (p : Fin a) (q : Fin b) : at2 f p.val q.val = f p q :=
  dif_pos ⟨p.isLt, q.isLt⟩

/-- The partial sums of `f` begun at `a`. -/
def chain (a : EReal) (f : ℕ → EReal) : ℕ → EReal
  | 0 => a
  | n + 1 => chain a f n + f n

/-- The first term may be added last. -/
theorem chain_eq (a : EReal) (f : ℕ → EReal) (n : ℕ) : chain a f n = chain 0 f n + a := by
  induction n with
  | zero => exact (zero_add a).symm
  | succ n ih => show chain a f n + f n = chain 0 f n + f n + a; rw [ih, add_assoc, add_assoc, add_comm a]

/-- Equal terms have equal partial sums. -/
theorem chain_congr (a : EReal) {f g : ℕ → EReal} (n : ℕ) (h : ∀ j < n, f j = g j) : chain a f n = chain a g n := by
  induction n with
  | zero => rfl
  | succ n ih => show chain a f n + f n = chain a g n + g n; rw [ih fun j hj => h j (by omega), h n (by omega)]

/-- `a * sigmoid b` as the kernel computes it. -/
def gate (a b : EReal) : EReal := a * Ideal.div 1 (1 + Ideal.exp (0 - b))

/-- The block's gated rows. -/
theorem pay2_apply (x0 : Vec Ideal S256x2048 .bf16) (r : Fin 256) (d : Fin 1024) :
    k0_pay2 x0 (ix2 r d) = gate (x0 (ix2 r (⟨d.val, by omega⟩ : Fin 2048))) (x0 (ix2 r (⟨1024 + d.val, by omega⟩ : Fin 2048))) := by
  unfold gate
  pointwise [k0_pay2]

/-- The halo's gated rows, zero at a sequence's first block. -/
theorem pay3_apply (i : grid0.Coords) (x1 : Vec Ideal S32x2048 .bf16) (r : Fin 32) (d : Fin 1024) :
    k0_pay3 i x1 (ix2 r d) = if (i 1).val = 0 then 0 else gate (x1 (ix2 r (⟨d.val, by omega⟩ : Fin 2048))) (x1 (ix2 r (⟨1024 + d.val, by omega⟩ : Fin 2048))) := by
  unfold gate
  pointwise [k0_pay3]
  have hi : (i 1).val < 16 := (i 1).isLt
  by_cases h : (i 1).val = 0
  · rw [if_pos h, h]; rfl
  · rw [if_neg h]
    have hb : BitVec.ofNat 32 (i 1).val ≠ 0#32 := fun hc => h (by
      have := congrArg BitVec.toNat hc
      simp only [BitVec.toNat_ofNat] at this
      omega)
    have hs : Scalar.cmpi CmpIPredicate.eq (BitVec.ofNat 32 (i 1).val) 0#32 = 0#1 := by
      show BitVec.ofBool (BitVec.ofNat 32 (i 1).val == 0#32) = 0#1
      rw [beq_eq_false_iff_ne.mpr hb]; rfl
    rw [hs]; rfl

/-- The gated rows a block's convolution reads: the 32 rows before the block, then its own 256. -/
def uTab (i : grid0.Coords) (x0 : Vec Ideal S256x2048 .bf16) (x1 : Vec Ideal S32x2048 .bf16) : Vec Ideal S288x1024 .f32 := fun q =>
  if h : (q 0).val < 32 then k0_pay3 i x1 (ix2 ⟨(q 0).val, h⟩ (q 1)) else k0_pay2 x0 (ix2 (⟨(q 0).val - 32, by have : (q 0).val < 288 := (q 0).isLt; omega⟩ : Fin 256) (q 1))

/-- The two pieces stored in the scratch are the gated rows. -/
theorem u_canon (i : grid0.Coords) (x0 : Vec Ideal S256x2048 .bf16) (x1 : Vec Ideal S32x2048 .bf16) :
    View.canon [(⟨Rect.unit (s := S288x1024) ![0, 0] S32x1024.size inb_S288x1024_S32x1024_0_0, k0_pay3 i x1⟩ : View.Piece (Elt Ideal) S288x1024 .f32),
      ⟨Rect.unit (s := S288x1024) ![32, 0] S256x1024.size inb_S288x1024_S256x1024_32_0, k0_pay2 x0⟩] = uTab i x0 x1 := by
  funext y
  have hy0 : (y 0).val < 288 := (y 0).isLt
  have hy1 : (y 1).val < 1024 := (y 1).isLt
  refine View.canon_eq_of_allAt _ y _ ?_ ?_
  · by_cases h : (y 0).val < 32
    · refine ⟨_, List.mem_cons_self, ?_⟩
      rw [Rect.mem_set_unit]
      intro a
      match a with
      | ⟨0, _⟩ => show 0 ≤ (y 0).val ∧ (y 0).val < 0 + 32; omega
      | ⟨1, _⟩ => show 0 ≤ (y 1).val ∧ (y 1).val < 0 + 1024; omega
    · refine ⟨_, List.mem_cons_of_mem _ List.mem_cons_self, ?_⟩
      rw [Rect.mem_set_unit]
      intro a
      match a with
      | ⟨0, _⟩ => show 32 ≤ (y 0).val ∧ (y 0).val < 32 + 256; omega
      | ⟨1, _⟩ => show 0 ≤ (y 1).val ∧ (y 1).val < 0 + 1024; omega
  · refine View.allAt_cons_unit _ _ _ _ _ ?_ (View.allAt_cons_unit _ _ _ _ _ ?_ (View.allAt_nil _ _))
    · intro x hx
      have hx0 : (x 0).val < 32 := (x 0).isLt
      have h0 : (y 0).val = 0 + (x 0).val := hx 0
      have h1 : (y 1).val = 0 + (x 1).val := hx 1
      unfold uTab
      rw [dif_pos (by omega)]
      congr 1
      funext a
      apply Fin.ext
      match a with
      | ⟨0, _⟩ => show (x 0).val = (y 0).val; omega
      | ⟨1, _⟩ => show (x 1).val = (y 1).val; omega
    · intro x hx
      have hx0 : (x 0).val < 256 := (x 0).isLt
      have h0 : (y 0).val = 32 + (x 0).val := hx 0
      have h1 : (y 1).val = 0 + (x 1).val := hx 1
      unfold uTab
      rw [dif_neg (by omega)]
      congr 1
      funext a
      apply Fin.ext
      match a with
      | ⟨0, _⟩ => show (x 0).val = (y 0).val - 32; omega
      | ⟨1, _⟩ => show (x 1).val = (y 1).val; omega

/-- Rows of the scratch read after the two stores. -/
theorem u_read (arg9 : Memref sig .tc .vmem S288x1024 .f32) (i : grid0.Coords) (x0 : Vec Ideal S256x2048 .bf16) (x1 : Vec Ideal S32x2048 .bf16) (B : LoadRect S288x1024) :
    arg9.view.readCov [(⟨Rect.unit (s := S288x1024) ![0, 0] ![32, 1024] inb_S288x1024_S32x1024_0_0, k0_pay3 i x1⟩ : View.Piece (Elt Ideal) S288x1024 .f32),
      ⟨Rect.unit (s := S288x1024) ![32, 0] ![256, 1024] inb_S288x1024_S256x1024_32_0, k0_pay2 x0⟩] B = fun j => uTab i x0 x1 (B.idx j) := by
  rw [View.readCov_eq_canon', u_canon]

/-- A table of a block by its two numbers. -/
def tab {a b : ℕ} (x : (⟨2, ![a, b]⟩ : Shape).Idx → EReal) : ℕ → ℕ → EReal := at2 fun p q => x (ix2 p q)

/-- An entry is the table's. -/
theorem tab_eq {a b : ℕ} (x : (⟨2, ![a, b]⟩ : Shape).Idx → EReal) (p : Fin a) (q : Fin b) : x (ix2 p q) = tab x p.val q.val :=
  (at2_lt (fun p q => x (ix2 p q)) p q).symm

/-- The convolution of a block, with its bias first. -/
def conv (U : ℕ → ℕ → EReal) (W : ℕ → ℕ → EReal) (B : ℕ → ℕ → EReal) (r d : ℕ) : EReal :=
  chain (B 0 d) (fun j => W j d * U (r + (2 + j)) d) 31

variable (c : Dev nD) (i : grid0.Coords) (arg2 : Memref sig .tc .vmem S256x2048 .bf16) (harg2 : arg2.IsWhole) (arg3 : Memref sig .tc .vmem S32x2048 .bf16) (harg3 : arg3.IsWhole) (arg4 : Memref sig .tc .vmem S31x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S288x1024 .f32) (harg9 : arg9.IsWhole) (arg10 : Memref sig .tc .vmem S256x1024 .f32) (harg10 : arg10.IsWhole)
    (x0 : Vec Ideal S256x2048 .bf16) (x1 : Vec Ideal S32x2048 .bf16) (x2 : Vec Ideal S31x1024 .f32) (x3 : Vec Ideal S1x1024 .f32) (x4 : Vec Ideal S1x1024 .f32) (x5 : Vec Ideal S1x1024 .f32)

set_option maxHeartbeats 4000000 in
/-- What a grid point stores in the output block: norm and `silu` of the convolution of the gated rows. -/
theorem out_A :
    out0_A_6 c i arg2 harg2 arg3 harg3 arg4 harg4 arg5 harg5 arg6 harg6 arg7 harg7 arg8 harg8 arg9 harg9 arg10 harg10 x0 x1 x2 x3 x4 x5
      = k0_pay1 (k0_pay120 (fun y => conv (tab (uTab i x0 x1)) (tab x2) (tab x3) (y 0).val (y 1).val) x4) x5 := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 x5)]
  unfold kernelRun0_A; dsimp only
  sl_unfold_words
  rw [View.canon_unit_zero hz2]
  have e2 : View.readAt (Elt Ideal) arg2.view (Rect.unit (s := S256x2048) ![0, 0] S256x2048.size inb_S256x2048_S256x2048_0_0).toLoadRect (harg2.unread x0) = x0 := by
    rw [View.readAt_eq_ld, harg2.read_unread, View.ld_unit_zero (S := S256x2048) hz2]
  have e3 : View.readAt (Elt Ideal) arg3.view (Rect.unit (s := S32x2048) ![0, 0] S32x2048.size inb_S32x2048_S32x2048_0_0).toLoadRect (harg3.unread x1) = x1 := by
    rw [View.readAt_eq_ld, harg3.read_unread, View.ld_unit_zero (S := S32x2048) hz2]
  have e6 : View.readAt (Elt Ideal) arg6.view (Rect.unit (s := S1x1024) ![0, 0] S1x1024.size inb_S1x1024_S1x1024_0_0).toLoadRect (harg6.unread x4) = x4 := by
    rw [View.readAt_eq_ld, harg6.read_unread, View.ld_unit_zero (S := S1x1024) hz2]
  have e7 : View.readAt (Elt Ideal) arg7.view (Rect.unit (s := S1x1024) ![0, 0] S1x1024.size inb_S1x1024_S1x1024_0_0).toLoadRect (harg7.unread x5) = x5 := by
    rw [View.readAt_eq_ld, harg7.read_unread, View.ld_unit_zero (S := S1x1024) hz2]
  rw [e2, e3, e6, e7]
  simp only [u_read, View.readAt_eq_ld, harg4.read_unread, harg5.read_unread]
  rw [View.readCov_eq_canon']
  have hidx : ∀ y : S256x1024.Idx, (Rect.unit (s := S256x1024) ![0, 0] ![256, 1024] inb_S256x1024_S256x1024_0_0).idx y = y := fun y => funext fun a => Fin.ext (by
    match a with
    | ⟨0, _⟩ => show 0 + 1 * (y 0).val = (y 0).val; omega
    | ⟨1, _⟩ => show 0 + 1 * (y 1).val = (y 1).val; omega)
  congr 2
  funext y
  refine (congrArg (View.canon _) (hidx y)).trans ?_
  canon_tiles x h
  all_goals
    obtain ⟨r, n, rfl⟩ : ∃ (r : Fin 64) (n : Fin 256), x = ix2 r n := ⟨x 0, x 1, eq_ix2 x⟩
    have g0 := by first | exact h0.trans (Nat.add_comm _ r.val) | exact h0
    rw [conv, g0, h1]
    pointwise [k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119]
    simp only [tab_eq x2, tab_eq x3, tab_eq (uTab i x0 x1), Nat.add_comm _ r.val]
    rfl

end Cert.Proof.Conv

end
-- ==== Proof.Conv.lean ====
module

public import proofs.«01_k».proof.Defs
public import proofs.«01_k».proof.Proof.ConvPay
public import proofs.«01_k».proof.Proof.Gen.ConvRefIdeal.Read
public import Idealize.ShloMosaic.Lib.KernelVsHost
import Idealize.ShloMosaic.Lib.Pointwise
public import Idealize.ShloMosaic.Lib.Pipeline.ValueKit.Tiles
public import Idealize.ShloMosaic.Lib.StableHlo.ReadAt
public import Idealize.ShloMosaic.Lib.IdealHost
public import Idealize.ShloMosaic.Lib.Claim

@[expose] public section

set_option maxRecDepth 16384

noncomputable section

namespace Cert.Proof.Conv

open Idealize.ShloMosaic Idealize.ShloMosaic.TcCoe Idealize.ShloMosaic.Tactic Idealize.SL.Sem
open Idealize.ShloMosaic.Pipeline (Dat)
open Cert.ConvIdeal Cert.ConvIdeal.Gen

variable (m : (ℓ : Loc nD τ sig) → Buf (Elt Ideal) ℓ) (ρ : Dev nD → PrngReg)

/-- An array of three axes by three numbers. -/
def tab3 {a b n : ℕ} (x : (⟨3, ![a, b, n]⟩ : Shape).Idx → EReal) (p : Fin a) : ℕ → ℕ → EReal := at2 fun q r => x (ix3 p q r)

/-- An entry is the table's. -/
theorem tab3_eq {a b n : ℕ} (x : (⟨3, ![a, b, n]⟩ : Shape).Idx → EReal) (p : Fin a) (q : Fin b) (r : Fin n) : x (ix3 p q r) = tab3 x p q.val r.val :=
  (at2_lt (fun q r => x (ix3 p q r)) q r).symm

/-- A vector by a number. -/
def tab1 {a : ℕ} (x : (⟨1, ![a]⟩ : Shape).Idx → EReal) : ℕ → EReal := fun p => if h : p < a then x (ix1 ⟨p, h⟩) else 0

/-- An entry is the vector's. -/
theorem tab1_eq {a : ℕ} (x : (⟨1, ![a]⟩ : Shape).Idx → EReal) (p : Fin a) : x (ix1 p) = tab1 x p.val := by
  unfold tab1; rw [dif_pos p.isLt]

/-- A row's layer norm with its gain and bias, then `y * sigmoid y`. -/
def norm (v g b : ℕ → EReal) (d : ℕ) : EReal :=
  ((v d - Ideal.div (∑ q : Fin 1024, v q.val) (Ideal.ofBits .f32 0x44800000#32))
      * Ideal.rsqrt (Ideal.div (∑ q : Fin 1024, (v q.val - Ideal.div (∑ q : Fin 1024, v q.val) (Ideal.ofBits .f32 0x44800000#32)) * (v q.val - Ideal.div (∑ q : Fin 1024, v q.val) (Ideal.ofBits .f32 0x44800000#32))) (Ideal.ofBits .f32 0x44800000#32) + Ideal.ofBits .f32 0x358637BD#32)
      * g d + b d)
    * Ideal.div 1 (1 + Ideal.exp (0 - ((v d - Ideal.div (∑ q : Fin 1024, v q.val) (Ideal.ofBits .f32 0x44800000#32))
      * Ideal.rsqrt (Ideal.div (∑ q : Fin 1024, (v q.val - Ideal.div (∑ q : Fin 1024, v q.val) (Ideal.ofBits .f32 0x44800000#32)) * (v q.val - Ideal.div (∑ q : Fin 1024, v q.val) (Ideal.ofBits .f32 0x44800000#32))) (Ideal.ofBits .f32 0x44800000#32) + Ideal.ofBits .f32 0x358637BD#32)
      * g d + b d)))

/-- The norm of equal rows. -/
theorem norm_congr {v w g g' b b' : ℕ → EReal} (d : Fin 1024) (hv : ∀ q : Fin 1024, v q.val = w q.val) (hg : g d.val = g' d.val) (hb : b d.val = b' d.val) :
    norm v g b d.val = norm w g' b' d.val := by
  unfold norm
  simp only [hv, hg, hb]

/-- The reference's negation is the kernel's difference from zero. -/
theorem neg_eq (x : EReal) : -x = 0 - x := (zero_sub x).symm

/-- The gated rows of batch `b` behind 30 rows of zeros. -/
def pads (a0 : FVec Ideal S32768x15360 .bf16) (b s d : ℕ) : EReal :=
  if s < 30 then 0 else gate (tab a0 (b * 4096 + (s - 30)) d) (tab a0 (b * 4096 + (s - 30)) (1024 + d))

/-- The convolution with its bias at row `s` of batch `b`. -/
def row (a0 : FVec Ideal S32768x15360 .bf16) (a1 : FVec Ideal S31x1024 .f32) (a2 : FVec Ideal S1024 .f32) (b s d : ℕ) : EReal :=
  chain (tab1 a2 d) (fun j => tab a1 j d * pads a0 b (s + j) d) 31

/-- The convolution branch as one function of the arguments. -/
def G (a0 : FVec Ideal S32768x15360 .bf16) (a1 : FVec Ideal S31x1024 .f32) (a2 a3 a4 : FVec Ideal S1024 .f32) : FVec Ideal S32768x1024 .bf16 := fun i =>
  norm (row a0 a1 a2 ((i 0).val / 4096) ((i 0).val % 4096)) (tab1 a3) (tab1 a4) (i 1).val

/-- The block's result at an index. -/
theorem pay_apply (v : FVec Ideal S256x1024 .f32) (x4 x5 : Vec Ideal S1x1024 .f32) (r : Fin 256) (d : Fin 1024) :
    k0_pay1 (k0_pay120 v x4) x5 (ix2 r d) = norm (tab v r.val) (tab x4 0) (tab x5 0) d.val := by
  pointwise [k0_pay1, k0_pay120]
  simp only [tab_eq v, tab_eq x4, tab_eq x5]
  rfl

/-- The block index of each window at grid point `t`, and the point's second coordinate. -/
theorem idx_facts : ∀ t : Fin cfg0.N,
    win0_0.index t 0 = t.val ∧ win0_0.index t 1 = 0 ∧ win0_1.index t 0 = t.val * 8 - 1 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = t.val ∧ win0_6.index t 1 = 0 ∧ (grid0.coords t 1).val = t.val % 16 :=
  (by decide +kernel : ∀ t : Fin grid0.N,
    win0_0.index t 0 = t.val ∧ win0_0.index t 1 = 0 ∧ win0_1.index t 0 = t.val * 8 - 1 ∧ win0_1.index t 1 = 0
    ∧ win0_2.index t 0 = 0 ∧ win0_2.index t 1 = 0 ∧ win0_3.index t 0 = 0 ∧ win0_3.index t 1 = 0
    ∧ win0_4.index t 0 = 0 ∧ win0_4.index t 1 = 0 ∧ win0_5.index t 0 = 0 ∧ win0_5.index t 1 = 0
    ∧ win0_6.index t 0 = t.val ∧ win0_6.index t 1 = 0 ∧ (grid0.coords t 1).val = t.val % 16)

/-- Block `t` of the rows, in the columns the branch reads. -/
theorem blk0 (c : Dev nD) (t : Fin cfg0.N) (r : Fin 256) (k : Fin 2048) :
    (X0_0 m c t : Vec Ideal S256x2048 .bf16) (ix2 r k) = tab (m ((c : Thread nD τ).loc main_arg0) : FVec Ideal S32768x15360 .bf16) (t.val * 256 + r.val) k.val := by
  have hf := idx_facts t
  have ht : t.val < 128 := t.isLt
  have hr := r.isLt
  have hk := k.isLt
  obtain ⟨R, hR⟩ : ∃ R : Fin 32768, R.val = t.val * 256 + r.val := ⟨⟨_, by omega⟩, rfl⟩
  obtain ⟨K, hK⟩ : ∃ K : Fin 15360, K.val = k.val := ⟨⟨k.val, lt_trans k.isLt (by decide)⟩, rfl⟩
  rw [← hR, ← hK, ← tab_eq]
  unfold X0_0 Pipeline.Window.fill
  rw [dif_pos (moved0_0 t _)]
  unfold iblk
  rw [View.read_apply]
  show V m c main_arg0 _ = m (c.tc.loc main_arg0) _
  rw [V_main_arg0]
  congr 1
  funext a
  apply Fin.ext
  match a with
  | ⟨0, _⟩ => show win0_0.index t 0 * 256 + 1 * r.val = R.val; omega
  | ⟨1, _⟩ => show win0_0.index t 1 * 2048 + 1 * k.val = K.val; omega

/-- The 32 rows the halo window reads at point `t`. -/
theorem blk1 (c : Dev nD) (t : Fin cfg0.N) (r : Fin 32) (k : Fin 2048) :
    (X0_1 m c t : Vec Ideal S32x2048 .bf16) (ix2 r k) = tab (m ((c : Thread nD τ).loc main_arg0) : FVec Ideal S32768x15360 .bf16) ((t.val * 8 - 1) * 32 + r.val) k.val := by
  have hf := idx_facts t
  have ht : t.val < 128 := t.isLt
  have hr := r.isLt
  have hk := k.isLt
  obtain ⟨R, hR⟩ : ∃ R : Fin 32768, R.val = (t.val * 8 - 1) * 32 + r.val := ⟨⟨_, by omega⟩, rfl⟩
  obtain ⟨K, hK⟩ : ∃ K : Fin 15360, K.val = k.val := ⟨⟨k.val, lt_trans k.isLt (by decide)⟩, rfl⟩
  rw [← hR, ← hK, ← tab_eq]
  unfold X0_1 Pipeline.Window.fill
  rw [dif_pos (moved0_1 t _)]
  unfold iblk
  rw [View.read_apply]
  show V m c main_arg0 _ = m (c.tc.loc main_arg0) _
  rw [V_main_arg0]
  congr 1
  funext a
  apply Fin.ext
  match a with
  | ⟨0, _⟩ => show win0_1.index t 0 * 32 + 1 * r.val = R.val; omega
  | ⟨1, _⟩ => show win0_1.index t 1 * 2048 + 1 * k.val = K.val; omega

/-- The weights' block, whole at every point. -/
theorem blk2 (c : Dev nD) (t : Fin cfg0.N) (j : Fin 31) (d : Fin 1024) :
    (iblk m c 2 t : Vec Ideal S31x1024 .f32) (ix2 j d) = (m ((c : Thread nD τ).loc main_arg1) : FVec Ideal S31x1024 .f32) (ix2 j d) := by
  have hf := idx_facts t
  unfold iblk
  rw [View.read_apply]
  show V m c main_arg1 _ = m (c.tc.loc main_arg1) _
  rw [V_main_arg1]
  congr 1
  funext a
  apply Fin.ext
  match a with
  | ⟨0, _⟩ => show win0_2.index t 0 * 31 + 1 * j.val = j.val; omega
  | ⟨1, _⟩ => show win0_2.index t 1 * 1024 + 1 * d.val = d.val; omega

/-- The convolution's bias as the call receives it. -/
theorem V_row0 (c : Dev nD) (d : Fin 1024) : (V m c main_v0 : FVec Ideal S1x1024 .f32) (ix2 (0 : Fin 1) d) = (m ((c : Thread nD τ).loc main_arg2) : FVec Ideal S1024 .f32) (ix1 d) := by
  show StableHlo.after hostOps0 (fun b => m (c, b)) (main_v0 : DevRef τ sig) (ix2 (0 : Fin 1) d) = _
  after_reads_at

/-- Its block, whole at every point. -/
theorem blk3 (c : Dev nD) (t : Fin cfg0.N) (d : Fin 1024) :
    (iblk m c 3 t : Vec Ideal S1x1024 .f32) (ix2 (0 : Fin 1) d) = (m ((c : Thread nD τ).loc main_arg2) : FVec Ideal S1024 .f32) (ix1 d) := by
  have hf := idx_facts t
  refine Eq.trans ?_ (V_row0 m c d)
  unfold iblk
  rw [View.read_apply]
  show V m c main_v0 _ = V m c main_v0 _
  congr 1
  funext a
  apply Fin.ext
  match a with
  | ⟨0, _⟩ => show win0_3.index t 0 * 1 + 1 * 0 = 0; omega
  | ⟨1, _⟩ => show win0_3.index t 1 * 1024 + 1 * d.val = d.val; omega

/-- The norm's gain as the call receives it. -/
theorem V_row1 (c : Dev nD) (d : Fin 1024) : (V m c main_v1 : FVec Ideal S1x1024 .f32) (ix2 (0 : Fin 1) d) = (m ((c : Thread nD τ).loc main_arg3) : FVec Ideal S1024 .f32) (ix1 d) := by
  show StableHlo.after hostOps0 (fun b => m (c, b)) (main_v1 : DevRef τ sig) (ix2 (0 : Fin 1) d) = _
  after_reads_at

/-- Its block, whole at every point. -/
theorem blk4 (c : Dev nD) (t : Fin cfg0.N) (d : Fin 1024) :
    (iblk m c 4 t : Vec Ideal S1x1024 .f32) (ix2 (0 : Fin 1) d) = (m ((c : Thread nD τ).loc main_arg3) : FVec Ideal S1024 .f32) (ix1 d) := by
  have hf := idx_facts t
  refine Eq.trans ?_ (V_row1 m c d)
  unfold iblk
  rw [View.read_apply]
  show V m c main_v1 _ = V m c main_v1 _
  congr 1
  funext a
  apply Fin.ext
  match a with
  | ⟨0, _⟩ => show win0_4.index t 0 * 1 + 1 * 0 = 0; omega
  | ⟨1, _⟩ => show win0_4.index t 1 * 1024 + 1 * d.val = d.val; omega

/-- The norm's bias as the call receives it. -/
theorem V_row2 (c : Dev nD) (d : Fin 1024) : (V m c main_v2 : FVec Ideal S1x1024 .f32) (ix2 (0 : Fin 1) d) = (m ((c : Thread nD τ).loc main_arg4) : FVec Ideal S1024 .f32) (ix1 d) := by
  show StableHlo.after hostOps0 (fun b => m (c, b)) (main_v2 : DevRef τ sig) (ix2 (0 : Fin 1) d) = _
  after_reads_at

/-- Its block, whole at every point. -/
theorem blk5 (c : Dev nD) (t : Fin cfg0.N) (d : Fin 1024) :
    (iblk m c 5 t : Vec Ideal S1x1024 .f32) (ix2 (0 : Fin 1) d) = (m ((c : Thread nD τ).loc main_arg4) : FVec Ideal S1024 .f32) (ix1 d) := by
  have hf := idx_facts t
  refine Eq.trans ?_ (V_row2 m c d)
  unfold iblk
  rw [View.read_apply]
  show V m c main_v2 _ = V m c main_v2 _
  congr 1
  funext a
  apply Fin.ext
  match a with
  | ⟨0, _⟩ => show win0_5.index t 0 * 1 + 1 * 0 = 0; omega
  | ⟨1, _⟩ => show win0_5.index t 1 * 1024 + 1 * d.val = d.val; omega

/-- The rows the block's convolution reads are the padded rows of its batch. -/
theorem u_eq (c : Dev nD) (t : Fin cfg0.N) (p : ℕ) (hp : p < 286) (d : Fin 1024) :
    tab (uTab (grid0.coords t) (X0_0 m c t) (X0_1 m c t)) (p + 2) d.val
      = pads (m ((c : Thread nD τ).loc main_arg0)) (t.val / 16) (t.val % 16 * 256 + p) d.val := by
  have hf := idx_facts t
  have ht : t.val < 128 := t.isLt
  have hd := d.isLt
  obtain ⟨P, hP⟩ : ∃ P : Fin 288, P.val = p + 2 := ⟨⟨_, by omega⟩, rfl⟩
  rw [← hP, ← tab_eq]
  unfold uTab pads
  by_cases h : P.val < 32
  · rw [dif_pos (show (ix2 P d 0).val < 32 from h)]
    refine (pay3_apply _ _ ⟨P.val, h⟩ d).trans ?_
    rw [blk1, blk1]
    by_cases h0 : t.val % 16 = 0
    · rw [if_pos (by omega), if_pos (by omega)]
    · rw [if_neg (by omega), if_neg (by omega)]
      show gate (tab _ ((t.val * 8 - 1) * 32 + P.val) d.val) (tab _ ((t.val * 8 - 1) * 32 + P.val) (1024 + d.val)) = _
      rw [show (t.val * 8 - 1) * 32 + P.val = t.val / 16 * 4096 + (t.val % 16 * 256 + p - 30) by omega]
  · rw [dif_neg (show ¬ (ix2 P d 0).val < 32 from h), if_neg (by omega)]
    refine (pay2_apply _ ⟨P.val - 32, by omega⟩ d).trans ?_
    rw [blk0, blk0]
    show gate (tab _ (t.val * 256 + (P.val - 32)) d.val) (tab _ (t.val * 256 + (P.val - 32)) (1024 + d.val)) = _
    rw [show t.val * 256 + (P.val - 32) = t.val / 16 * 4096 + (t.val % 16 * 256 + p - 30) by omega]

/-- `G` of the arguments a memory holds. -/
abbrev result (c : Dev nD) : FVec Ideal S32768x1024 .bf16 :=
  G (m ((c : Thread nD τ).loc main_arg0)) (m ((c : Thread nD τ).loc main_arg1)) (m ((c : Thread nD τ).loc main_arg2)) (m ((c : Thread nD τ).loc main_arg3)) (m ((c : Thread nD τ).loc main_arg4))

/-- What point `t` writes back is block `t` of `G`. -/
theorem flushed_eq (c : Dev nD) (t : Fin cfg0.N) :
    (dats m 0 c).flushed 6 t = ((cfg0.win 6).blk t).view.read (Elt Ideal) (result m c) := by
  rw [Value.flushed6_A, out_A]
  funext j
  obtain ⟨r, n, rfl⟩ : ∃ (r : Fin 256) (n : Fin 1024), j = ix2 r n := ⟨j 0, j 1, eq_ix2 j⟩
  have hf := idx_facts t
  have ht : t.val < 128 := t.isLt
  have hr : r.val < 256 := r.isLt
  obtain ⟨R, hR⟩ : ∃ R : Fin 32768, R.val = t.val * 256 + r.val := ⟨⟨_, by omega⟩, rfl⟩
  have e : ((cfg0.win 6).blk t).view.read (Elt Ideal) (result m c) (ix2 r n) = result m c (ix2 R n) := by
    rw [View.read_apply]
    show result m c _ = _
    congr 1
    funext a
    apply Fin.ext
    match a with
    | ⟨0, _⟩ => show win0_6.index t 0 * 256 + 1 * r.val = R.val; omega
    | ⟨1, _⟩ => show win0_6.index t 1 * 1024 + 1 * n.val = n.val; omega
  rw [e]
  refine (pay_apply _ _ _ r n).trans ?_
  show _ = norm (row _ _ _ (R.val / 4096) (R.val % 4096)) (tab1 _) (tab1 _) n.val
  refine norm_congr n (fun q => ?_) ?_ ?_
  · refine (tab_eq _ r q).symm.trans ?_
    show conv _ _ _ r.val q.val = _
    unfold conv row
    rw [show tab (iblk m c 3 t : Vec Ideal S1x1024 .f32) 0 q.val = tab1 (m ((c : Thread nD τ).loc main_arg2) : FVec Ideal S1024 .f32) q.val from
      (tab_eq _ (0 : Fin 1) q).symm.trans ((blk3 m c t q).trans (tab1_eq _ q))]
    refine chain_congr _ 31 fun j hj => ?_
    have ew : tab (iblk m c 2 t : Vec Ideal S31x1024 .f32) j q.val = tab (m ((c : Thread nD τ).loc main_arg1) : FVec Ideal S31x1024 .f32) j q.val :=
      (tab_eq _ (⟨j, hj⟩ : Fin 31) q).symm.trans ((blk2 m c t ⟨j, hj⟩ q).trans (tab_eq _ (⟨j, hj⟩ : Fin 31) q))
    have eu := u_eq m c t (r.val + j) (by omega) q
    rw [show r.val + (2 + j) = r.val + j + 2 by omega, ew, eu, show R.val / 4096 = t.val / 16 by omega, show R.val % 4096 + j = t.val % 16 * 256 + (r.val + j) by omega]
  · exact (tab_eq _ (0 : Fin 1) n).symm.trans ((blk4 m c t n).trans (tab1_eq _ n))
  · exact (tab_eq _ (0 : Fin 1) n).symm.trans ((blk5 m c t n).trans (tab1_eq _ n))

/-- The result array holds `G` of the arguments: the blocks tile it. -/
theorem final (c : Dev nD) : (dats m 0 c).arrAt 6 cfg0.N = result m c :=
  (dats m 0 c).arrAt_eq_of_cover 6 (result m c) (fun t _ => flushed_eq m c t) fun i => by
    have h0 : (i 0 : Nat) < 32768 := (i 0).isLt
    have h1 : (i 1 : Nat) < 1024 := (i 1).isLt
    refine ⟨⟨(i 0).val / 256, by show _ < 128; omega⟩, flush0_6 _, ?_⟩
    generalize ht : (⟨(i 0).val / 256, _⟩ : Fin cfg0.N) = t
    have htv : t.val = (i 0).val / 256 := by rw [← ht]
    have hf := idx_facts t
    show i ∈ ((View.whole main_v3).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + 256; omega
    | ⟨1, _⟩ => show win0_6.index t 1 * 1024 ≤ (i 1 : Nat) ∧ (i 1 : Nat) < win0_6.index t 1 * 1024 + 1024; omega

open Cert.ConvRefIdeal.Read in
set_option maxHeartbeats 4000000 in
/-- The reference's convolution with its bias, over its padded rows. -/
theorem ref_conv (a0 : FVec Ideal S32768x15360 .bf16) (a1 : FVec Ideal S31x1024 .f32) (a2 : FVec Ideal S1024 .f32) (b : Fin 8) (s : Fin 4096) (d : Fin 1024) :
    val_main_v233 (F := Ideal) a0 a1 a2 (ix3 b s d)
      = chain 0 (fun j => tab a1 j d.val * tab3 (val_main_v12 (F := Ideal) a0) b (s.val + j) d.val) 31 + a2 (ix1 d) := by
  pointwise [val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_cst_1]
  simp only [tab_eq a1, tab3_eq (val_main_v12 (F := Ideal) a0), Nat.add_comm _ s.val, chain, zero_add]
  rfl

open Cert.ConvRefIdeal.Read in
/-- The reference's gated rows. -/
theorem ref_u (a0 : FVec Ideal S32768x15360 .bf16) (b : Fin 8) (s : Fin 4096) (d : Fin 1024) :
    val_main_v11 (F := Ideal) a0 (ix3 b s d) = gate (tab a0 (b.val * 4096 + s.val) d.val) (tab a0 (b.val * 4096 + s.val) (1024 + d.val)) := by
  unfold gate
  pointwise [val_main_v0, val_main_v1, val_main_v2, val_main_v3, val_main_v4, val_main_v5, val_main_v6, val_main_v7, val_main_v8, val_main_v9, val_main_v10, val_main_v11, val_main_cst, val_main_cst_0]
  simp only [tab_eq a0, neg_eq]

open Cert.ConvRefIdeal.Read in
/-- The reference's padded rows. -/
theorem ref_pads (a0 : FVec Ideal S32768x15360 .bf16) (b : Fin 8) (s : Fin 4126) (d : Fin 1024) :
    val_main_v12 (F := Ideal) a0 (ix3 b s d) = pads a0 b.val s.val d.val := by
  have hs := s.isLt
  unfold val_main_v12 pads
  by_cases h : s.val < 30
  · rw [if_pos h]
    refine (pad_apply_of_not_inside _ _ _ _ _ _ _ _ (1 : Fin 3) (fun hc => ?_)).trans ?_
    · have h1 : 30 ≤ s.val := hc.1
      omega
    · rw [val_main_call0_v0_apply, val_main_c_apply]
      show (((0#32 : BitVec 32).toInt : ℝ) : EReal) = 0
      simp
  · rw [if_neg h]
    refine (pad_apply_of_inside _ _ _ _ _ _ _ _ (ix3 b (⟨s.val - 30, by omega⟩ : Fin 4096) d) (fun a => ?_)).trans (ref_u a0 b _ d)
    match a with
    | ⟨0, _⟩ => show b.val = 0 + b.val * (0 + 1); omega
    | ⟨1, _⟩ => show s.val = 30 + (s.val - 30) * (0 + 1); omega
    | ⟨2, _⟩ => show d.val = 0 + d.val * (0 + 1); omega

open Cert.ConvRefIdeal.Read in
/-- The reference's convolution is that of the padded rows. -/
theorem ref_row (a0 : FVec Ideal S32768x15360 .bf16) (a1 : FVec Ideal S31x1024 .f32) (a2 : FVec Ideal S1024 .f32) (b : Fin 8) (s : Fin 4096) (d : Fin 1024) :
    val_main_v233 (F := Ideal) a0 a1 a2 (ix3 b s d) = row a0 a1 a2 b.val s.val d.val := by
  have hs := s.isLt
  rw [ref_conv]
  unfold row
  rw [chain_eq (tab1 a2 d.val), tab1_eq a2 d]
  congr 1
  refine chain_congr _ 31 fun j hj => ?_
  rw [show tab3 (val_main_v12 (F := Ideal) a0) b (s.val + j) d.val = pads a0 b.val (s.val + j) d.val from
    (tab3_eq _ b (⟨s.val + j, by omega⟩ : Fin 4126) d).symm.trans (ref_pads a0 b ⟨s.val + j, by omega⟩ d)]

open Cert.ConvRefIdeal.Read in
/-- The reference's composed term is `G` of the arguments. -/
theorem ref_eq (a0 : FVec Ideal S32768x15360 .bf16) (a1 : FVec Ideal S31x1024 .f32) (a2 a3 a4 : FVec Ideal S1024 .f32) :
    val_main_v258 (F := Ideal) a0 a1 a2 a3 a4 = G a0 a1 a2 a3 a4 := by
  funext i
  obtain ⟨R, n, rfl⟩ : ∃ (R : Fin 32768) (n : Fin 1024), i = ix2 R n := ⟨i 0, i 1, eq_ix2 i⟩
  show _ = norm (row a0 a1 a2 (R.val / 4096) (R.val % 4096)) (tab1 a3) (tab1 a4) n.val
  pointwise [val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_v257, val_main_v258, val_main_call1_v0, val_main_call1_v1, val_main_call1_v2, val_main_call1_v3, val_main_call1_v4, val_main_call1_v5, val_main_call1_cst, val_main_call1_cst_0, val_main_cst_2, val_main_cst_3, val_main_cst_4, val_main_cst_5, val_main_cst_6]
  simp only [ref_row, tab1_eq a3, tab1_eq a4, neg_eq]
  rfl

/-- The convolution branch and its reference, over the extended reals: both end with `G` of the arguments. -/
theorem algebraic : Cert.algebraic_ConvIdeal_ConvRefIdeal (hConvIdeal := Cert.ConvIdeal.Gen.facts)
    (hConvRefIdeal := Cert.ConvRefIdeal.Gen.facts) := by
  intro m g m' g' _ hm
  refine ⟨result m, ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.ConvRefIdeal.Value.run (F := Ideal) m' g')
    obtain ⟨h0, h1, h2, h3, h4⟩ := hm c
    refine (Cert.ConvRefIdeal.Read.val_main_v258_eq (F := Ideal) (StableHlo.launchContents m' c)).trans ((ref_eq _ _ _ _ _).trans ?_)
    show G (m' ((c.tc : Thread Cert.ConvRefIdeal.nD Cert.ConvRefIdeal.τ).loc Cert.ConvRefIdeal.main_arg0)) (m' ((c.tc : Thread Cert.ConvRefIdeal.nD Cert.ConvRefIdeal.τ).loc Cert.ConvRefIdeal.main_arg1)) (m' ((c.tc : Thread Cert.ConvRefIdeal.nD Cert.ConvRefIdeal.τ).loc Cert.ConvRefIdeal.main_arg2)) (m' ((c.tc : Thread Cert.ConvRefIdeal.nD Cert.ConvRefIdeal.τ).loc Cert.ConvRefIdeal.main_arg3)) (m' ((c.tc : Thread Cert.ConvRefIdeal.nD Cert.ConvRefIdeal.τ).loc Cert.ConvRefIdeal.main_arg4)) = _
    rw [h0, h1, h2, h3, h4]

end Cert.Proof.Conv

end
-- ==== Proof.lean ====
/- The claims' proof, assembled: the programs' side conditions, their frames, and the value claims of the eight calls. -/
module

public import proofs.«01_k».proof.Defs
public import proofs.«01_k».proof.Proof.Gen.Attn.Frame
public import proofs.«01_k».proof.Proof.Gen.AttnIdeal.Frame
public import proofs.«01_k».proof.Proof.Gen.AttnIdeal.Value
public import proofs.«01_k».proof.Proof.Gen.AttnRefIdeal.Run
public import proofs.«01_k».proof.Proof.Gen.AttnRefIdeal.Read
public import proofs.«01_k».proof.Proof.Attn
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.InProj
public import proofs.«01_k».proof.Proof.Gen.Merge.Frame
public import proofs.«01_k».proof.Proof.Gen.MergeIdeal.Frame
public import proofs.«01_k».proof.Proof.Gen.MergeIdeal.Value
public import proofs.«01_k».proof.Proof.Gen.MergeRefIdeal.Run
public import proofs.«01_k».proof.Proof.Gen.MergeRefIdeal.Read
public import proofs.«01_k».proof.Proof.Merge
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.OutProj
public import proofs.«01_k».proof.Proof.Gen.FinalNorm.Frame
public import proofs.«01_k».proof.Proof.Gen.FinalNormIdeal.Frame
public import proofs.«01_k».proof.Proof.Gen.FinalNormIdeal.Value
public import proofs.«01_k».proof.Proof.Gen.FinalNormRefIdeal.Run
public import proofs.«01_k».proof.Proof.Gen.FinalNormRefIdeal.Read
public import proofs.«01_k».proof.Proof.FinalNorm
public import proofs.«01_k».proof.Proof.Gen.Ada.Frame
public import proofs.«01_k».proof.Proof.Gen.AdaIdeal.Frame
public import proofs.«01_k».proof.Proof.Gen.AdaIdeal.Value
public import proofs.«01_k».proof.Proof.Gen.AdaRefIdeal.Run
public import proofs.«01_k».proof.Proof.Gen.AdaRefIdeal.Read
public import proofs.«01_k».proof.Proof.Ada
public import proofs.«01_k».proof.Proof.Gen.Rope.Frame
public import proofs.«01_k».proof.Proof.Gen.RopeIdeal.Frame
public import proofs.«01_k».proof.Proof.Gen.RopeRefIdeal.Run
public import proofs.«01_k».proof.Proof.Gen.RopeRefIdeal.Read
public import proofs.«01_k».proof.Proof.Rope
public import proofs.«01_k».proof.Proof.Gen.Conv.Frame
public import proofs.«01_k».proof.Proof.Gen.ConvIdeal.Frame
public import proofs.«01_k».proof.Proof.Gen.ConvIdeal.Value
public import proofs.«01_k».proof.Proof.Gen.ConvRefIdeal.Run
public import proofs.«01_k».proof.Proof.Gen.ConvRefIdeal.Read
public import proofs.«01_k».proof.Proof.Conv

@[expose] public section

noncomputable section

namespace Cert.Proof

open Idealize.ShloMosaic Idealize.SL.Sem

/-- Every claim: the twenty-one programs run, keep their arguments and end quiescent; each idealized kernel is its kernel's;
    and each idealized kernel ends with its reference's result. -/
theorem claim : Cert.Claim := ⟨
  Cert.Attn.Gen.facts,
  Cert.AttnIdeal.Gen.facts,
  Cert.AttnRefIdeal.Gen.facts,
  Cert.InProj.Gen.facts,
  Cert.InProjIdeal.Gen.facts,
  Cert.InProjRefIdeal.Gen.facts,
  Cert.Merge.Gen.facts,
  Cert.MergeIdeal.Gen.facts,
  Cert.MergeRefIdeal.Gen.facts,
  Cert.OutProj.Gen.facts,
  Cert.OutProjIdeal.Gen.facts,
  Cert.OutProjRefIdeal.Gen.facts,
  Cert.FinalNorm.Gen.facts,
  Cert.FinalNormIdeal.Gen.facts,
  Cert.FinalNormRefIdeal.Gen.facts,
  Cert.Ada.Gen.facts,
  Cert.AdaIdeal.Gen.facts,
  Cert.AdaRefIdeal.Gen.facts,
  Cert.Rope.Gen.facts,
  Cert.RopeIdeal.Gen.facts,
  Cert.RopeRefIdeal.Gen.facts,
  Cert.Conv.Gen.facts,
  Cert.ConvIdeal.Gen.facts,
  Cert.ConvRefIdeal.Gen.facts,
  Attn.preFacts,
  fun m ρ _ => Cert.Attn.Gen.frame m ρ,
  fun m ρ _ => Cert.AttnIdeal.Gen.frame m ρ,
  fun m ρ _ => Cert.AttnIdeal.Gen.frame m ρ,
  fun m ρ _ => (θ_run _ _ _).mono (fun r h => ⟨fun c => (h c).2, funext fun s => nomatch s.2⟩) (Cert.AttnRefIdeal.Value.run (F := Ideal) m ρ),
  fun m ρ _ => (θ_run _ _ _).mono (fun r h => ⟨fun c => (h c).2, funext fun s => nomatch s.2⟩) (Cert.AttnRefIdeal.Value.run (F := Ideal) m ρ),
  fun m ρ _ => Cert.InProj.Gen.frame m ρ,
  fun m ρ _ => Cert.InProjIdeal.Gen.frame m ρ,
  fun m ρ _ => (θ_run _ _ _).mono (fun r h => ⟨fun c => (h c).2, funext fun s => nomatch s.2⟩) (Cert.InProjRefIdeal.Value.run (F := Ideal) m ρ),
  fun m ρ _ => Cert.Merge.Gen.frame m ρ,
  fun m ρ _ => Cert.MergeIdeal.Gen.frame m ρ,
  fun m ρ _ => (θ_run _ _ _).mono (fun r h => ⟨fun c => (h c).2, funext fun s => nomatch s.2⟩) (Cert.MergeRefIdeal.Value.run (F := Ideal) m ρ),
  fun m ρ _ => Cert.OutProj.Gen.frame m ρ,
  fun m ρ _ => Cert.OutProjIdeal.Gen.frame m ρ,
  fun m ρ _ => (θ_run _ _ _).mono (fun r h => ⟨fun c => (h c).2, funext fun s => nomatch s.2⟩) (Cert.OutProjRefIdeal.Value.run (F := Ideal) m ρ),
  fun m ρ _ => Cert.FinalNorm.Gen.frame m ρ,
  fun m ρ _ => Cert.FinalNormIdeal.Gen.frame m ρ,
  fun m ρ _ => (θ_run _ _ _).mono (fun r h => ⟨fun c => (h c).2, funext fun s => nomatch s.2⟩) (Cert.FinalNormRefIdeal.Value.run (F := Ideal) m ρ),
  fun m ρ _ => Cert.Ada.Gen.frame m ρ,
  fun m ρ _ => Cert.AdaIdeal.Gen.frame m ρ,
  fun m ρ _ => (θ_run _ _ _).mono (fun r h => ⟨fun c => (h c).2, funext fun s => nomatch s.2⟩) (Cert.AdaRefIdeal.Value.run (F := Ideal) m ρ),
  fun m ρ _ => Cert.Rope.Gen.frame m ρ,
  fun m ρ _ => Cert.RopeIdeal.Gen.frame m ρ,
  fun m ρ _ => (θ_run _ _ _).mono (fun r h => ⟨fun c => (h c).2.2, funext fun s => nomatch s.2⟩) (Cert.RopeRefIdeal.Value.run (F := Ideal) m ρ),
  fun m ρ _ => Cert.Conv.Gen.frame m ρ,
  fun m ρ _ => Cert.ConvIdeal.Gen.frame m ρ,
  fun m ρ _ => (θ_run _ _ _).mono (fun r h => ⟨fun c => (h c).2, funext fun s => nomatch s.2⟩) (Cert.ConvRefIdeal.Value.run (F := Ideal) m ρ),
  IdealRules.named_const.statement Cert.AttnIdeal.κ "mask" .f32 0xF149F2CA#32 ⊥ rfl, Attn.algebraic,
  trivial, InProj.algebraic,
  trivial, Merge.algebraic,
  trivial, OutProj.algebraic,
  trivial, FinalNorm.algebraic,
  trivial, Ada.algebraic,
  trivial, Rope.algebraic,
  trivial, Conv.algebraic⟩

end Cert.Proof

end
